-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 512]⟩ ⟨2, ![8192, 512]⟩ (Layout.meshBlock [2, 4, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S2x512x128 : Shape := ⟨3, ![2, 512, 128]⟩
abbrev S2 : Shape := ⟨1, ![2]⟩
abbrev S3x2 : Shape := ⟨2, ![3, 2]⟩
abbrev S_ : Shape := ⟨0, ![]⟩
abbrev S512x128 : Shape := ⟨2, ![512, 128]⟩
abbrev S1x512x128 : Shape := ⟨3, ![1, 512, 128]⟩
abbrev S1 : Shape := ⟨1, ![1]⟩
abbrev S1x1 : Shape := ⟨2, ![1, 1]⟩
abbrev S512x512 : Shape := ⟨2, ![512, 512]⟩

abbrev nBuf : Space → Nat
  | .hbm => 2
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .local _ .vmem, ⟨0, _⟩ => ⟨S2048x512, .f32⟩
  | .local _ .vmem, ⟨1, _⟩ => ⟨S2048x512, .f32⟩
  | .local _ .vmem, ⟨2, _⟩ => ⟨S2x512x128, .f32⟩
  | .local _ .vmem, ⟨3, _⟩ => ⟨S2x512x128, .f32⟩
  | .local _ .vmem, ⟨4, _⟩ => ⟨S2x512x128, .f32⟩
  | .local _ .vmem, ⟨5, _⟩ => ⟨S2x512x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_44 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_43 : BitVec 32 := 16#32
  let v70 : BitVec 32 := Scalar.muli v2 c16_i32_43
  let v71 : BitVec 32 := Scalar.addi c0_i32_44 v70
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v26 : BitVec 32 := Scalar.subi v5 c1_i32_14
  let c4_i32_15 : BitVec 32 := 4#32
  let c0_i32_16 : BitVec 32 := 0#32
  let v27 : BitVec 1 := Scalar.cmpi .eq c4_i32_15 c0_i32_16
  let c1_i32_17 : BitVec 32 := 1#32
  let v28 : BitVec 32 := Scalar.select v27 c1_i32_17 c4_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c4_i32_45 : BitVec 32 := 4#32
  let v72 : BitVec 32 := Scalar.muli v36 c4_i32_45
  let v73 : BitVec 32 := Scalar.addi v71 v72
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_46 : BitVec 32 := 1#32
  let v74 : BitVec 32 := Scalar.muli v8 c1_i32_46
  let v75 : BitVec 32 := Scalar.addi v73 v74
  v75.toNat
def k0_dev2 (d0 : Dev nD) : Nat :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_48 : BitVec 32 := 16#32
  let v76 : BitVec 32 := Scalar.muli v2 c16_i32_48
  let v77 : BitVec 32 := Scalar.addi c0_i32_49 v76
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v37 : BitVec 32 := Scalar.addi v5 c1_i32_21
  let c4_i32_22 : BitVec 32 := 4#32
  let c0_i32_23 : BitVec 32 := 0#32
  let v38 : BitVec 1 := Scalar.cmpi .eq c4_i32_22 c0_i32_23
  let c1_i32_24 : BitVec 32 := 1#32
  let v39 : BitVec 32 := Scalar.select v38 c1_i32_24 c4_i32_22
  let v40 : BitVec 32 := Scalar.remsi v37 v39
  let c0_i32_26 : BitVec 32 := 0#32
  let v42 : BitVec 1 := Scalar.cmpi .slt v40 c0_i32_26
  let c0_i32_27 : BitVec 32 := 0#32
  let v43 : BitVec 1 := Scalar.cmpi .slt v39 c0_i32_27
  let v44 : BitVec 1 := Scalar.xori v42 v43
  let c0_i32_25 : BitVec 32 := 0#32
  let v41 : BitVec 1 := Scalar.cmpi .ne v40 c0_i32_25
  let v45 : BitVec 1 := Scalar.andi v44 v41
  let v46 : BitVec 32 := Scalar.addi v40 v39
  let v47 : BitVec 32 := Scalar.select v45 v46 v40
  let c4_i32_50 : BitVec 32 := 4#32
  let v78 : BitVec 32 := Scalar.muli v47 c4_i32_50
  let v79 : BitVec 32 := Scalar.addi v77 v78
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_51 : BitVec 32 := 1#32
  let v80 : BitVec 32 := Scalar.muli v8 c1_i32_51
  let v81 : BitVec 32 := Scalar.addi v79 v80
  v81.toNat
def k0_dev3 (d0 : Dev nD) : Nat :=
  let c0_i32_54 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_53 : BitVec 32 := 16#32
  let v82 : BitVec 32 := Scalar.muli v2 c16_i32_53
  let v83 : BitVec 32 := Scalar.addi c0_i32_54 v82
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_55 : BitVec 32 := 4#32
  let v84 : BitVec 32 := Scalar.muli v5 c4_i32_55
  let v85 : BitVec 32 := Scalar.addi v83 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_28 : BitVec 32 := 1#32
  let v48 : BitVec 32 := Scalar.subi v8 c1_i32_28
  let c4_i32_29 : BitVec 32 := 4#32
  let c0_i32_30 : BitVec 32 := 0#32
  let v49 : BitVec 1 := Scalar.cmpi .eq c4_i32_29 c0_i32_30
  let c1_i32_31 : BitVec 32 := 1#32
  let v50 : BitVec 32 := Scalar.select v49 c1_i32_31 c4_i32_29
  let v51 : BitVec 32 := Scalar.remsi v48 v50
  let c0_i32_33 : BitVec 32 := 0#32
  let v53 : BitVec 1 := Scalar.cmpi .slt v51 c0_i32_33
  let c0_i32_34 : BitVec 32 := 0#32
  let v54 : BitVec 1 := Scalar.cmpi .slt v50 c0_i32_34
  let v55 : BitVec 1 := Scalar.xori v53 v54
  let c0_i32_32 : BitVec 32 := 0#32
  let v52 : BitVec 1 := Scalar.cmpi .ne v51 c0_i32_32
  let v56 : BitVec 1 := Scalar.andi v55 v52
  let v57 : BitVec 32 := Scalar.addi v51 v50
  let v58 : BitVec 32 := Scalar.select v56 v57 v51
  let c1_i32_56 : BitVec 32 := 1#32
  let v86 : BitVec 32 := Scalar.muli v58 c1_i32_56
  let v87 : BitVec 32 := Scalar.addi v85 v86
  v87.toNat
def k0_dev4 (d0 : Dev nD) : Nat :=
  let c0_i32_59 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_58 : BitVec 32 := 16#32
  let v88 : BitVec 32 := Scalar.muli v2 c16_i32_58
  let v89 : BitVec 32 := Scalar.addi c0_i32_59 v88
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_60 : BitVec 32 := 4#32
  let v90 : BitVec 32 := Scalar.muli v5 c4_i32_60
  let v91 : BitVec 32 := Scalar.addi v89 v90
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v59 : BitVec 32 := Scalar.addi v8 c1_i32_35
  let c4_i32_36 : BitVec 32 := 4#32
  let c0_i32_37 : BitVec 32 := 0#32
  let v60 : BitVec 1 := Scalar.cmpi .eq c4_i32_36 c0_i32_37
  let c1_i32_38 : BitVec 32 := 1#32
  let v61 : BitVec 32 := Scalar.select v60 c1_i32_38 c4_i32_36
  let v62 : BitVec 32 := Scalar.remsi v59 v61
  let c0_i32_40 : BitVec 32 := 0#32
  let v64 : BitVec 1 := Scalar.cmpi .slt v62 c0_i32_40
  let c0_i32_41 : BitVec 32 := 0#32
  let v65 : BitVec 1 := Scalar.cmpi .slt v61 c0_i32_41
  let v66 : BitVec 1 := Scalar.xori v64 v65
  let c0_i32_39 : BitVec 32 := 0#32
  let v63 : BitVec 1 := Scalar.cmpi .ne v62 c0_i32_39
  let v67 : BitVec 1 := Scalar.andi v66 v63
  let v68 : BitVec 32 := Scalar.addi v62 v61
  let v69 : BitVec 32 := Scalar.select v67 v68 v62
  let c1_i32_61 : BitVec 32 := 1#32
  let v92 : BitVec 32 := Scalar.muli v69 c1_i32_61
  let v93 : BitVec 32 := Scalar.addi v91 v92
  v93.toNat
def k0_dev5 (d0 : Dev nD) : Nat :=
  let c0_i32_64 : BitVec 32 := 0#32
  let c1_i32_8 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v17 : BitVec 32 := Scalar.subi c1_i32_8 v2
  let c16_i32_63 : BitVec 32 := 16#32
  let v94 : BitVec 32 := Scalar.muli v17 c16_i32_63
  let v95 : BitVec 32 := Scalar.addi c0_i32_64 v94
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_65 : BitVec 32 := 4#32
  let v96 : BitVec 32 := Scalar.muli v5 c4_i32_65
  let v97 : BitVec 32 := Scalar.addi v95 v96
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_66 : BitVec 32 := 1#32
  let v98 : BitVec 32 := Scalar.muli v8 c1_i32_66
  let v99 : BitVec 32 := Scalar.addi v97 v98
  v99.toNat
def k0_cond1 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_9 : BitVec 32 := 0#32
  let v18 : BitVec 1 := Scalar.cmpi .eq v5 c0_i32_9
  let v101 : BitVec 32 := Scalar.extui v18
  let c0_i32_68 : BitVec 32 := 0#32
  let v102 : BitVec 1 := Scalar.cmpi .ne v101 c0_i32_68
  v102

def k0_off1 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c0_i32_67 : BitVec 32 := 0#32
  let v100 : BitVec 32 := Scalar.addi v23 c0_i32_67
  let v348 : Index := Scalar.indexCast v100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32 : BitVec 32 := 128#32
  let v22 : BitVec 32 := Scalar.muli v8 c128_i32
  let v349 : Index := Scalar.indexCast v22
  ![v348.toNat, v349.toNat]
def k0_dev6 (d0 : Dev nD) : Nat :=
  let c0_i32_243 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_242 : BitVec 32 := 16#32
  let v355 : BitVec 32 := Scalar.muli v2 c16_i32_242
  let v356 : BitVec 32 := Scalar.addi c0_i32_243 v355
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c3_i32 : BitVec 32 := 3#32
  let v12 : BitVec 32 := Scalar.minsi v11 c3_i32
  let c4_i32_244 : BitVec 32 := 4#32
  let v357 : BitVec 32 := Scalar.muli v12 c4_i32_244
  let v358 : BitVec 32 := Scalar.addi v356 v357
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_245 : BitVec 32 := 1#32
  let v359 : BitVec 32 := Scalar.muli v8 c1_i32_245
  let v360 : BitVec 32 := Scalar.addi v358 v359
  v360.toNat
def k0_cond2 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_12 : BitVec 32 := 3#32
  let v21 : BitVec 1 := Scalar.cmpi .eq v5 c3_i32_12
  let v103 : BitVec 32 := Scalar.extui v21
  let c0_i32_69 : BitVec 32 := 0#32
  let v104 : BitVec 1 := Scalar.cmpi .ne v103 c0_i32_69
  v104

def k0_off2 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c0_i32_67 : BitVec 32 := 0#32
  let v100 : BitVec 32 := Scalar.addi v23 c0_i32_67
  let v348 : Index := Scalar.indexCast v100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32 : BitVec 32 := 128#32
  let v22 : BitVec 32 := Scalar.muli v8 c128_i32
  let v349 : Index := Scalar.indexCast v22
  ![v348.toNat, v349.toNat]
def k0_dev7 (d0 : Dev nD) : Nat :=
  let c0_i32_243 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_242 : BitVec 32 := 16#32
  let v355 : BitVec 32 := Scalar.muli v2 c16_i32_242
  let v356 : BitVec 32 := Scalar.addi c0_i32_243 v355
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.subi v5 c1_i32_2
  let c0_i32 : BitVec 32 := 0#32
  let v10 : BitVec 32 := Scalar.maxsi v9 c0_i32
  let c4_i32_244 : BitVec 32 := 4#32
  let v357 : BitVec 32 := Scalar.muli v10 c4_i32_244
  let v358 : BitVec 32 := Scalar.addi v356 v357
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_245 : BitVec 32 := 1#32
  let v359 : BitVec 32 := Scalar.muli v8 c1_i32_245
  let v360 : BitVec 32 := Scalar.addi v358 v359
  v360.toNat
def k0_cond3 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v19 : BitVec 1 := Scalar.cmpi .eq v5 c1_i32_10
  let v105 : BitVec 32 := Scalar.extui v19
  let c0_i32_70 : BitVec 32 := 0#32
  let v106 : BitVec 1 := Scalar.cmpi .ne v105 c0_i32_70
  v106

def k0_off3 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c0_i32_67 : BitVec 32 := 0#32
  let v100 : BitVec 32 := Scalar.addi v23 c0_i32_67
  let v362 : Index := Scalar.indexCast v100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32 : BitVec 32 := 128#32
  let v22 : BitVec 32 := Scalar.muli v8 c128_i32
  let v363 : Index := Scalar.indexCast v22
  ![v362.toNat, v363.toNat]
def k0_dev8 (d0 : Dev nD) : Nat :=
  let c0_i32_258 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_257 : BitVec 32 := 16#32
  let v370 : BitVec 32 := Scalar.muli v2 c16_i32_257
  let v371 : BitVec 32 := Scalar.addi c0_i32_258 v370
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c3_i32 : BitVec 32 := 3#32
  let v12 : BitVec 32 := Scalar.minsi v11 c3_i32
  let c4_i32_259 : BitVec 32 := 4#32
  let v372 : BitVec 32 := Scalar.muli v12 c4_i32_259
  let v373 : BitVec 32 := Scalar.addi v371 v372
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_260 : BitVec 32 := 1#32
  let v374 : BitVec 32 := Scalar.muli v8 c1_i32_260
  let v375 : BitVec 32 := Scalar.addi v373 v374
  v375.toNat
def k0_cond4 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_11 : BitVec 32 := 2#32
  let v20 : BitVec 1 := Scalar.cmpi .eq v5 c2_i32_11
  let v107 : BitVec 32 := Scalar.extui v20
  let c0_i32_71 : BitVec 32 := 0#32
  let v108 : BitVec 1 := Scalar.cmpi .ne v107 c0_i32_71
  v108

def k0_off4 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c0_i32_67 : BitVec 32 := 0#32
  let v100 : BitVec 32 := Scalar.addi v23 c0_i32_67
  let v362 : Index := Scalar.indexCast v100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32 : BitVec 32 := 128#32
  let v22 : BitVec 32 := Scalar.muli v8 c128_i32
  let v363 : Index := Scalar.indexCast v22
  ![v362.toNat, v363.toNat]
def k0_dev9 (d0 : Dev nD) : Nat :=
  let c0_i32_258 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_257 : BitVec 32 := 16#32
  let v370 : BitVec 32 := Scalar.muli v2 c16_i32_257
  let v371 : BitVec 32 := Scalar.addi c0_i32_258 v370
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.subi v5 c1_i32_2
  let c0_i32 : BitVec 32 := 0#32
  let v10 : BitVec 32 := Scalar.maxsi v9 c0_i32
  let c4_i32_259 : BitVec 32 := 4#32
  let v372 : BitVec 32 := Scalar.muli v10 c4_i32_259
  let v373 : BitVec 32 := Scalar.addi v371 v372
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_260 : BitVec 32 := 1#32
  let v374 : BitVec 32 := Scalar.muli v8 c1_i32_260
  let v375 : BitVec 32 := Scalar.addi v373 v374
  v375.toNat
def k0_cond5 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_9 : BitVec 32 := 0#32
  let v18 : BitVec 1 := Scalar.cmpi .eq v5 c0_i32_9
  let v110 : BitVec 32 := Scalar.extui v18
  let c0_i32_72 : BitVec 32 := 0#32
  let v111 : BitVec 1 := Scalar.cmpi .ne v110 c0_i32_72
  v111

def k0_off5 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c512_i32 : BitVec 32 := 512#32
  let v109 : BitVec 32 := Scalar.addi v23 c512_i32
  let v348 : Index := Scalar.indexCast v109
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32 : BitVec 32 := 128#32
  let v22 : BitVec 32 := Scalar.muli v8 c128_i32
  let v349 : Index := Scalar.indexCast v22
  ![v348.toNat, v349.toNat]
def k0_dev10 (d0 : Dev nD) : Nat :=
  let c0_i32_242 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_241 : BitVec 32 := 16#32
  let v355 : BitVec 32 := Scalar.muli v2 c16_i32_241
  let v356 : BitVec 32 := Scalar.addi c0_i32_242 v355
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c3_i32 : BitVec 32 := 3#32
  let v12 : BitVec 32 := Scalar.minsi v11 c3_i32
  let c4_i32_243 : BitVec 32 := 4#32
  let v357 : BitVec 32 := Scalar.muli v12 c4_i32_243
  let v358 : BitVec 32 := Scalar.addi v356 v357
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_244 : BitVec 32 := 1#32
  let v359 : BitVec 32 := Scalar.muli v8 c1_i32_244
  let v360 : BitVec 32 := Scalar.addi v358 v359
  v360.toNat
def k0_cond6 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_12 : BitVec 32 := 3#32
  let v21 : BitVec 1 := Scalar.cmpi .eq v5 c3_i32_12
  let v112 : BitVec 32 := Scalar.extui v21
  let c0_i32_73 : BitVec 32 := 0#32
  let v113 : BitVec 1 := Scalar.cmpi .ne v112 c0_i32_73
  v113

def k0_off6 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c512_i32 : BitVec 32 := 512#32
  let v109 : BitVec 32 := Scalar.addi v23 c512_i32
  let v348 : Index := Scalar.indexCast v109
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32 : BitVec 32 := 128#32
  let v22 : BitVec 32 := Scalar.muli v8 c128_i32
  let v349 : Index := Scalar.indexCast v22
  ![v348.toNat, v349.toNat]
def k0_dev11 (d0 : Dev nD) : Nat :=
  let c0_i32_242 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_241 : BitVec 32 := 16#32
  let v355 : BitVec 32 := Scalar.muli v2 c16_i32_241
  let v356 : BitVec 32 := Scalar.addi c0_i32_242 v355
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.subi v5 c1_i32_2
  let c0_i32 : BitVec 32 := 0#32
  let v10 : BitVec 32 := Scalar.maxsi v9 c0_i32
  let c4_i32_243 : BitVec 32 := 4#32
  let v357 : BitVec 32 := Scalar.muli v10 c4_i32_243
  let v358 : BitVec 32 := Scalar.addi v356 v357
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_244 : BitVec 32 := 1#32
  let v359 : BitVec 32 := Scalar.muli v8 c1_i32_244
  let v360 : BitVec 32 := Scalar.addi v358 v359
  v360.toNat
def k0_cond7 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v19 : BitVec 1 := Scalar.cmpi .eq v5 c1_i32_10
  let v114 : BitVec 32 := Scalar.extui v19
  let c0_i32_74 : BitVec 32 := 0#32
  let v115 : BitVec 1 := Scalar.cmpi .ne v114 c0_i32_74
  v115

def k0_off7 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c512_i32 : BitVec 32 := 512#32
  let v109 : BitVec 32 := Scalar.addi v23 c512_i32
  let v362 : Index := Scalar.indexCast v109
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32 : BitVec 32 := 128#32
  let v22 : BitVec 32 := Scalar.muli v8 c128_i32
  let v363 : Index := Scalar.indexCast v22
  ![v362.toNat, v363.toNat]
def k0_dev12 (d0 : Dev nD) : Nat :=
  let c0_i32_257 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_256 : BitVec 32 := 16#32
  let v370 : BitVec 32 := Scalar.muli v2 c16_i32_256
  let v371 : BitVec 32 := Scalar.addi c0_i32_257 v370
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c3_i32 : BitVec 32 := 3#32
  let v12 : BitVec 32 := Scalar.minsi v11 c3_i32
  let c4_i32_258 : BitVec 32 := 4#32
  let v372 : BitVec 32 := Scalar.muli v12 c4_i32_258
  let v373 : BitVec 32 := Scalar.addi v371 v372
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_259 : BitVec 32 := 1#32
  let v374 : BitVec 32 := Scalar.muli v8 c1_i32_259
  let v375 : BitVec 32 := Scalar.addi v373 v374
  v375.toNat
def k0_cond8 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_11 : BitVec 32 := 2#32
  let v20 : BitVec 1 := Scalar.cmpi .eq v5 c2_i32_11
  let v116 : BitVec 32 := Scalar.extui v20
  let c0_i32_75 : BitVec 32 := 0#32
  let v117 : BitVec 1 := Scalar.cmpi .ne v116 c0_i32_75
  v117

def k0_off8 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c512_i32 : BitVec 32 := 512#32
  let v109 : BitVec 32 := Scalar.addi v23 c512_i32
  let v362 : Index := Scalar.indexCast v109
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32 : BitVec 32 := 128#32
  let v22 : BitVec 32 := Scalar.muli v8 c128_i32
  let v363 : Index := Scalar.indexCast v22
  ![v362.toNat, v363.toNat]
def k0_dev13 (d0 : Dev nD) : Nat :=
  let c0_i32_257 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_256 : BitVec 32 := 16#32
  let v370 : BitVec 32 := Scalar.muli v2 c16_i32_256
  let v371 : BitVec 32 := Scalar.addi c0_i32_257 v370
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.subi v5 c1_i32_2
  let c0_i32 : BitVec 32 := 0#32
  let v10 : BitVec 32 := Scalar.maxsi v9 c0_i32
  let c4_i32_258 : BitVec 32 := 4#32
  let v372 : BitVec 32 := Scalar.muli v10 c4_i32_258
  let v373 : BitVec 32 := Scalar.addi v371 v372
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_259 : BitVec 32 := 1#32
  let v374 : BitVec 32 := Scalar.muli v8 c1_i32_259
  let v375 : BitVec 32 := Scalar.addi v373 v374
  v375.toNat
def k0_cond9 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_9 : BitVec 32 := 0#32
  let v18 : BitVec 1 := Scalar.cmpi .eq v5 c0_i32_9
  let v119 : BitVec 32 := Scalar.extui v18
  let c0_i32_77 : BitVec 32 := 0#32
  let v120 : BitVec 1 := Scalar.cmpi .ne v119 c0_i32_77
  v120

def k0_off9 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c0_i32_76 : BitVec 32 := 0#32
  let v118 : BitVec 32 := Scalar.addi v23 c0_i32_76
  let v360 : Index := Scalar.indexCast v118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32 : BitVec 32 := 128#32
  let v22 : BitVec 32 := Scalar.muli v8 c128_i32
  let v361 : Index := Scalar.indexCast v22
  ![v360.toNat, v361.toNat]
def k0_cond10 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_12 : BitVec 32 := 3#32
  let v21 : BitVec 1 := Scalar.cmpi .eq v5 c3_i32_12
  let v121 : BitVec 32 := Scalar.extui v21
  let c0_i32_78 : BitVec 32 := 0#32
  let v122 : BitVec 1 := Scalar.cmpi .ne v121 c0_i32_78
  v122

def k0_off10 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c0_i32_76 : BitVec 32 := 0#32
  let v118 : BitVec 32 := Scalar.addi v23 c0_i32_76
  let v360 : Index := Scalar.indexCast v118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32 : BitVec 32 := 128#32
  let v22 : BitVec 32 := Scalar.muli v8 c128_i32
  let v361 : Index := Scalar.indexCast v22
  ![v360.toNat, v361.toNat]
def k0_cond11 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v19 : BitVec 1 := Scalar.cmpi .eq v5 c1_i32_10
  let v123 : BitVec 32 := Scalar.extui v19
  let c0_i32_79 : BitVec 32 := 0#32
  let v124 : BitVec 1 := Scalar.cmpi .ne v123 c0_i32_79
  v124

def k0_off11 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c0_i32_76 : BitVec 32 := 0#32
  let v118 : BitVec 32 := Scalar.addi v23 c0_i32_76
  let v362 : Index := Scalar.indexCast v118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32 : BitVec 32 := 128#32
  let v22 : BitVec 32 := Scalar.muli v8 c128_i32
  let v363 : Index := Scalar.indexCast v22
  ![v362.toNat, v363.toNat]
def k0_dev14 (d0 : Dev nD) : Nat :=
  let c0_i32_258 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_257 : BitVec 32 := 16#32
  let v370 : BitVec 32 := Scalar.muli v2 c16_i32_257
  let v371 : BitVec 32 := Scalar.addi c0_i32_258 v370
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.subi v5 c1_i32_2
  let c0_i32 : BitVec 32 := 0#32
  let v10 : BitVec 32 := Scalar.maxsi v9 c0_i32
  let c4_i32_259 : BitVec 32 := 4#32
  let v372 : BitVec 32 := Scalar.muli v10 c4_i32_259
  let v373 : BitVec 32 := Scalar.addi v371 v372
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_260 : BitVec 32 := 1#32
  let v374 : BitVec 32 := Scalar.muli v8 c1_i32_260
  let v375 : BitVec 32 := Scalar.addi v373 v374
  v375.toNat
def k0_cond12 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_11 : BitVec 32 := 2#32
  let v20 : BitVec 1 := Scalar.cmpi .eq v5 c2_i32_11
  let v125 : BitVec 32 := Scalar.extui v20
  let c0_i32_80 : BitVec 32 := 0#32
  let v126 : BitVec 1 := Scalar.cmpi .ne v125 c0_i32_80
  v126

def k0_off12 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c0_i32_76 : BitVec 32 := 0#32
  let v118 : BitVec 32 := Scalar.addi v23 c0_i32_76
  let v362 : Index := Scalar.indexCast v118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32 : BitVec 32 := 128#32
  let v22 : BitVec 32 := Scalar.muli v8 c128_i32
  let v363 : Index := Scalar.indexCast v22
  ![v362.toNat, v363.toNat]
def k0_dev15 (d0 : Dev nD) : Nat :=
  let c0_i32_258 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_257 : BitVec 32 := 16#32
  let v370 : BitVec 32 := Scalar.muli v2 c16_i32_257
  let v371 : BitVec 32 := Scalar.addi c0_i32_258 v370
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c3_i32 : BitVec 32 := 3#32
  let v12 : BitVec 32 := Scalar.minsi v11 c3_i32
  let c4_i32_259 : BitVec 32 := 4#32
  let v372 : BitVec 32 := Scalar.muli v12 c4_i32_259
  let v373 : BitVec 32 := Scalar.addi v371 v372
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_260 : BitVec 32 := 1#32
  let v374 : BitVec 32 := Scalar.muli v8 c1_i32_260
  let v375 : BitVec 32 := Scalar.addi v373 v374
  v375.toNat
def k0_cond13 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_81 : BitVec 32 := 3#32
  let v127 : BitVec 1 := Scalar.cmpi .slt v8 c3_i32_81
  let v128 : BitVec 32 := Scalar.extui v127
  let c0_i32_82 : BitVec 32 := 0#32
  let v129 : BitVec 1 := Scalar.cmpi .ne v128 c0_i32_82
  v129

def k0_off13 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c0_i32_236 : BitVec 32 := 0#32
  let v348 : BitVec 32 := Scalar.addi v23 c0_i32_236
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32 : BitVec 32 := 128#32
  let v22 : BitVec 32 := Scalar.muli v8 c128_i32
  ![v348.toNat, v22.toNat]
def k0_dev16 (d0 : Dev nD) : Nat :=
  let c0_i32_242 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_241 : BitVec 32 := 16#32
  let v349 : BitVec 32 := Scalar.muli v2 c16_i32_241
  let v350 : BitVec 32 := Scalar.addi c0_i32_242 v349
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_243 : BitVec 32 := 4#32
  let v351 : BitVec 32 := Scalar.muli v5 c4_i32_243
  let v352 : BitVec 32 := Scalar.addi v350 v351
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.addi v8 c1_i32_6
  let c3_i32_7 : BitVec 32 := 3#32
  let v16 : BitVec 32 := Scalar.minsi v15 c3_i32_7
  let c1_i32_244 : BitVec 32 := 1#32
  let v353 : BitVec 32 := Scalar.muli v16 c1_i32_244
  let v354 : BitVec 32 := Scalar.addi v352 v353
  v354.toNat
def k0_cond14 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_83 : BitVec 32 := 0#32
  let v130 : BitVec 1 := Scalar.cmpi .sgt v8 c0_i32_83
  let v131 : BitVec 32 := Scalar.extui v130
  let c0_i32_84 : BitVec 32 := 0#32
  let v132 : BitVec 1 := Scalar.cmpi .ne v131 c0_i32_84
  v132

def k0_off14 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c0_i32_236 : BitVec 32 := 0#32
  let v348 : BitVec 32 := Scalar.addi v23 c0_i32_236
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32 : BitVec 32 := 128#32
  let v22 : BitVec 32 := Scalar.muli v8 c128_i32
  ![v348.toNat, v22.toNat]
def k0_dev17 (d0 : Dev nD) : Nat :=
  let c0_i32_242 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_241 : BitVec 32 := 16#32
  let v349 : BitVec 32 := Scalar.muli v2 c16_i32_241
  let v350 : BitVec 32 := Scalar.addi c0_i32_242 v349
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_243 : BitVec 32 := 4#32
  let v351 : BitVec 32 := Scalar.muli v5 c4_i32_243
  let v352 : BitVec 32 := Scalar.addi v350 v351
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.subi v8 c1_i32_4
  let c0_i32_5 : BitVec 32 := 0#32
  let v14 : BitVec 32 := Scalar.maxsi v13 c0_i32_5
  let c1_i32_244 : BitVec 32 := 1#32
  let v353 : BitVec 32 := Scalar.muli v14 c1_i32_244
  let v354 : BitVec 32 := Scalar.addi v352 v353
  v354.toNat
def k0_cond15 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_9 : BitVec 32 := 0#32
  let v18 : BitVec 1 := Scalar.cmpi .eq v5 c0_i32_9
  let v134 : BitVec 32 := Scalar.extui v18
  let c0_i32_86 : BitVec 32 := 0#32
  let v135 : BitVec 1 := Scalar.cmpi .ne v134 c0_i32_86
  v135

def k0_off15 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c512_i32_85 : BitVec 32 := 512#32
  let v133 : BitVec 32 := Scalar.addi v23 c512_i32_85
  let v360 : Index := Scalar.indexCast v133
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32 : BitVec 32 := 128#32
  let v22 : BitVec 32 := Scalar.muli v8 c128_i32
  let v361 : Index := Scalar.indexCast v22
  ![v360.toNat, v361.toNat]
def k0_cond16 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_12 : BitVec 32 := 3#32
  let v21 : BitVec 1 := Scalar.cmpi .eq v5 c3_i32_12
  let v136 : BitVec 32 := Scalar.extui v21
  let c0_i32_87 : BitVec 32 := 0#32
  let v137 : BitVec 1 := Scalar.cmpi .ne v136 c0_i32_87
  v137

def k0_off16 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c512_i32_85 : BitVec 32 := 512#32
  let v133 : BitVec 32 := Scalar.addi v23 c512_i32_85
  let v360 : Index := Scalar.indexCast v133
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32 : BitVec 32 := 128#32
  let v22 : BitVec 32 := Scalar.muli v8 c128_i32
  let v361 : Index := Scalar.indexCast v22
  ![v360.toNat, v361.toNat]
def k0_cond17 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v19 : BitVec 1 := Scalar.cmpi .eq v5 c1_i32_10
  let v138 : BitVec 32 := Scalar.extui v19
  let c0_i32_88 : BitVec 32 := 0#32
  let v139 : BitVec 1 := Scalar.cmpi .ne v138 c0_i32_88
  v139

def k0_off17 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c512_i32_85 : BitVec 32 := 512#32
  let v133 : BitVec 32 := Scalar.addi v23 c512_i32_85
  let v362 : Index := Scalar.indexCast v133
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32 : BitVec 32 := 128#32
  let v22 : BitVec 32 := Scalar.muli v8 c128_i32
  let v363 : Index := Scalar.indexCast v22
  ![v362.toNat, v363.toNat]
def k0_dev18 (d0 : Dev nD) : Nat :=
  let c0_i32_257 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_256 : BitVec 32 := 16#32
  let v370 : BitVec 32 := Scalar.muli v2 c16_i32_256
  let v371 : BitVec 32 := Scalar.addi c0_i32_257 v370
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.subi v5 c1_i32_2
  let c0_i32 : BitVec 32 := 0#32
  let v10 : BitVec 32 := Scalar.maxsi v9 c0_i32
  let c4_i32_258 : BitVec 32 := 4#32
  let v372 : BitVec 32 := Scalar.muli v10 c4_i32_258
  let v373 : BitVec 32 := Scalar.addi v371 v372
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_259 : BitVec 32 := 1#32
  let v374 : BitVec 32 := Scalar.muli v8 c1_i32_259
  let v375 : BitVec 32 := Scalar.addi v373 v374
  v375.toNat
def k0_cond18 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_11 : BitVec 32 := 2#32
  let v20 : BitVec 1 := Scalar.cmpi .eq v5 c2_i32_11
  let v140 : BitVec 32 := Scalar.extui v20
  let c0_i32_89 : BitVec 32 := 0#32
  let v141 : BitVec 1 := Scalar.cmpi .ne v140 c0_i32_89
  v141

def k0_off18 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c512_i32_85 : BitVec 32 := 512#32
  let v133 : BitVec 32 := Scalar.addi v23 c512_i32_85
  let v362 : Index := Scalar.indexCast v133
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32 : BitVec 32 := 128#32
  let v22 : BitVec 32 := Scalar.muli v8 c128_i32
  let v363 : Index := Scalar.indexCast v22
  ![v362.toNat, v363.toNat]
def k0_dev19 (d0 : Dev nD) : Nat :=
  let c0_i32_257 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_256 : BitVec 32 := 16#32
  let v370 : BitVec 32 := Scalar.muli v2 c16_i32_256
  let v371 : BitVec 32 := Scalar.addi c0_i32_257 v370
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c3_i32 : BitVec 32 := 3#32
  let v12 : BitVec 32 := Scalar.minsi v11 c3_i32
  let c4_i32_258 : BitVec 32 := 4#32
  let v372 : BitVec 32 := Scalar.muli v12 c4_i32_258
  let v373 : BitVec 32 := Scalar.addi v371 v372
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_259 : BitVec 32 := 1#32
  let v374 : BitVec 32 := Scalar.muli v8 c1_i32_259
  let v375 : BitVec 32 := Scalar.addi v373 v374
  v375.toNat
def k0_cond19 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_90 : BitVec 32 := 3#32
  let v142 : BitVec 1 := Scalar.cmpi .slt v8 c3_i32_90
  let v143 : BitVec 32 := Scalar.extui v142
  let c0_i32_91 : BitVec 32 := 0#32
  let v144 : BitVec 1 := Scalar.cmpi .ne v143 c0_i32_91
  v144

def k0_off19 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c512_i32_236 : BitVec 32 := 512#32
  let v348 : BitVec 32 := Scalar.addi v23 c512_i32_236
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32 : BitVec 32 := 128#32
  let v22 : BitVec 32 := Scalar.muli v8 c128_i32
  ![v348.toNat, v22.toNat]
def k0_dev20 (d0 : Dev nD) : Nat :=
  let c0_i32_242 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_241 : BitVec 32 := 16#32
  let v349 : BitVec 32 := Scalar.muli v2 c16_i32_241
  let v350 : BitVec 32 := Scalar.addi c0_i32_242 v349
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_243 : BitVec 32 := 4#32
  let v351 : BitVec 32 := Scalar.muli v5 c4_i32_243
  let v352 : BitVec 32 := Scalar.addi v350 v351
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.addi v8 c1_i32_6
  let c3_i32_7 : BitVec 32 := 3#32
  let v16 : BitVec 32 := Scalar.minsi v15 c3_i32_7
  let c1_i32_244 : BitVec 32 := 1#32
  let v353 : BitVec 32 := Scalar.muli v16 c1_i32_244
  let v354 : BitVec 32 := Scalar.addi v352 v353
  v354.toNat
def k0_cond20 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_92 : BitVec 32 := 0#32
  let v145 : BitVec 1 := Scalar.cmpi .sgt v8 c0_i32_92
  let v146 : BitVec 32 := Scalar.extui v145
  let c0_i32_93 : BitVec 32 := 0#32
  let v147 : BitVec 1 := Scalar.cmpi .ne v146 c0_i32_93
  v147

def k0_off20 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c512_i32_236 : BitVec 32 := 512#32
  let v348 : BitVec 32 := Scalar.addi v23 c512_i32_236
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32 : BitVec 32 := 128#32
  let v22 : BitVec 32 := Scalar.muli v8 c128_i32
  ![v348.toNat, v22.toNat]
def k0_dev21 (d0 : Dev nD) : Nat :=
  let c0_i32_242 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_241 : BitVec 32 := 16#32
  let v349 : BitVec 32 := Scalar.muli v2 c16_i32_241
  let v350 : BitVec 32 := Scalar.addi c0_i32_242 v349
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_243 : BitVec 32 := 4#32
  let v351 : BitVec 32 := Scalar.muli v5 c4_i32_243
  let v352 : BitVec 32 := Scalar.addi v350 v351
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.subi v8 c1_i32_4
  let c0_i32_5 : BitVec 32 := 0#32
  let v14 : BitVec 32 := Scalar.maxsi v13 c0_i32_5
  let c1_i32_244 : BitVec 32 := 1#32
  let v353 : BitVec 32 := Scalar.muli v14 c1_i32_244
  let v354 : BitVec 32 := Scalar.addi v352 v353
  v354.toNat
def k0_cond21 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_94 : BitVec 32 := 1#32
  let v148 : BitVec 1 := Scalar.cmpi .sge v8 c1_i32_94
  let v149 : BitVec 32 := Scalar.extui v148
  let c0_i32_95 : BitVec 32 := 0#32
  let v150 : BitVec 1 := Scalar.cmpi .ne v149 c0_i32_95
  v150

def k0_off21 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c0_i32_238 : BitVec 32 := 0#32
  let v350 : BitVec 32 := Scalar.addi v23 c0_i32_238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_236 : BitVec 32 := 1#32
  let v348 : BitVec 32 := Scalar.subi v8 c1_i32_236
  let c128_i32_237 : BitVec 32 := 128#32
  let v349 : BitVec 32 := Scalar.muli v348 c128_i32_237
  ![v350.toNat, v349.toNat]
def k0_cond22 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_96 : BitVec 32 := 1#32
  let v151 : BitVec 1 := Scalar.cmpi .sge v8 c1_i32_96
  let c3_i32_97 : BitVec 32 := 3#32
  let v152 : BitVec 1 := Scalar.cmpi .slt v8 c3_i32_97
  let v153 : BitVec 1 := Scalar.andi v151 v152
  let v154 : BitVec 32 := Scalar.extui v153
  let c0_i32_98 : BitVec 32 := 0#32
  let v155 : BitVec 1 := Scalar.cmpi .ne v154 c0_i32_98
  v155

def k0_off22 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c0_i32_238 : BitVec 32 := 0#32
  let v350 : BitVec 32 := Scalar.addi v23 c0_i32_238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_236 : BitVec 32 := 1#32
  let v348 : BitVec 32 := Scalar.subi v8 c1_i32_236
  let c128_i32_237 : BitVec 32 := 128#32
  let v349 : BitVec 32 := Scalar.muli v348 c128_i32_237
  ![v350.toNat, v349.toNat]
def k0_dev22 (d0 : Dev nD) : Nat :=
  let c0_i32_244 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_243 : BitVec 32 := 16#32
  let v351 : BitVec 32 := Scalar.muli v2 c16_i32_243
  let v352 : BitVec 32 := Scalar.addi c0_i32_244 v351
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_245 : BitVec 32 := 4#32
  let v353 : BitVec 32 := Scalar.muli v5 c4_i32_245
  let v354 : BitVec 32 := Scalar.addi v352 v353
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.addi v8 c1_i32_6
  let c3_i32_7 : BitVec 32 := 3#32
  let v16 : BitVec 32 := Scalar.minsi v15 c3_i32_7
  let c1_i32_246 : BitVec 32 := 1#32
  let v355 : BitVec 32 := Scalar.muli v16 c1_i32_246
  let v356 : BitVec 32 := Scalar.addi v354 v355
  v356.toNat
def k0_cond23 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v156 : BitVec 32 := Scalar.addi v8 c1_i32_99
  let c3_i32_100 : BitVec 32 := 3#32
  let v157 : BitVec 1 := Scalar.cmpi .sle v156 c3_i32_100
  let v158 : BitVec 32 := Scalar.extui v157
  let c0_i32_101 : BitVec 32 := 0#32
  let v159 : BitVec 1 := Scalar.cmpi .ne v158 c0_i32_101
  v159

def k0_off23 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c0_i32_238 : BitVec 32 := 0#32
  let v350 : BitVec 32 := Scalar.addi v23 c0_i32_238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_236 : BitVec 32 := 1#32
  let v348 : BitVec 32 := Scalar.addi v8 c1_i32_236
  let c128_i32_237 : BitVec 32 := 128#32
  let v349 : BitVec 32 := Scalar.muli v348 c128_i32_237
  ![v350.toNat, v349.toNat]
def k0_cond24 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_102 : BitVec 32 := 1#32
  let v160 : BitVec 32 := Scalar.addi v8 c1_i32_102
  let c3_i32_103 : BitVec 32 := 3#32
  let v161 : BitVec 1 := Scalar.cmpi .sle v160 c3_i32_103
  let c0_i32_104 : BitVec 32 := 0#32
  let v162 : BitVec 1 := Scalar.cmpi .sgt v8 c0_i32_104
  let v163 : BitVec 1 := Scalar.andi v161 v162
  let v164 : BitVec 32 := Scalar.extui v163
  let c0_i32_105 : BitVec 32 := 0#32
  let v165 : BitVec 1 := Scalar.cmpi .ne v164 c0_i32_105
  v165

def k0_off24 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c0_i32_238 : BitVec 32 := 0#32
  let v350 : BitVec 32 := Scalar.addi v23 c0_i32_238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_236 : BitVec 32 := 1#32
  let v348 : BitVec 32 := Scalar.addi v8 c1_i32_236
  let c128_i32_237 : BitVec 32 := 128#32
  let v349 : BitVec 32 := Scalar.muli v348 c128_i32_237
  ![v350.toNat, v349.toNat]
def k0_dev23 (d0 : Dev nD) : Nat :=
  let c0_i32_244 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_243 : BitVec 32 := 16#32
  let v351 : BitVec 32 := Scalar.muli v2 c16_i32_243
  let v352 : BitVec 32 := Scalar.addi c0_i32_244 v351
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_245 : BitVec 32 := 4#32
  let v353 : BitVec 32 := Scalar.muli v5 c4_i32_245
  let v354 : BitVec 32 := Scalar.addi v352 v353
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.subi v8 c1_i32_4
  let c0_i32_5 : BitVec 32 := 0#32
  let v14 : BitVec 32 := Scalar.maxsi v13 c0_i32_5
  let c1_i32_246 : BitVec 32 := 1#32
  let v355 : BitVec 32 := Scalar.muli v14 c1_i32_246
  let v356 : BitVec 32 := Scalar.addi v354 v355
  v356.toNat
def k0_cond25 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_106 : BitVec 32 := 1#32
  let v166 : BitVec 1 := Scalar.cmpi .sge v8 c1_i32_106
  let v167 : BitVec 32 := Scalar.extui v166
  let c0_i32_107 : BitVec 32 := 0#32
  let v168 : BitVec 1 := Scalar.cmpi .ne v167 c0_i32_107
  v168

def k0_off25 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c512_i32_238 : BitVec 32 := 512#32
  let v350 : BitVec 32 := Scalar.addi v23 c512_i32_238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_236 : BitVec 32 := 1#32
  let v348 : BitVec 32 := Scalar.subi v8 c1_i32_236
  let c128_i32_237 : BitVec 32 := 128#32
  let v349 : BitVec 32 := Scalar.muli v348 c128_i32_237
  ![v350.toNat, v349.toNat]
def k0_cond26 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_108 : BitVec 32 := 1#32
  let v169 : BitVec 1 := Scalar.cmpi .sge v8 c1_i32_108
  let c3_i32_109 : BitVec 32 := 3#32
  let v170 : BitVec 1 := Scalar.cmpi .slt v8 c3_i32_109
  let v171 : BitVec 1 := Scalar.andi v169 v170
  let v172 : BitVec 32 := Scalar.extui v171
  let c0_i32_110 : BitVec 32 := 0#32
  let v173 : BitVec 1 := Scalar.cmpi .ne v172 c0_i32_110
  v173

def k0_off26 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c512_i32_238 : BitVec 32 := 512#32
  let v350 : BitVec 32 := Scalar.addi v23 c512_i32_238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_236 : BitVec 32 := 1#32
  let v348 : BitVec 32 := Scalar.subi v8 c1_i32_236
  let c128_i32_237 : BitVec 32 := 128#32
  let v349 : BitVec 32 := Scalar.muli v348 c128_i32_237
  ![v350.toNat, v349.toNat]
def k0_dev24 (d0 : Dev nD) : Nat :=
  let c0_i32_244 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_243 : BitVec 32 := 16#32
  let v351 : BitVec 32 := Scalar.muli v2 c16_i32_243
  let v352 : BitVec 32 := Scalar.addi c0_i32_244 v351
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_245 : BitVec 32 := 4#32
  let v353 : BitVec 32 := Scalar.muli v5 c4_i32_245
  let v354 : BitVec 32 := Scalar.addi v352 v353
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.addi v8 c1_i32_6
  let c3_i32_7 : BitVec 32 := 3#32
  let v16 : BitVec 32 := Scalar.minsi v15 c3_i32_7
  let c1_i32_246 : BitVec 32 := 1#32
  let v355 : BitVec 32 := Scalar.muli v16 c1_i32_246
  let v356 : BitVec 32 := Scalar.addi v354 v355
  v356.toNat
def k0_cond27 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_111 : BitVec 32 := 1#32
  let v174 : BitVec 32 := Scalar.addi v8 c1_i32_111
  let c3_i32_112 : BitVec 32 := 3#32
  let v175 : BitVec 1 := Scalar.cmpi .sle v174 c3_i32_112
  let v176 : BitVec 32 := Scalar.extui v175
  let c0_i32_113 : BitVec 32 := 0#32
  let v177 : BitVec 1 := Scalar.cmpi .ne v176 c0_i32_113
  v177

def k0_off27 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c512_i32_238 : BitVec 32 := 512#32
  let v350 : BitVec 32 := Scalar.addi v23 c512_i32_238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_236 : BitVec 32 := 1#32
  let v348 : BitVec 32 := Scalar.addi v8 c1_i32_236
  let c128_i32_237 : BitVec 32 := 128#32
  let v349 : BitVec 32 := Scalar.muli v348 c128_i32_237
  ![v350.toNat, v349.toNat]
def k0_cond28 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_114 : BitVec 32 := 1#32
  let v178 : BitVec 32 := Scalar.addi v8 c1_i32_114
  let c3_i32_115 : BitVec 32 := 3#32
  let v179 : BitVec 1 := Scalar.cmpi .sle v178 c3_i32_115
  let c0_i32_116 : BitVec 32 := 0#32
  let v180 : BitVec 1 := Scalar.cmpi .sgt v8 c0_i32_116
  let v181 : BitVec 1 := Scalar.andi v179 v180
  let v182 : BitVec 32 := Scalar.extui v181
  let c0_i32_117 : BitVec 32 := 0#32
  let v183 : BitVec 1 := Scalar.cmpi .ne v182 c0_i32_117
  v183

def k0_off28 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c512_i32_238 : BitVec 32 := 512#32
  let v350 : BitVec 32 := Scalar.addi v23 c512_i32_238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_236 : BitVec 32 := 1#32
  let v348 : BitVec 32 := Scalar.addi v8 c1_i32_236
  let c128_i32_237 : BitVec 32 := 128#32
  let v349 : BitVec 32 := Scalar.muli v348 c128_i32_237
  ![v350.toNat, v349.toNat]
def k0_dev25 (d0 : Dev nD) : Nat :=
  let c0_i32_244 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_243 : BitVec 32 := 16#32
  let v351 : BitVec 32 := Scalar.muli v2 c16_i32_243
  let v352 : BitVec 32 := Scalar.addi c0_i32_244 v351
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_245 : BitVec 32 := 4#32
  let v353 : BitVec 32 := Scalar.muli v5 c4_i32_245
  let v354 : BitVec 32 := Scalar.addi v352 v353
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.subi v8 c1_i32_4
  let c0_i32_5 : BitVec 32 := 0#32
  let v14 : BitVec 32 := Scalar.maxsi v13 c0_i32_5
  let c1_i32_246 : BitVec 32 := 1#32
  let v355 : BitVec 32 := Scalar.muli v14 c1_i32_246
  let v356 : BitVec 32 := Scalar.addi v354 v355
  v356.toNat
def k0_cond29 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_118 : BitVec 32 := 2#32
  let v184 : BitVec 1 := Scalar.cmpi .sge v8 c2_i32_118
  let v185 : BitVec 32 := Scalar.extui v184
  let c0_i32_119 : BitVec 32 := 0#32
  let v186 : BitVec 1 := Scalar.cmpi .ne v185 c0_i32_119
  v186

def k0_off29 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c0_i32_238 : BitVec 32 := 0#32
  let v350 : BitVec 32 := Scalar.addi v23 c0_i32_238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_236 : BitVec 32 := 2#32
  let v348 : BitVec 32 := Scalar.subi v8 c2_i32_236
  let c128_i32_237 : BitVec 32 := 128#32
  let v349 : BitVec 32 := Scalar.muli v348 c128_i32_237
  ![v350.toNat, v349.toNat]
def k0_cond30 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_120 : BitVec 32 := 2#32
  let v187 : BitVec 1 := Scalar.cmpi .sge v8 c2_i32_120
  let c3_i32_121 : BitVec 32 := 3#32
  let v188 : BitVec 1 := Scalar.cmpi .slt v8 c3_i32_121
  let v189 : BitVec 1 := Scalar.andi v187 v188
  let v190 : BitVec 32 := Scalar.extui v189
  let c0_i32_122 : BitVec 32 := 0#32
  let v191 : BitVec 1 := Scalar.cmpi .ne v190 c0_i32_122
  v191

def k0_off30 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c0_i32_238 : BitVec 32 := 0#32
  let v350 : BitVec 32 := Scalar.addi v23 c0_i32_238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_236 : BitVec 32 := 2#32
  let v348 : BitVec 32 := Scalar.subi v8 c2_i32_236
  let c128_i32_237 : BitVec 32 := 128#32
  let v349 : BitVec 32 := Scalar.muli v348 c128_i32_237
  ![v350.toNat, v349.toNat]
def k0_dev26 (d0 : Dev nD) : Nat :=
  let c0_i32_244 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_243 : BitVec 32 := 16#32
  let v351 : BitVec 32 := Scalar.muli v2 c16_i32_243
  let v352 : BitVec 32 := Scalar.addi c0_i32_244 v351
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_245 : BitVec 32 := 4#32
  let v353 : BitVec 32 := Scalar.muli v5 c4_i32_245
  let v354 : BitVec 32 := Scalar.addi v352 v353
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.addi v8 c1_i32_6
  let c3_i32_7 : BitVec 32 := 3#32
  let v16 : BitVec 32 := Scalar.minsi v15 c3_i32_7
  let c1_i32_246 : BitVec 32 := 1#32
  let v355 : BitVec 32 := Scalar.muli v16 c1_i32_246
  let v356 : BitVec 32 := Scalar.addi v354 v355
  v356.toNat
def k0_cond31 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_123 : BitVec 32 := 2#32
  let v192 : BitVec 32 := Scalar.addi v8 c2_i32_123
  let c3_i32_124 : BitVec 32 := 3#32
  let v193 : BitVec 1 := Scalar.cmpi .sle v192 c3_i32_124
  let v194 : BitVec 32 := Scalar.extui v193
  let c0_i32_125 : BitVec 32 := 0#32
  let v195 : BitVec 1 := Scalar.cmpi .ne v194 c0_i32_125
  v195

def k0_off31 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c0_i32_238 : BitVec 32 := 0#32
  let v350 : BitVec 32 := Scalar.addi v23 c0_i32_238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_236 : BitVec 32 := 2#32
  let v348 : BitVec 32 := Scalar.addi v8 c2_i32_236
  let c128_i32_237 : BitVec 32 := 128#32
  let v349 : BitVec 32 := Scalar.muli v348 c128_i32_237
  ![v350.toNat, v349.toNat]
def k0_cond32 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_126 : BitVec 32 := 2#32
  let v196 : BitVec 32 := Scalar.addi v8 c2_i32_126
  let c3_i32_127 : BitVec 32 := 3#32
  let v197 : BitVec 1 := Scalar.cmpi .sle v196 c3_i32_127
  let c0_i32_128 : BitVec 32 := 0#32
  let v198 : BitVec 1 := Scalar.cmpi .sgt v8 c0_i32_128
  let v199 : BitVec 1 := Scalar.andi v197 v198
  let v200 : BitVec 32 := Scalar.extui v199
  let c0_i32_129 : BitVec 32 := 0#32
  let v201 : BitVec 1 := Scalar.cmpi .ne v200 c0_i32_129
  v201

def k0_off32 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c0_i32_238 : BitVec 32 := 0#32
  let v350 : BitVec 32 := Scalar.addi v23 c0_i32_238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_236 : BitVec 32 := 2#32
  let v348 : BitVec 32 := Scalar.addi v8 c2_i32_236
  let c128_i32_237 : BitVec 32 := 128#32
  let v349 : BitVec 32 := Scalar.muli v348 c128_i32_237
  ![v350.toNat, v349.toNat]
def k0_dev27 (d0 : Dev nD) : Nat :=
  let c0_i32_244 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_243 : BitVec 32 := 16#32
  let v351 : BitVec 32 := Scalar.muli v2 c16_i32_243
  let v352 : BitVec 32 := Scalar.addi c0_i32_244 v351
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_245 : BitVec 32 := 4#32
  let v353 : BitVec 32 := Scalar.muli v5 c4_i32_245
  let v354 : BitVec 32 := Scalar.addi v352 v353
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.subi v8 c1_i32_4
  let c0_i32_5 : BitVec 32 := 0#32
  let v14 : BitVec 32 := Scalar.maxsi v13 c0_i32_5
  let c1_i32_246 : BitVec 32 := 1#32
  let v355 : BitVec 32 := Scalar.muli v14 c1_i32_246
  let v356 : BitVec 32 := Scalar.addi v354 v355
  v356.toNat
def k0_cond33 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_130 : BitVec 32 := 2#32
  let v202 : BitVec 1 := Scalar.cmpi .sge v8 c2_i32_130
  let v203 : BitVec 32 := Scalar.extui v202
  let c0_i32_131 : BitVec 32 := 0#32
  let v204 : BitVec 1 := Scalar.cmpi .ne v203 c0_i32_131
  v204

def k0_off33 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c512_i32_238 : BitVec 32 := 512#32
  let v350 : BitVec 32 := Scalar.addi v23 c512_i32_238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_236 : BitVec 32 := 2#32
  let v348 : BitVec 32 := Scalar.subi v8 c2_i32_236
  let c128_i32_237 : BitVec 32 := 128#32
  let v349 : BitVec 32 := Scalar.muli v348 c128_i32_237
  ![v350.toNat, v349.toNat]
def k0_cond34 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_132 : BitVec 32 := 2#32
  let v205 : BitVec 1 := Scalar.cmpi .sge v8 c2_i32_132
  let c3_i32_133 : BitVec 32 := 3#32
  let v206 : BitVec 1 := Scalar.cmpi .slt v8 c3_i32_133
  let v207 : BitVec 1 := Scalar.andi v205 v206
  let v208 : BitVec 32 := Scalar.extui v207
  let c0_i32_134 : BitVec 32 := 0#32
  let v209 : BitVec 1 := Scalar.cmpi .ne v208 c0_i32_134
  v209

def k0_off34 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c512_i32_238 : BitVec 32 := 512#32
  let v350 : BitVec 32 := Scalar.addi v23 c512_i32_238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_236 : BitVec 32 := 2#32
  let v348 : BitVec 32 := Scalar.subi v8 c2_i32_236
  let c128_i32_237 : BitVec 32 := 128#32
  let v349 : BitVec 32 := Scalar.muli v348 c128_i32_237
  ![v350.toNat, v349.toNat]
def k0_dev28 (d0 : Dev nD) : Nat :=
  let c0_i32_244 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_243 : BitVec 32 := 16#32
  let v351 : BitVec 32 := Scalar.muli v2 c16_i32_243
  let v352 : BitVec 32 := Scalar.addi c0_i32_244 v351
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_245 : BitVec 32 := 4#32
  let v353 : BitVec 32 := Scalar.muli v5 c4_i32_245
  let v354 : BitVec 32 := Scalar.addi v352 v353
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.addi v8 c1_i32_6
  let c3_i32_7 : BitVec 32 := 3#32
  let v16 : BitVec 32 := Scalar.minsi v15 c3_i32_7
  let c1_i32_246 : BitVec 32 := 1#32
  let v355 : BitVec 32 := Scalar.muli v16 c1_i32_246
  let v356 : BitVec 32 := Scalar.addi v354 v355
  v356.toNat
def k0_cond35 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_135 : BitVec 32 := 2#32
  let v210 : BitVec 32 := Scalar.addi v8 c2_i32_135
  let c3_i32_136 : BitVec 32 := 3#32
  let v211 : BitVec 1 := Scalar.cmpi .sle v210 c3_i32_136
  let v212 : BitVec 32 := Scalar.extui v211
  let c0_i32_137 : BitVec 32 := 0#32
  let v213 : BitVec 1 := Scalar.cmpi .ne v212 c0_i32_137
  v213

def k0_off35 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c512_i32_238 : BitVec 32 := 512#32
  let v350 : BitVec 32 := Scalar.addi v23 c512_i32_238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_236 : BitVec 32 := 2#32
  let v348 : BitVec 32 := Scalar.addi v8 c2_i32_236
  let c128_i32_237 : BitVec 32 := 128#32
  let v349 : BitVec 32 := Scalar.muli v348 c128_i32_237
  ![v350.toNat, v349.toNat]
def k0_cond36 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_138 : BitVec 32 := 2#32
  let v214 : BitVec 32 := Scalar.addi v8 c2_i32_138
  let c3_i32_139 : BitVec 32 := 3#32
  let v215 : BitVec 1 := Scalar.cmpi .sle v214 c3_i32_139
  let c0_i32_140 : BitVec 32 := 0#32
  let v216 : BitVec 1 := Scalar.cmpi .sgt v8 c0_i32_140
  let v217 : BitVec 1 := Scalar.andi v215 v216
  let v218 : BitVec 32 := Scalar.extui v217
  let c0_i32_141 : BitVec 32 := 0#32
  let v219 : BitVec 1 := Scalar.cmpi .ne v218 c0_i32_141
  v219

def k0_off36 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c512_i32_238 : BitVec 32 := 512#32
  let v350 : BitVec 32 := Scalar.addi v23 c512_i32_238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_236 : BitVec 32 := 2#32
  let v348 : BitVec 32 := Scalar.addi v8 c2_i32_236
  let c128_i32_237 : BitVec 32 := 128#32
  let v349 : BitVec 32 := Scalar.muli v348 c128_i32_237
  ![v350.toNat, v349.toNat]
def k0_dev29 (d0 : Dev nD) : Nat :=
  let c0_i32_244 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_243 : BitVec 32 := 16#32
  let v351 : BitVec 32 := Scalar.muli v2 c16_i32_243
  let v352 : BitVec 32 := Scalar.addi c0_i32_244 v351
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_245 : BitVec 32 := 4#32
  let v353 : BitVec 32 := Scalar.muli v5 c4_i32_245
  let v354 : BitVec 32 := Scalar.addi v352 v353
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.subi v8 c1_i32_4
  let c0_i32_5 : BitVec 32 := 0#32
  let v14 : BitVec 32 := Scalar.maxsi v13 c0_i32_5
  let c1_i32_246 : BitVec 32 := 1#32
  let v355 : BitVec 32 := Scalar.muli v14 c1_i32_246
  let v356 : BitVec 32 := Scalar.addi v354 v355
  v356.toNat
def k0_cond37 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_142 : BitVec 32 := 3#32
  let v220 : BitVec 1 := Scalar.cmpi .sge v8 c3_i32_142
  let v221 : BitVec 32 := Scalar.extui v220
  let c0_i32_143 : BitVec 32 := 0#32
  let v222 : BitVec 1 := Scalar.cmpi .ne v221 c0_i32_143
  v222

def k0_off37 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c0_i32_238 : BitVec 32 := 0#32
  let v350 : BitVec 32 := Scalar.addi v23 c0_i32_238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_236 : BitVec 32 := 3#32
  let v348 : BitVec 32 := Scalar.subi v8 c3_i32_236
  let c128_i32_237 : BitVec 32 := 128#32
  let v349 : BitVec 32 := Scalar.muli v348 c128_i32_237
  ![v350.toNat, v349.toNat]
def k0_cond38 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_144 : BitVec 32 := 3#32
  let v223 : BitVec 32 := Scalar.addi v8 c3_i32_144
  let c3_i32_145 : BitVec 32 := 3#32
  let v224 : BitVec 1 := Scalar.cmpi .sle v223 c3_i32_145
  let v225 : BitVec 32 := Scalar.extui v224
  let c0_i32_146 : BitVec 32 := 0#32
  let v226 : BitVec 1 := Scalar.cmpi .ne v225 c0_i32_146
  v226

def k0_off38 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c0_i32_238 : BitVec 32 := 0#32
  let v350 : BitVec 32 := Scalar.addi v23 c0_i32_238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_236 : BitVec 32 := 3#32
  let v348 : BitVec 32 := Scalar.addi v8 c3_i32_236
  let c128_i32_237 : BitVec 32 := 128#32
  let v349 : BitVec 32 := Scalar.muli v348 c128_i32_237
  ![v350.toNat, v349.toNat]
def k0_off39 (d0 : Dev nD) (c0_i32_147 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let v227 : BitVec 32 := Scalar.addi v23 c0_i32_147
  let c0_i32_154 : BitVec 32 := 0#32
  ![v227.toNat, 0]
def k0_dev30 (d0 : Dev nD) : Nat :=
  let c0_i32_151 : BitVec 32 := 0#32
  let c1_i32_8 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v17 : BitVec 32 := Scalar.subi c1_i32_8 v2
  let c16_i32_150 : BitVec 32 := 16#32
  let v228 : BitVec 32 := Scalar.muli v17 c16_i32_150
  let v229 : BitVec 32 := Scalar.addi c0_i32_151 v228
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_152 : BitVec 32 := 4#32
  let v230 : BitVec 32 := Scalar.muli v5 c4_i32_152
  let v231 : BitVec 32 := Scalar.addi v229 v230
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_153 : BitVec 32 := 1#32
  let v232 : BitVec 32 := Scalar.muli v8 c1_i32_153
  let v233 : BitVec 32 := Scalar.addi v231 v232
  v233.toNat
def k0_cond39 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_156 : BitVec 32 := 3#32
  let v240 : BitVec 1 := Scalar.cmpi .sge v8 c3_i32_156
  let v241 : BitVec 32 := Scalar.extui v240
  let c0_i32_157 : BitVec 32 := 0#32
  let v242 : BitVec 1 := Scalar.cmpi .ne v241 c0_i32_157
  v242

def k0_off40 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c512_i32_238 : BitVec 32 := 512#32
  let v350 : BitVec 32 := Scalar.addi v23 c512_i32_238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_236 : BitVec 32 := 3#32
  let v348 : BitVec 32 := Scalar.subi v8 c3_i32_236
  let c128_i32_237 : BitVec 32 := 128#32
  let v349 : BitVec 32 := Scalar.muli v348 c128_i32_237
  ![v350.toNat, v349.toNat]
def k0_cond40 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_158 : BitVec 32 := 3#32
  let v243 : BitVec 32 := Scalar.addi v8 c3_i32_158
  let c3_i32_159 : BitVec 32 := 3#32
  let v244 : BitVec 1 := Scalar.cmpi .sle v243 c3_i32_159
  let v245 : BitVec 32 := Scalar.extui v244
  let c0_i32_160 : BitVec 32 := 0#32
  let v246 : BitVec 1 := Scalar.cmpi .ne v245 c0_i32_160
  v246

def k0_off41 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c512_i32_238 : BitVec 32 := 512#32
  let v350 : BitVec 32 := Scalar.addi v23 c512_i32_238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_236 : BitVec 32 := 3#32
  let v348 : BitVec 32 := Scalar.addi v8 c3_i32_236
  let c128_i32_237 : BitVec 32 := 128#32
  let v349 : BitVec 32 := Scalar.muli v348 c128_i32_237
  ![v350.toNat, v349.toNat]
def k0_dev31 (d0 : Dev nD) : Nat :=
  let c0_i32_165 : BitVec 32 := 0#32
  let c1_i32_8 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v17 : BitVec 32 := Scalar.subi c1_i32_8 v2
  let c16_i32_164 : BitVec 32 := 16#32
  let v248 : BitVec 32 := Scalar.muli v17 c16_i32_164
  let v249 : BitVec 32 := Scalar.addi c0_i32_165 v248
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_166 : BitVec 32 := 4#32
  let v250 : BitVec 32 := Scalar.muli v5 c4_i32_166
  let v251 : BitVec 32 := Scalar.addi v249 v250
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_167 : BitVec 32 := 1#32
  let v252 : BitVec 32 := Scalar.muli v8 c1_i32_167
  let v253 : BitVec 32 := Scalar.addi v251 v252
  v253.toNat
def k0_off42 (d0 : Dev nD) (c0_i32_170 : BitVec 32) : Fin 2 → Nat :=
  let c1_i32_8 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v17 : BitVec 32 := Scalar.subi c1_i32_8 v2
  let c1024_i32_13 : BitVec 32 := 1024#32
  let v24 : BitVec 32 := Scalar.muli v17 c1024_i32_13
  let v260 : BitVec 32 := Scalar.addi v24 c0_i32_170
  let c0_i32_177 : BitVec 32 := 0#32
  ![v260.toNat, 0]
def k0_cond45 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_196 : BitVec 32 := 3#32
  let v294 : BitVec 1 := Scalar.cmpi .slt v8 c3_i32_196
  let v295 : BitVec 32 := Scalar.extui v294
  let c0_i32_197 : BitVec 32 := 0#32
  let v296 : BitVec 1 := Scalar.cmpi .ne v295 c0_i32_197
  v296

def k0_off43 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c0_i32_236 : BitVec 32 := 0#32
  let v348 : BitVec 32 := Scalar.addi v23 c0_i32_236
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32 : BitVec 32 := 128#32
  let v22 : BitVec 32 := Scalar.muli v8 c128_i32
  ![v348.toNat, v22.toNat]
def k0_cond46 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_198 : BitVec 32 := 1#32
  let v297 : BitVec 1 := Scalar.cmpi .sge v8 c1_i32_198
  let c3_i32_199 : BitVec 32 := 3#32
  let v298 : BitVec 1 := Scalar.cmpi .slt v8 c3_i32_199
  let v299 : BitVec 1 := Scalar.andi v297 v298
  let v300 : BitVec 32 := Scalar.extui v299
  let c0_i32_200 : BitVec 32 := 0#32
  let v301 : BitVec 1 := Scalar.cmpi .ne v300 c0_i32_200
  v301

def k0_off44 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c0_i32_238 : BitVec 32 := 0#32
  let v350 : BitVec 32 := Scalar.addi v23 c0_i32_238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_236 : BitVec 32 := 1#32
  let v348 : BitVec 32 := Scalar.subi v8 c1_i32_236
  let c128_i32_237 : BitVec 32 := 128#32
  let v349 : BitVec 32 := Scalar.muli v348 c128_i32_237
  ![v350.toNat, v349.toNat]
def k0_cond47 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_201 : BitVec 32 := 2#32
  let v302 : BitVec 1 := Scalar.cmpi .eq v8 c2_i32_201
  let v303 : BitVec 32 := Scalar.extui v302
  let c0_i32_202 : BitVec 32 := 0#32
  let v304 : BitVec 1 := Scalar.cmpi .ne v303 c0_i32_202
  v304

def k0_off45 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c0_i32_238 : BitVec 32 := 0#32
  let v350 : BitVec 32 := Scalar.addi v23 c0_i32_238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_236 : BitVec 32 := 2#32
  let v348 : BitVec 32 := Scalar.subi v8 c2_i32_236
  let c128_i32_237 : BitVec 32 := 128#32
  let v349 : BitVec 32 := Scalar.muli v348 c128_i32_237
  ![v350.toNat, v349.toNat]
def k0_cond48 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_203 : BitVec 32 := 0#32
  let v305 : BitVec 1 := Scalar.cmpi .sgt v8 c0_i32_203
  let v306 : BitVec 32 := Scalar.extui v305
  let c0_i32_204 : BitVec 32 := 0#32
  let v307 : BitVec 1 := Scalar.cmpi .ne v306 c0_i32_204
  v307

def k0_off46 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c0_i32_236 : BitVec 32 := 0#32
  let v348 : BitVec 32 := Scalar.addi v23 c0_i32_236
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32 : BitVec 32 := 128#32
  let v22 : BitVec 32 := Scalar.muli v8 c128_i32
  ![v348.toNat, v22.toNat]
def k0_cond49 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_205 : BitVec 32 := 2#32
  let v308 : BitVec 1 := Scalar.cmpi .sle v8 c2_i32_205
  let c0_i32_206 : BitVec 32 := 0#32
  let v309 : BitVec 1 := Scalar.cmpi .sgt v8 c0_i32_206
  let v310 : BitVec 1 := Scalar.andi v308 v309
  let v311 : BitVec 32 := Scalar.extui v310
  let c0_i32_207 : BitVec 32 := 0#32
  let v312 : BitVec 1 := Scalar.cmpi .ne v311 c0_i32_207
  v312

def k0_off47 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c0_i32_238 : BitVec 32 := 0#32
  let v350 : BitVec 32 := Scalar.addi v23 c0_i32_238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_236 : BitVec 32 := 1#32
  let v348 : BitVec 32 := Scalar.addi v8 c1_i32_236
  let c128_i32_237 : BitVec 32 := 128#32
  let v349 : BitVec 32 := Scalar.muli v348 c128_i32_237
  ![v350.toNat, v349.toNat]
def k0_cond50 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_208 : BitVec 32 := 1#32
  let v313 : BitVec 1 := Scalar.cmpi .eq v8 c1_i32_208
  let v314 : BitVec 32 := Scalar.extui v313
  let c0_i32_209 : BitVec 32 := 0#32
  let v315 : BitVec 1 := Scalar.cmpi .ne v314 c0_i32_209
  v315

def k0_off48 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c0_i32_238 : BitVec 32 := 0#32
  let v350 : BitVec 32 := Scalar.addi v23 c0_i32_238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_236 : BitVec 32 := 2#32
  let v348 : BitVec 32 := Scalar.addi v8 c2_i32_236
  let c128_i32_237 : BitVec 32 := 128#32
  let v349 : BitVec 32 := Scalar.muli v348 c128_i32_237
  ![v350.toNat, v349.toNat]
def k0_cond51 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_216 : BitVec 32 := 3#32
  let v321 : BitVec 1 := Scalar.cmpi .slt v8 c3_i32_216
  let v322 : BitVec 32 := Scalar.extui v321
  let c0_i32_217 : BitVec 32 := 0#32
  let v323 : BitVec 1 := Scalar.cmpi .ne v322 c0_i32_217
  v323

def k0_off49 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c512_i32_236 : BitVec 32 := 512#32
  let v348 : BitVec 32 := Scalar.addi v23 c512_i32_236
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32 : BitVec 32 := 128#32
  let v22 : BitVec 32 := Scalar.muli v8 c128_i32
  ![v348.toNat, v22.toNat]
def k0_cond52 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_218 : BitVec 32 := 1#32
  let v324 : BitVec 1 := Scalar.cmpi .sge v8 c1_i32_218
  let c3_i32_219 : BitVec 32 := 3#32
  let v325 : BitVec 1 := Scalar.cmpi .slt v8 c3_i32_219
  let v326 : BitVec 1 := Scalar.andi v324 v325
  let v327 : BitVec 32 := Scalar.extui v326
  let c0_i32_220 : BitVec 32 := 0#32
  let v328 : BitVec 1 := Scalar.cmpi .ne v327 c0_i32_220
  v328

def k0_off50 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c512_i32_238 : BitVec 32 := 512#32
  let v350 : BitVec 32 := Scalar.addi v23 c512_i32_238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_236 : BitVec 32 := 1#32
  let v348 : BitVec 32 := Scalar.subi v8 c1_i32_236
  let c128_i32_237 : BitVec 32 := 128#32
  let v349 : BitVec 32 := Scalar.muli v348 c128_i32_237
  ![v350.toNat, v349.toNat]
def k0_cond53 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_221 : BitVec 32 := 2#32
  let v329 : BitVec 1 := Scalar.cmpi .eq v8 c2_i32_221
  let v330 : BitVec 32 := Scalar.extui v329
  let c0_i32_222 : BitVec 32 := 0#32
  let v331 : BitVec 1 := Scalar.cmpi .ne v330 c0_i32_222
  v331

def k0_off51 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c512_i32_238 : BitVec 32 := 512#32
  let v350 : BitVec 32 := Scalar.addi v23 c512_i32_238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_236 : BitVec 32 := 2#32
  let v348 : BitVec 32 := Scalar.subi v8 c2_i32_236
  let c128_i32_237 : BitVec 32 := 128#32
  let v349 : BitVec 32 := Scalar.muli v348 c128_i32_237
  ![v350.toNat, v349.toNat]
def k0_cond54 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_223 : BitVec 32 := 0#32
  let v332 : BitVec 1 := Scalar.cmpi .sgt v8 c0_i32_223
  let v333 : BitVec 32 := Scalar.extui v332
  let c0_i32_224 : BitVec 32 := 0#32
  let v334 : BitVec 1 := Scalar.cmpi .ne v333 c0_i32_224
  v334

def k0_off52 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c512_i32_236 : BitVec 32 := 512#32
  let v348 : BitVec 32 := Scalar.addi v23 c512_i32_236
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32 : BitVec 32 := 128#32
  let v22 : BitVec 32 := Scalar.muli v8 c128_i32
  ![v348.toNat, v22.toNat]
def k0_cond55 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_225 : BitVec 32 := 2#32
  let v335 : BitVec 1 := Scalar.cmpi .sle v8 c2_i32_225
  let c0_i32_226 : BitVec 32 := 0#32
  let v336 : BitVec 1 := Scalar.cmpi .sgt v8 c0_i32_226
  let v337 : BitVec 1 := Scalar.andi v335 v336
  let v338 : BitVec 32 := Scalar.extui v337
  let c0_i32_227 : BitVec 32 := 0#32
  let v339 : BitVec 1 := Scalar.cmpi .ne v338 c0_i32_227
  v339

def k0_off53 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c512_i32_238 : BitVec 32 := 512#32
  let v350 : BitVec 32 := Scalar.addi v23 c512_i32_238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_236 : BitVec 32 := 1#32
  let v348 : BitVec 32 := Scalar.addi v8 c1_i32_236
  let c128_i32_237 : BitVec 32 := 128#32
  let v349 : BitVec 32 := Scalar.muli v348 c128_i32_237
  ![v350.toNat, v349.toNat]
def k0_cond56 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_228 : BitVec 32 := 1#32
  let v340 : BitVec 1 := Scalar.cmpi .eq v8 c1_i32_228
  let v341 : BitVec 32 := Scalar.extui v340
  let c0_i32_229 : BitVec 32 := 0#32
  let v342 : BitVec 1 := Scalar.cmpi .ne v341 c0_i32_229
  v342

def k0_off54 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v23 : BitVec 32 := Scalar.muli v2 c1024_i32
  let c512_i32_238 : BitVec 32 := 512#32
  let v350 : BitVec 32 := Scalar.addi v23 c512_i32_238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_236 : BitVec 32 := 2#32
  let v348 : BitVec 32 := Scalar.addi v8 c2_i32_236
  let c128_i32_237 : BitVec 32 := 128#32
  let v349 : BitVec 32 := Scalar.muli v348 c128_i32_237
  ![v350.toNat, v349.toNat]
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x512 : Shape := ⟨2, ![8192, 512]⟩
abbrev S4x2048x512 : Shape := ⟨3, ![4, 2048, 512]⟩
abbrev S_ : Shape := ⟨0, ![]⟩
abbrev S2048x512 : Shape := ⟨2, ![2048, 512]⟩

abbrev nBuf : Space → Nat
  | .hbm => 4
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S4x2048x512, .f32⟩
  | .hbm, ⟨2, _⟩ => ⟨S_, .f32⟩
  | .hbm, ⟨3, _⟩ => ⟨S2048x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Topo.lean ====
/-
  The mesh and the channels of the all-reduce kernel.

  Device `c` of the 2 x 4 x 4 mesh has coordinates `px c` (axis x), `py c` (axis y, the axis summed over) and
  `pz c` (axis z). A channel is one kind of remote copy with its pair of semaphores: the two sums that travel up and
  down the y axis, the tiles forwarded right and left along z, the row blocks exchanged across x. Which device sends
  on which channel, and to whom, is stated here, with the semaphores of every channel.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.AllReduce

open Cert.KernelIdeal Cert.KernelIdeal.Gen
open Idealize.ShloMosaic Idealize.ShloMosaic.TcCoe

/-! ## Coordinates -/

/-- The coordinate of device `c` along axis x. -/
def px (c : Dev nD) : ℕ := c.val / 16
/-- The coordinate of device `c` along axis y. -/
def py (c : Dev nD) : ℕ := c.val / 4 % 4
/-- The coordinate of device `c` along axis z. -/
def pz (c : Dev nD) : ℕ := c.val % 4

/-- There are two places along x. -/
theorem px_lt (c : Dev nD) : px c < 2 := by have h : c.val < 32 := c.isLt; unfold px; omega
/-- There are four places along y. -/
theorem py_lt (c : Dev nD) : py c < 4 := by unfold py; omega
/-- There are four places along z. -/
theorem pz_lt (c : Dev nD) : pz c < 4 := by unfold pz; omega

/-- The device at given coordinates (taken modulo the extents). -/
def dev (x y z : ℕ) : Dev nD := ⟨16 * (x % 2) + 4 * (y % 4) + z % 4, by show _ < 32; omega⟩

/-- The x coordinate of the device at given coordinates. -/
theorem px_dev (x y z : ℕ) : px (dev x y z) = x % 2 := by show (16 * (x % 2) + 4 * (y % 4) + z % 4) / 16 = _; omega
/-- The y coordinate of the device at given coordinates. -/
theorem py_dev (x y z : ℕ) : py (dev x y z) = y % 4 := by show (16 * (x % 2) + 4 * (y % 4) + z % 4) / 4 % 4 = _; omega
/-- The z coordinate of the device at given coordinates. -/
theorem pz_dev (x y z : ℕ) : pz (dev x y z) = z % 4 := by show (16 * (x % 2) + 4 * (y % 4) + z % 4) % 4 = _; omega

/-- A device is the one at its own coordinates. -/
theorem dev_self (c : Dev nD) : dev (px c) (py c) (pz c) = c := by
  have h : c.val < 32 := c.isLt
  apply Fin.ext
  show 16 * (c.val / 16 % 2) + 4 * (c.val / 4 % 4 % 4) + c.val % 4 % 4 = c.val
  omega

/-- Devices with the same coordinates are the same. -/
theorem dev_ext {c c' : Dev nD} (hx : px c = px c') (hy : py c = py c') (hz : pz c = pz c') : c = c' := by
  rw [← dev_self c, ← dev_self c', hx, hy, hz]

/-- Where a device stands relative to the neighbours it talks to: number 0 is the next device along y, 1 the previous
    along y, 2 the next along z, 3 the previous along z (each with wrap-around), 4 the other device along x. -/
def step (j : Fin 5) (c : Dev nD) : Dev nD := match j with
  | 0 => dev (px c) (py c + 1) (pz c)
  | 1 => dev (px c) (py c + 3) (pz c)
  | 2 => dev (px c) (py c) (pz c + 1)
  | 3 => dev (px c) (py c) (pz c + 3)
  | 4 => dev (px c + 1) (py c) (pz c)

/-- The number of the neighbour seen from the other side. -/
def opp (j : Fin 5) : Fin 5 := match j with
  | 0 => 1 | 1 => 0 | 2 => 3 | 3 => 2 | 4 => 4

/-- A step back and then forth leads to the same device. -/
theorem step_opp : ∀ (j : Fin 5) (c : Dev nD), step j (step (opp j) c) = c := by decide +kernel
/-- A step forth and then back leads to the same device. -/
theorem opp_step : ∀ (j : Fin 5) (c : Dev nD), step (opp j) (step j c) = c := by decide +kernel

/-- Going to neighbour `j`, as a permutation of the devices. -/
def nb (j : Fin 5) : Dev nD ≃ Dev nD := ⟨step j, step (opp j), opp_step j, step_opp j⟩

/-! ## Channels -/

/-- The channels: `yp a` and `ys a` the sums from the devices before and after along y (half `a` of the rows), `r d s`
    and `l d s` the tiles that travel right and left along z (tile at distance `d`, half `s`), `x s` the rows exchanged
    across x. -/
inductive Ch where
  | yp (a : Fin 2)
  | ys (a : Fin 2)
  | r (d : Fin 3) (s : Fin 2)
  | l (d : Fin 3) (s : Fin 2)
  | x (s : Fin 2)
deriving DecidableEq

/-- Every channel, listed. -/
def chans : List Ch :=
  [.yp 0, .yp 1, .ys 0, .ys 1, .r 0 0, .r 0 1, .r 1 0, .r 1 1, .r 2 0, .r 2 1,
    .l 0 0, .l 0 1, .l 1 0, .l 1 1, .l 2 0, .l 2 1, .x 0, .x 1]

/-- The list of channels names each once. -/
theorem chans_nodup : chans.Nodup := by decide +kernel
/-- The list of channels is complete. -/
theorem mem_chans : ∀ k : Ch, k ∈ chans
  | .yp a => by revert a; decide +kernel
  | .ys a => by revert a; decide +kernel
  | .r d s => by revert d s; decide +kernel
  | .l d s => by revert d s; decide +kernel
  | .x s => by revert s; decide +kernel

instance : Fintype Ch := ⟨⟨chans, chans_nodup⟩, mem_chans⟩

/-- Does device `c` send on channel `k`? -/
def act (k : Ch) (c : Dev nD) : Bool := match k with
  | .yp _ => (py c).ble 2
  | .ys _ => Nat.ble 1 (py c)
  | .r d _ => (pz c).ble 2 && Nat.ble d.val (pz c)
  | .l d _ => Nat.ble 1 (pz c) && Nat.ble (pz c + d.val) 3
  | .x _ => true

/-- The neighbour that a channel's copies go to. -/
def grp (k : Ch) : Fin 5 := match k with
  | .yp _ => 0 | .ys _ => 1 | .r _ _ => 2 | .l _ _ => 3 | .x _ => 4

/-- The receiver of device `c`'s copy on channel `k`. -/
abbrev dst (k : Ch) (c : Dev nD) : Dev nD := nb (grp k) c
/-- The device whose copy on channel `k` device `c` would receive. -/
abbrev src (k : Ch) (c : Dev nD) : Dev nD := (nb (grp k)).symm c

/-- Does device `c` receive on channel `k`? -/
def rcv (k : Ch) (c : Dev nD) : Bool := act k (src k c)

/-- The source of what a device sends is that device. -/
theorem src_dst (k : Ch) (c : Dev nD) : src k (dst k c) = c := (nb (grp k)).symm_apply_apply c
/-- The destination of what comes to a device is that device. -/
theorem dst_src (k : Ch) (c : Dev nD) : dst k (src k c) = c := (nb (grp k)).apply_symm_apply c
/-- Something comes on a channel exactly if its sender uses it. -/
theorem rcv_dst (k : Ch) (c : Dev nD) : rcv k (dst k c) = act k c := by unfold rcv; rw [src_dst]

/-! ## Semaphores -/

/-- The semaphore a channel's copy signals at the sender. -/
def sndIx (k : Ch) : DmaSem sig := match k with
  | .yp a => ⟨2 + a.val, by show _ < 38; omega⟩
  | .ys a => ⟨6 + a.val, by show _ < 38; omega⟩
  | .r d s => ⟨10 + 2 * d.val + s.val, by show _ < 38; omega⟩
  | .l d s => ⟨22 + 2 * d.val + s.val, by show _ < 38; omega⟩
  | .x s => ⟨34 + s.val, by show _ < 38; omega⟩

/-- The semaphore a channel's copy signals at the receiver. -/
def rcvIx (k : Ch) : DmaSem sig := match k with
  | .yp a => ⟨4 + a.val, by show _ < 38; omega⟩
  | .ys a => ⟨8 + a.val, by show _ < 38; omega⟩
  | .r d s => ⟨16 + 2 * d.val + s.val, by show _ < 38; omega⟩
  | .l d s => ⟨28 + 2 * d.val + s.val, by show _ < 38; omega⟩
  | .x s => ⟨36 + s.val, by show _ < 38; omega⟩

/-- A device's semaphores that the kernel uses: the barrier, and per channel the sender's and the receiver's. -/
inductive Cell where
  | bar
  | snd (k : Ch)
  | rcv (k : Ch)
deriving DecidableEq

/-- Every cell, listed. -/
def cellList : List Cell := .bar :: (chans.map .snd ++ chans.map .rcv)
/-- The list of cells names each once. -/
theorem cellList_nodup : cellList.Nodup := by decide +kernel
/-- The list of cells is complete. -/
theorem mem_cellList (i : Cell) : i ∈ cellList := by
  rcases i with - | k | k
  · exact List.mem_cons_self
  · exact List.mem_cons_of_mem _ (List.mem_append_left _ (List.mem_map_of_mem (mem_chans k)))
  · exact List.mem_cons_of_mem _ (List.mem_append_right _ (List.mem_map_of_mem (mem_chans k)))
instance : Fintype Cell := ⟨⟨cellList, cellList_nodup⟩, mem_cellList⟩

/-- The barrier semaphore. -/
abbrev barS : Sem sig := (SemArray.scalar (sig.barrier 0 rfl) : Sems sig S_).sem

/-- The semaphore of a cell. -/
def csem (i : Cell) : SemLoc sig := match i with
  | .bar => .reg barS
  | .snd k => .dma (sndIx k)
  | .rcv k => .dma (rcvIx k)

/-- Different cells have different semaphores. -/
theorem csem_inj : ∀ i i' : Cell, csem i = csem i' → i = i' := by decide +kernel

/-- The cell `i` of device `c`. -/
abbrev gcell (c : Dev nD) (i : Cell) : GSem nD τ sig := ((c : Thread nD τ), csem i)

/-- The cell a semaphore is, if it is one. -/
def decode (s : SemLoc sig) : Option Cell := cellList.find? fun i => decide (csem i = s)

/-- A cell's semaphore determines it. -/
theorem decode_csem : ∀ i : Cell, decode (csem i) = some i := by decide +kernel
/-- A semaphore that is no cell's belongs to none. -/
theorem decode_none_of {s : SemLoc sig} (h : ∀ i, csem i ≠ s) : decode s = none :=
  List.find?_eq_none.mpr fun i _ hi => h i (of_decide_eq_true hi)

end Cert.AllReduce
-- ==== Proof.Contents.lean ====
/-
  The regions of the kernel's buffers and what they hold.

  A tile is 512 rows by 128 columns of the result, a slot is one half of a scratch buffer. Per channel: the region a
  copy reads at the sender (`srcMem`), the region it fills at the receiver (`dstMem`), the place of its elements in the
  result (`pos`) and the values it carries (`val`): a partial sum along the y axis, or tiles of the finished result.
-/
module

public import proofs.«01_k».proof.Proof.Topo

@[expose] public section

noncomputable section

namespace Cert.AllReduce

open Cert.KernelIdeal Cert.KernelIdeal.Gen
open Idealize.ShloMosaic Idealize.ShloMosaic.TcCoe

variable {F : FTy → Type} [FloatOps F]

/-! ## Regions -/

/-- The memrefs of a TensorCore's vector memory. -/
abbrev MS (s : Shape) : Type := Memref sig .tc .vmem s .f32

/-- The argument's staging buffer. -/
abbrev xM : MS S2048x512 := Memref.whole cc0_stg0_0
/-- The result's staging buffer. -/
abbrev oM : MS S2048x512 := Memref.whole cc0_stg1_0
/-- The landing buffer of a sum along y: `true` for the sums from before, `false` for the sums from after. -/
def inM (p : Bool) : MS S2x512x128 := match p with
  | true => Memref.whole cc0_scratch0
  | false => Memref.whole cc0_scratch2
/-- The outgoing buffer of a sum along y. -/
def upM (p : Bool) : MS S2x512x128 := match p with
  | true => Memref.whole cc0_scratch1
  | false => Memref.whole cc0_scratch3

/-- Where slot `a` begins. -/
def slotOff (a : Fin 2) : Fin 3 → ℕ := ![a.val, 0, 0]
/-- A slot lies in its buffer. -/
theorem slotOff_inb (a : Fin 2) : ∀ i, slotOff a i + S1x512x128.size i ≤ S2x512x128.size i := by revert a; decide
/-- Where the tile of row half `s` and column block `j` begins on device `c`. -/
def tileOff (c : Dev nD) (s : Fin 2) (j : Fin 4) : Fin 2 → ℕ := ![1024 * px c + 512 * s.val, 128 * j.val]
/-- A tile lies in the result. -/
theorem tileOff_inb : ∀ c s j, ∀ i, tileOff c s j i + S512x128.size i ≤ S2048x512.size i := by decide +kernel
/-- Where the rows of half `s` begin on device `c`. -/
def rowsOff (c : Dev nD) (s : Fin 2) : Fin 2 → ℕ := ![1024 * px c + 512 * s.val, 0]
/-- A half's rows lie in the result. -/
theorem rowsOff_inb : ∀ c s, ∀ i, rowsOff c s i + S512x512.size i ≤ S2048x512.size i := by decide +kernel

/-- A slot of a scratch buffer, at a given offset. -/
abbrev slotM (M : MS S2x512x128) (o : Fin 3 → ℕ) (h : ∀ i, o i + S1x512x128.size i ≤ S2x512x128.size i) : MS S512x128 :=
  (M.slice (Rect.unit (s := S2x512x128) o S1x512x128.size h) (fun _ => rfl)).squeeze S512x128 squeezes_S1x512x128_S512x128
/-- A tile of the result, at a given offset. -/
abbrev tileM (o : Fin 2 → ℕ) (h : ∀ i, o i + S512x128.size i ≤ S2048x512.size i) : MS S512x128 :=
  oM.slice (Rect.unit (s := S2048x512) o S512x128.size h) (fun _ => rfl)
/-- A block of rows of the result, at a given offset. -/
abbrev rowsM (o : Fin 2 → ℕ) (h : ∀ i, o i + S512x512.size i ≤ S2048x512.size i) : MS S512x512 :=
  oM.slice (Rect.unit (s := S2048x512) o S512x512.size h) (fun _ => rfl)

/-- The rectangle of a tile. -/
abbrev tileR (c : Dev nD) (s : Fin 2) (j : Fin 4) : Rect S2048x512 :=
  Rect.unit (s := S2048x512) (tileOff c s j) S512x128.size (tileOff_inb c s j)
/-- The rectangle of a block of rows. -/
abbrev rowsR (c : Dev nD) (s : Fin 2) : Rect S2048x512 :=
  Rect.unit (s := S2048x512) (rowsOff c s) S512x512.size (rowsOff_inb c s)

/-- The shape of what a channel's copy moves. -/
def kShape (k : Ch) : Shape := match k with
  | .x _ => S512x512
  | .yp _ => S512x128 | .ys _ => S512x128 | .r _ _ => S512x128 | .l _ _ => S512x128

/-- The row half a channel works on. -/
def half (k : Ch) : Fin 2 := match k with
  | .yp a => a | .ys a => a | .r _ s => s | .l _ s => s | .x s => s
/-- The column block of the tile a channel's copy reads on device `c`. -/
def tcol (k : Ch) (c : Dev nD) : Fin 4 := match k with
  | .r d _ => ⟨pz c - d.val, by have := pz_lt c; omega⟩
  | .l d _ => ⟨(pz c + d.val) % 4, by omega⟩
  | .yp _ => ⟨pz c, pz_lt c⟩ | .ys _ => ⟨pz c, pz_lt c⟩ | .x _ => ⟨pz c, pz_lt c⟩

/-- A device's own column block. -/
def zcol (c : Dev nD) : Fin 4 := ⟨pz c, pz_lt c⟩

/-- What a copy on channel `k` reads on the sending device `c`. -/
def srcMem : (k : Ch) → Dev nD → MS (kShape k)
  | .yp a, c => slotM (upM true) (slotOff a) (slotOff_inb a)
  | .ys a, c => slotM (upM false) (slotOff a) (slotOff_inb a)
  | .r d s, c => tileM (tileOff c s (tcol (.r d s) c)) (tileOff_inb _ _ _)
  | .l d s, c => tileM (tileOff c s (tcol (.l d s) c)) (tileOff_inb _ _ _)
  | .x s, c => rowsM (rowsOff c s) (rowsOff_inb _ _)

/-- What a copy on channel `k` from device `c` fills on the receiving device. -/
def dstMem : (k : Ch) → Dev nD → MS (kShape k)
  | .yp a, c => slotM (inM true) (slotOff a) (slotOff_inb a)
  | .ys a, c => slotM (inM false) (slotOff a) (slotOff_inb a)
  | .r d s, c => tileM (tileOff c s (tcol (.r d s) c)) (tileOff_inb _ _ _)
  | .l d s, c => tileM (tileOff c s (tcol (.l d s) c)) (tileOff_inb _ _ _)
  | .x s, c => rowsM (rowsOff c s) (rowsOff_inb _ _)

/-- The place in the result of an element a copy on channel `k` from device `c` moves. -/
def pos : (k : Ch) → (c : Dev nD) → (kShape k).Idx → S2048x512.Idx
  | .yp a, c => fun i => (tileR c a (zcol c)).emb i
  | .ys a, c => fun i => (tileR c a (zcol c)).emb i
  | .r d s, c => fun i => (tileR c s (tcol (.r d s) c)).emb i
  | .l d s, c => fun i => (tileR c s (tcol (.l d s) c)).emb i
  | .x s, c => fun i => (rowsR c s).emb i

/-- The units a copy on channel `k` adds to its semaphores. -/
def amt (k : Ch) : ℕ := (dstMem k 0).view.dmaCredit
/-- A copy credits its semaphores with the channel's amount. -/
theorem amt_eq (k : Ch) (c : Dev nD) : (dstMem k c).view.dmaCredit = amt k := by cases k <;> rfl
/-- A channel's amount is not zero. -/
theorem amt_pos (k : Ch) : 0 < amt k := View.dmaCredit_pos _ (by revert k; decide +kernel)

/-! ## Values -/

/-- A block of the argument, or the result. -/
abbrev Blk (F : FTy → Type) : Type := FVec F S2048x512 .f32

/-- The device with y coordinate `y` that works on the element at `i`. -/
def worker (y : ℕ) (i : S2048x512.Idx) : Dev nD := dev ((i 0).val / 1024) y ((i 1).val / 128)

variable (X : Dev nD → Blk F)

/-- The argument's block of y coordinate `y`, each element as its worker holds it. -/
def xat (y : ℕ) : Blk F := fun i => X (worker y i) i
/-- The sum of the blocks `0..y`, from the first. -/
def pre : ℕ → Blk F
  | 0 => xat X 0
  | y + 1 => addf (pre y) (xat X (y + 1))
/-- The sum of the last `n + 1` blocks, from the last. -/
def sufR : ℕ → Blk F
  | 0 => xat X 3
  | n + 1 => addf (sufR n) (xat X (2 - n))
/-- The sum of the blocks `y..3`, from the last. -/
def suf (y : ℕ) : Blk F := sufR X (3 - y)
/-- The result as the devices of y coordinate `y` compute it. -/
def outF (y : ℕ) : Blk F := match y with
  | 0 => addf (xat X 0) (suf X 1)
  | 3 => addf (xat X 3) (pre X 2)
  | y => addf (addf (xat X y) (pre X (y - 1))) (suf X (y + 1))

/-- The array that a copy on channel `k` from device `c` carries a part of. -/
def garr (k : Ch) (c : Dev nD) : Blk F := match k with
  | .yp _ => pre X (py c) | .ys _ => suf X (py c)
  | .r _ _ => outF X (py c) | .l _ _ => outF X (py c) | .x _ => outF X (py c)
/-- The values a copy on channel `k` from device `c` carries. -/
def val (k : Ch) (c : Dev nD) : (kShape k).Idx → F .f32 := fun i => garr X k c (pos k c i)

/-! ## The coordinates of a tile's elements -/

/-- Where an element of a rectangle lies: its index shifted by the rectangle's corner. -/
theorem emb_unit {s : Shape} (o size : Fin s.rank → ℕ) (h) (i : (Rect.unit (s := s) o size h).shape.Idx) (a : Fin s.rank) :
    ((Rect.unit (s := s) o size h).emb i a).val = o a + (i a).val := by
  show o a + 1 * (i a).val = _
  omega

/-- In its own column block a device works on every element. -/
theorem worker_tile (c : Dev nD) (s : Fin 2) (i : (tileR c s (zcol c)).shape.Idx) :
    worker (py c) ((tileR c s (zcol c)).emb i) = c := by
  have hi0 : (i 0).val < 512 := (i 0).isLt
  have hi1 : (i 1).val < 128 := (i 1).isLt
  have h0 : ((tileR c s (zcol c)).emb i 0).val = 1024 * px c + 512 * s.val + (i 0).val := emb_unit _ _ _ _ _
  have h1 : ((tileR c s (zcol c)).emb i 1).val = 128 * pz c + (i 1).val := emb_unit _ _ _ _ _
  have hx := px_lt c
  have hy := py_lt c
  have hz := pz_lt c
  have hs := s.isLt
  refine dev_ext ?_ ?_ ?_
  · unfold worker; rw [px_dev, h0]; omega
  · unfold worker; rw [py_dev]; omega
  · unfold worker; rw [pz_dev, h1]; omega

/-- What a device's own tile of the argument holds. -/
theorem xat_tile (c : Dev nD) (s : Fin 2) (i : (tileR c s (zcol c)).shape.Idx) :
    xat X (py c) ((tileR c s (zcol c)).emb i) = X c ((tileR c s (zcol c)).emb i) := by
  unfold xat; rw [worker_tile]

end Cert.AllReduce
-- ==== Proof.Logic.lean ====
/-
  The program logic's instance, regions holding given values, and the loads and stores of the kernel.

  `Holds c M q v`: the elements under the memref `M` on device `c`, at share `q`, read `v`. `Junk c M`: they are
  owned outright at some contents.
-/
module

public import proofs.«01_k».proof.Proof.Contents

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds' component of the ghost state: duties are numbered `0..4`. -/
abbrev UB : Type := URounds (GSem nD τ sig) (Fin 5)
/-- The ghost state: the pipeline's component and the rounds'. -/
abbrev UU : Type := UR sig nD τ × UB

local notation "𝕄" => MT nD τ sig Unit (Elt F) ℕ UU ℕ

/-- The pipeline's component. -/
abbrev EP : Emb (UR sig nD τ) (MT nD τ sig Unit (Elt F) ℕ UU ℕ) := embL
/-- The rounds' component. -/
abbrev ER : Emb UB (MT nD τ sig Unit (Elt F) ℕ UU ℕ) := embR

/-- No recursion measures. -/
abbrev 𝒱₀ : Variants := Variants.none

/-- The weakest precondition of a program on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The elements under `M` on device `c`, at share `q`, read `v`. -/
def Holds (c : Dev nD) {s : Shape} (M : MS s) (q : PosShare TreeShare) (v : s.Idx → F .f32) : sProp 𝕄 :=
  iprop(∃ f : Buf (Elt F) (M.view.loc (c : Thread nD τ)), (M.view.loc (c : Thread nD τ) ↦[M.view.set]{q} f) ∗ ⌜M.view.read (Elt F) f = v⌝)

/-- The elements under `M` on device `c`, owned outright, at some contents. -/
def Junk (c : Dev nD) {s : Shape} (M : MS s) : sProp 𝕄 :=
  iprop(∃ f : Buf (Elt F) (M.view.loc (c : Thread nD τ)), (M.view.loc (c : Thread nD τ) ↦[M.view.set]{fullShare} f))

omit [FloatOps F] in
instance holds_storable (c : Dev nD) {s : Shape} (M : MS s) (q) (v : s.Idx → F .f32) :
    BI.Storable (upEmb : UEmb _ 𝕄) (Holds c M q v) := by unfold Holds; infer_instance
omit [FloatOps F] in
instance junk_storable (c : Dev nD) {s : Shape} (M : MS s) :
    BI.Storable (upEmb : UEmb _ 𝕄) (Junk (F := F) c M) := by unfold Junk; infer_instance

/-- Outright ownership with known values is ownership at some contents. -/
theorem holds_junk (c : Dev nD) {s : Shape} (M : MS s) (v : s.Idx → F .f32) :
    Holds c M fullShare v ⊢ (Junk c M : sProp 𝕄) := by
  unfold Holds Junk
  iintro ⟨%f, H, -⟩
  iexists f; iexact H

/-- Contents that read the same through a view agree under it. -/
theorem eq_on_of_read {s : Shape} (M : MS s) {f g : M.view.ty.Contents (Elt F)}
    (h : M.view.read (Elt F) f = M.view.read (Elt F) g) : ∀ i ∈ M.view.set, f i = g i := by
  intro i hi
  obtain ⟨j, -, rfl⟩ := Finset.mem_map.mp hi
  have := congrFun h j
  rw [View.read_apply, View.read_apply] at this
  exact (cast_inj _).mp this

/-- Reading as `g` does is holding `g`. -/
theorem holds_eq (c : Dev nD) {s : Shape} (M : MS s) (q : PosShare TreeShare) (g : Buf (Elt F) (M.view.loc (c : Thread nD τ))) :
    (Holds c M q (M.view.read (Elt F) g) : sProp 𝕄) ⊣⊢ iprop(M.view.loc (c : Thread nD τ) ↦[M.view.set]{q} g) := by
  unfold Holds
  constructor
  · iintro ⟨%f, H, %h⟩
    iapply (Entails.of_eq (pointsTo_congr (eq_on_of_read M h))) $$ H
  · iintro H
    iexists g
    isplitl [H]; · iexact H
    ipureintro; rfl

/-! ## The result's staging buffer -/

/-- Elements `S` of the result's staging buffer on device `c`, at share `q`, with contents `g`. -/
def outPts (c : Dev nD) (S : Finset S2048x512.Idx) (q : PosShare TreeShare) (g : Blk F) : sProp 𝕄 :=
  (((c : Thread nD τ).loc cc0_stg1_0) ↦[S]{q} (g : Buf (Elt F) ((c : Thread nD τ).loc cc0_stg1_0)))

/-- A tile holding the values of `g` is `g` on the tile's rectangle. -/
theorem tile_pts (c : Dev nD) (o : Fin 2 → ℕ) (h) (q : PosShare TreeShare) (g : Blk F) :
    (Holds c (tileM o h) q (fun i => g ((Rect.unit (s := S2048x512) o S512x128.size h).emb i)) : sProp 𝕄)
      ⊣⊢ outPts c (Rect.unit (s := S2048x512) o S512x128.size h).set q g := by
  have e := holds_eq c (tileM o h) q (g : Buf (Elt F) ((c : Thread nD τ).loc cc0_stg1_0))
  have hs : (tileM o h).view.set = (Rect.unit (s := S2048x512) o S512x128.size h).set := View.set_slice_whole _ _
  rw [hs] at e
  exact e

/-- A block of rows holding the values of `g` is `g` on its rectangle. -/
theorem rows_pts (c : Dev nD) (o : Fin 2 → ℕ) (h) (q : PosShare TreeShare) (g : Blk F) :
    (Holds c (rowsM o h) q (fun i => g ((Rect.unit (s := S2048x512) o S512x512.size h).emb i)) : sProp 𝕄)
      ⊣⊢ outPts c (Rect.unit (s := S2048x512) o S512x512.size h).set q g := by
  have e := holds_eq c (rowsM o h) q (g : Buf (Elt F) ((c : Thread nD τ).loc cc0_stg1_0))
  have hs : (rowsM o h).view.set = (Rect.unit (s := S2048x512) o S512x512.size h).set := View.set_slice_whole _ _
  rw [hs] at e
  exact e

/-! ## Loads and stores -/

/-- The argument's staging buffer on device `c`, holding `f`. -/
def xPts (c : Dev nD) (f : Blk F) : sProp 𝕄 :=
  (((c : Thread nD τ).loc cc0_stg0_0) ↦{fullShare} (f : Buf (Elt F) ((c : Thread nD τ).loc cc0_stg0_0)))

variable {c : Dev nD} {α : Type}

/-- Loading a tile of the argument. -/
theorem load_x (o : Fin 2 → ℕ) (h : ∀ i, o i + S512x128.size i ≤ S2048x512.size i) (f : Blk F)
    {hl : xM.view.LoadsAt (Rect.unit (s := S2048x512) o S512x128.size h).toLoadRect}
    {k : Vec F S512x128 .f32 → Prog (TpuEff nD τ sig (Elt F) Λ₀ .tc) α} {Q : α → sProp 𝕄} :
    xPts c f ⊢ iprop((xPts c f -∗ WP c (k fun i => f ((Rect.unit (s := S2048x512) o S512x128.size h).emb i)) Q)
      -∗ WP c (.op (.load xM (Rect.unit (s := S2048x512) o S512x128.size h).toLoadRect hl) k) Q) := by
  unfold xPts
  iintro H Hk
  iapply (wp_load 𝒱₀ (c : Thread nD τ) none Set.univ (m := xM) (Finset.subset_univ _)) $$ H
  iintro H
  iapply Hk $$ H

/-- A slot's elements are its rectangle's. -/
theorem slot_set_eq (M : MS S2x512x128) (o h) :
    (slotM M o h).view.set = (M.view.slice (Rect.unit (s := S2x512x128) o S1x512x128.size h)).set := View.set_reshape _ _

/-- A load of a slot reads under the slot. -/
theorem slot_set (M : MS S2x512x128) (o h) : M.view.setOn (Rect.unit (s := S2x512x128) o S1x512x128.size h).toLoadRect.set ⊆ (slotM M o h).view.set := by
  rw [slot_set_eq, View.set_slice]
  exact Finset.Subset.refl _

/-- Loading a slot that holds `v`. -/
theorem load_slot (M : MS S2x512x128) (o : Fin 3 → ℕ) (h) (q : PosShare TreeShare) (v : Vec F S512x128 .f32)
    {hl : M.view.LoadsAt (Rect.unit (s := S2x512x128) o S1x512x128.size h).toLoadRect}
    {k : Vec F S1x512x128 .f32 → Prog (TpuEff nD τ sig (Elt F) Λ₀ .tc) α} {Q : α → sProp 𝕄} :
    Holds c (slotM M o h) q v ⊢ iprop((∀ w, ⌜shapeCast S512x128 w shapeCasts_S1x512x128_S512x128 = v⌝ -∗ Holds c (slotM M o h) q v -∗ WP c (k w) Q)
      -∗ WP c (.op (.load M (Rect.unit (s := S2x512x128) o S1x512x128.size h).toLoadRect hl) k) Q) := by
  unfold Holds
  iintro ⟨%f, H, %hf⟩ Hk
  iapply (wp_load 𝒱₀ (c : Thread nD τ) none Set.univ (m := M) (f := f) (slot_set M o h)) $$ H
  iintro H
  iapply Hk $$ [] [H]
  · ipureintro
    rw [← hf]; rfl
  · iexists f
    isplitl [H]; · iexact H
    ipureintro; exact hf

/-- Loading a slot at some contents. -/
theorem load_junk (M : MS S2x512x128) (o : Fin 3 → ℕ) (h)
    {hl : M.view.LoadsAt (Rect.unit (s := S2x512x128) o S1x512x128.size h).toLoadRect}
    {k : Vec F S1x512x128 .f32 → Prog (TpuEff nD τ sig (Elt F) Λ₀ .tc) α} {Q : α → sProp 𝕄} :
    Junk c (slotM M o h) ⊢ iprop((∀ w, Junk c (slotM M o h) -∗ WP c (k w) Q)
      -∗ WP c (.op (.load M (Rect.unit (s := S2x512x128) o S1x512x128.size h).toLoadRect hl) k) Q) := by
  unfold Junk
  iintro ⟨%f, H⟩ Hk
  iapply (wp_load 𝒱₀ (c : Thread nD τ) none Set.univ (m := M) (f := f) (slot_set M o h)) $$ H
  iintro H
  iapply Hk $$ [H]
  iexists f; iexact H

/-- Storing a slot. -/
theorem store_slot (M : MS S2x512x128) (o : Fin 3 → ℕ) (h) (w : Vec F S1x512x128 .f32)
    {hx : (M.access (Rect.unit (s := S2x512x128) o S1x512x128.size h)).Stores Finset.univ} {hm}
    {k : PUnit → Prog (TpuEff nD τ sig (Elt F) Λ₀ .tc) α} {Q : α → sProp 𝕄} :
    Junk c (slotM M o h) ⊢ iprop((Holds c (slotM M o h) fullShare (shapeCast S512x128 w shapeCasts_S1x512x128_S512x128) -∗ WP c (k ⟨⟩) Q)
      -∗ WP c (.op (.store M (Rect.unit (s := S2x512x128) o S1x512x128.size h) w Finset.univ hx hm) k) Q) := by
  unfold Junk Holds
  iintro ⟨%f, H⟩ Hk
  iapply (wp_store 𝒱₀ (c : Thread nD τ) none Set.univ (m := M) (r := Rect.unit (s := S2x512x128) o S1x512x128.size h) (Mk := Finset.univ)
    (f := f) (S := (slotM M o h).view.set) (by rw [slot_set_eq, View.setOn_univ])) $$ H
  iintro H
  iapply Hk
  iexists _
  isplitl [H]; · iexact H
  ipureintro
  funext i
  exact congrFun (View.read_write_univ (v := M.view.slice (Rect.unit (s := S2x512x128) o S1x512x128.size h)) f w) (Shape.reshapeEquiv _ i)

/-- Loading a tile of the result at some contents. -/
theorem load_out (o : Fin 2 → ℕ) (h)
    {hl : oM.view.LoadsAt (Rect.unit (s := S2048x512) o S512x128.size h).toLoadRect} {k : Vec F S512x128 .f32 → Prog (TpuEff nD τ sig (Elt F) Λ₀ .tc) α} {Q : α → sProp 𝕄} :
    Junk c (tileM o h) ⊢ iprop((∀ w, Junk c (tileM o h) -∗ WP c (k w) Q)
      -∗ WP c (.op (.load oM (Rect.unit (s := S2048x512) o S512x128.size h).toLoadRect hl) k) Q) := by
  unfold Junk
  iintro ⟨%f, H⟩ Hk
  iapply (wp_load 𝒱₀ (c : Thread nD τ) none Set.univ (m := oM) (f := f) (S := (tileM o h).view.set)
    (by rw [View.set_slice]; exact Finset.Subset.refl _)) $$ H
  iintro H
  iapply Hk $$ [H]
  iexists f; iexact H

/-- Storing a tile of the result. -/
theorem store_out (o : Fin 2 → ℕ) (h) (w : Vec F S512x128 .f32)
    {hx : (oM.access (Rect.unit (s := S2048x512) o S512x128.size h)).Stores Finset.univ} {hm} {k : PUnit → Prog (TpuEff nD τ sig (Elt F) Λ₀ .tc) α} {Q : α → sProp 𝕄} :
    Junk c (tileM o h) ⊢ iprop((Holds c (tileM o h) fullShare w -∗ WP c (k ⟨⟩) Q)
      -∗ WP c (.op (.store oM (Rect.unit (s := S2048x512) o S512x128.size h) w Finset.univ hx hm) k) Q) := by
  unfold Junk Holds
  iintro ⟨%f, H⟩ Hk
  iapply (wp_store 𝒱₀ (c : Thread nD τ) none Set.univ (m := oM) (r := Rect.unit (s := S2048x512) o S512x128.size h) (Mk := Finset.univ)
    (f := f) (S := (tileM o h).view.set) (by rw [View.setOn_univ])) $$ H
  iintro H
  iapply Hk
  iexists _
  isplitl [H]; · iexact H
  ipureintro
  exact View.read_write_univ (v := oM.view.slice (Rect.unit (s := S2048x512) o S512x128.size h)) f w

end Cert.AllReduce
-- ==== Proof.Sched.lean ====
/-
  The protocol: who pays which semaphore, with what.

  Every cell is used for one round. The barrier cell of a device has one duty per neighbour, one unit each: neighbour
  number `j` pays it with the regions of its own buffers that the device's copies to it will fill. The send cell of a
  channel has one duty, paid by the copy with the region it has read; the receive cell one duty, paid by the copy with
  the region it has filled. Cells of channels that a device does not send or receive on have no duty.
-/
module

public import proofs.«01_k».proof.Proof.Logic

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Blk F)

/-! ## The cells by kind -/

/-- Device `c`'s barrier cell. -/
abbrev barG (c : Dev nD) : GSem nD τ sig := ((c : Thread nD τ), .reg barS)
/-- Device `c`'s send cell of channel `k`. -/
abbrev sndG (k : Ch) (c : Dev nD) : GSem nD τ sig := ((c : Thread nD τ), .dma (sndIx k))
/-- Device `c`'s receive cell of channel `k`. -/
abbrev rcvG (k : Ch) (c : Dev nD) : GSem nD τ sig := ((c : Thread nD τ), .dma (rcvIx k))

/-! ## Payloads -/

/-- The share of the region a copy reads that travels with it: the sums' outgoing slots wholly, and of the result's
    tiles one share for each of the three directions. -/
def qs (k : Ch) : PosShare TreeShare := match k with
  | .yp _ => fullShare | .ys _ => fullShare
  | .r _ _ => fullShare.right.left | .l _ _ => fullShare.right.right | .x _ => fullShare.left

/-- The channels on which device `c` sends to its neighbour `j`. -/
def sends (j : Fin 5) (c : Dev nD) : Finset Ch := Finset.univ.filter fun k => grp k = j ∧ act k c = true

/-- What neighbour `j` pays device `c`'s barrier with: the regions the device's copies to it will fill. -/
def barPay (j : Fin 5) (c : Dev nD) : sProp 𝕄 := bigSep (sends j c) fun k => Junk (nb j c) (dstMem k c)
/-- What a copy on channel `k` from device `c` pays the send cell with: what it has read. -/
def sndPay (k : Ch) (c : Dev nD) : sProp 𝕄 := Holds c (srcMem k c) (qs k) (val X k c)
/-- What the copy on channel `k` to device `c` pays the receive cell with: what it has filled. -/
def rcvPay (k : Ch) (c : Dev nD) : sProp 𝕄 := Holds c (dstMem k (src k c)) fullShare (val X k (src k c))

omit [FloatOps F] in
instance barPay_storable (j : Fin 5) (c : Dev nD) : BI.Storable (upEmb : UEmb _ 𝕄) (barPay (F := F) j c) := by
  unfold barPay; infer_instance
instance sndPay_storable (k : Ch) (c : Dev nD) : BI.Storable (upEmb : UEmb _ 𝕄) (sndPay X k c) := by unfold sndPay; infer_instance
instance rcvPay_storable (k : Ch) (c : Dev nD) : BI.Storable (upEmb : UEmb _ 𝕄) (rcvPay X k c) := by unfold rcvPay; infer_instance

/-! ## The schedule -/

/-- The duties of a cell of device `c`. -/
def cduties (i : Cell) (c : Dev nD) : Finset (Fin 5) := match i with
  | .bar => Finset.univ
  | .snd k => if act k c then {0} else ∅
  | .rcv k => if rcv k c then {0} else ∅
/-- The units of a duty of a cell. -/
def camt (i : Cell) : ℕ := match i with
  | .bar => 1 | .snd k => amt k | .rcv k => amt k
/-- The payload of a duty of a cell of device `c`. -/
def cpay (i : Cell) (c : Dev nD) (d : Fin 5) : sProp 𝕄 := match i with
  | .bar => barPay d c | .snd k => sndPay X k c | .rcv k => rcvPay X k c

instance cpay_storable (i : Cell) (c : Dev nD) (d : Fin 5) : BI.Storable (upEmb : UEmb _ 𝕄) (cpay X i c d) := by
  cases i <;> (unfold cpay; infer_instance)

/-- A duty's amount is not zero. -/
theorem camt_pos (i : Cell) : 0 < camt i := by
  cases i
  · exact Nat.one_pos
  · exact amt_pos _
  · exact amt_pos _

/-- The protocol's schedule: round 0 of every cell. -/
def Rd : Rounds.Schedule (GSem nD τ sig) (Fin 5) 𝕄 where
  duties g r := if r = 0 ∧ g.1.2 = .tc then (match decode g.2 with | some i => cduties i g.1.1 | none => ∅) else ∅
  unitless _ := False
  amount g _ _ := match decode g.2 with | some i => camt i | none => 1
  payload g _ d := match decode g.2 with | some i => cpay X i g.1.1 d | none => iprop(emp)
  amount_pos g _ _ _ := by
    cases h : decode g.2 with
    | none => exact Nat.one_pos
    | some i => exact camt_pos i

instance Rd_payload_storable (g : GSem nD τ sig) (r : ℕ) (d : Fin 5) :
    BI.Storable (upEmb : UEmb _ 𝕄) ((Rd X).payload g r d) := by
  show BI.Storable upEmb (match decode g.2 with | some i => cpay X i g.1.1 d | none => iprop(emp))
  cases decode g.2 <;> infer_instance

/-- The schedule's duties of a cell in its one round. -/
theorem duties_cell (i : Cell) (c : Dev nD) : (Rd X).duties (gcell c i) 0 = cduties i c := by
  dsimp only [Rd]; rw [if_pos ⟨rfl, rfl⟩, decode_csem]
/-- No cell has duties in a later round. -/
theorem duties_later (g : GSem nD τ sig) : ∀ r, 1 ≤ r → (Rd X).duties g r = ∅ :=
  fun r hr => by dsimp only [Rd]; rw [if_neg fun h => by omega]
/-- The schedule's amount of a cell's duty. -/
theorem amount_cell (i : Cell) (c : Dev nD) (d : Fin 5) : (Rd X).amount (gcell c i) 0 d = camt i := by
  dsimp only [Rd]; rw [decode_csem]
/-- The schedule's payload of a cell's duty. -/
theorem payload_cell (i : Cell) (c : Dev nD) (d : Fin 5) : (Rd X).payload (gcell c i) 0 d = cpay X i c d := by
  dsimp only [Rd]; rw [decode_csem]

/-- A cell with no duty has none in any round. -/
theorem duties_none {i : Cell} {c : Dev nD} (h : cduties i c = ∅) : ∀ r, 0 ≤ r → (Rd X).duties (gcell c i) r = ∅ := by
  intro r _
  rcases Nat.eq_zero_or_pos r with rfl | hr
  · rw [duties_cell, h]
  · exact duties_later X _ r hr

/-- The barrier expects five units. -/
theorem expect_bar (c : Dev nD) : (Rd X).expect (gcell c .bar) 0 = 5 := by
  unfold Schedule.expect Schedule.amountOf
  rw [duties_cell, Finset.sum_congr rfl fun d _ => amount_cell X .bar c d]
  rfl
/-- A cell with one duty expects its units. -/
theorem expect_one {i : Cell} {c : Dev nD} (h : cduties i c = {0}) : (Rd X).expect (gcell c i) 0 = camt i := by
  unfold Schedule.expect Schedule.amountOf
  rw [duties_cell, h, Finset.sum_singleton, amount_cell]
/-- All that the barrier is paid are the five neighbours' landing zones. -/
theorem rest_bar (c : Dev nD) : bigSep ((Rd X).duties (gcell c .bar) 0 \ ∅) (fun d => (Rd X).payload (gcell c .bar) 0 d)
    = (bigSep Finset.univ fun j : Fin 5 => barPay j c : sProp 𝕄) := by
  rw [Finset.sdiff_empty, duties_cell]
  exact bigSep_congr fun d _ => payload_cell X .bar c d
/-- All that a cell with one duty is paid is that duty's payload. -/
theorem rest_one {i : Cell} {c : Dev nD} (h : cduties i c = {0}) :
    bigSep ((Rd X).duties (gcell c i) 0 \ ∅) (fun d => (Rd X).payload (gcell c i) 0 d) = cpay X i c 0 := by
  rw [Finset.sdiff_empty, duties_cell, h, bigSep_singleton, payload_cell]

/-! ## Levels, and what a device owes -/

/-- Every cell of a TensorCore has the one level index. -/
def L (g : GSem nD τ sig) : Finset Unit := if g.1.2 = .tc then {()} else ∅

/-- The level of a channel's receive cell: the sums along y climb with the distance they have come, the tiles along z
    come after them, in the order of their distance, the rows exchanged across x last. -/
def rlev (k : Ch) (c : Dev nD) : ℕ := match k with
  | .yp _ => 1 + py c | .ys _ => 4 - py c
  | .r d _ => 5 + d.val | .l d _ => 5 + d.val | .x _ => 8
/-- The level of a cell of device `c`. -/
def clev (i : Cell) (c : Dev nD) : ℕ := match i with
  | .bar => 1 | .snd _ => 0 | .rcv k => rlev k c
/-- The level of a cell. -/
def lv (g : GSem nD τ sig) (_ : Unit) : ℕ := match decode g.2 with
  | some i => clev i g.1.1 | none => 0

/-- Only the TensorCore's cells have a level. -/
theorem L_of_ne (g : GSem nD τ sig) (h : g.1.2 ≠ .tc) : L g = ∅ := if_neg h
/-- The TensorCore's cells have one level each. -/
theorem L_tc (c : Dev nD) (sm : SemLoc sig) : L ((c : Thread nD τ), sm) = {()} := if_pos rfl
/-- The level of a cell, by its kind. -/
theorem lv_cell (i : Cell) (c : Dev nD) (u : Unit) : lv (gcell c i) u = clev i c := by unfold lv; rw [decode_csem]

/-- What device `c` owes for the copies on the channels `U`: each receiver's units. -/
def Ow (c : Dev nD) (U : Finset Ch) : CellTallies nD τ sig Unit := ∑ k ∈ U, tallyAt (rcvG k (dst k c)) () (amt k)

/-- What is owed, with one channel apart. -/
theorem Ow_erase (c : Dev nD) {U : Finset Ch} {k : Ch} (h : k ∈ U) :
    Ow c U = Ow c (U.erase k) + tallyAt (rcvG k (dst k c)) () (amt k) := (Finset.sum_erase_add _ _ h).symm

/-- What is owed for copies is owed to receive cells of the channels still to be used. -/
theorem Ow_pos {c : Dev nD} {U : Finset Ch} {g : GSem nD τ sig} {u : Unit} (h : 0 < Ow c U g u) :
    ∃ k ∈ U, g = rcvG k (dst k c) := by
  unfold Ow at h
  rw [Finset.sum_apply, Finsupp.finset_sum_apply] at h
  obtain ⟨k, hk, hp⟩ := Finset.exists_ne_zero_of_sum_ne_zero (Nat.pos_iff_ne_zero.mp h)
  refine ⟨k, hk, ?_⟩
  rw [tallyAt_apply] at hp
  by_contra hn
  exact hp (if_neg fun h' => hn h'.1)

/-- A device may wait at a level below everything it owes. -/
theorem mayWait_of (c : Dev nD) (sm : SemLoc sig) (n : ℕ) (hn : lv ((c : Thread nD τ), sm) () ≤ n) (O : CellTallies nD τ sig Unit)
    (hO : ∀ g u, 0 < O g u → g.1.2 = .tc ∧ n < lv g u) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

/-- A device may wait at a cell whose level is below those of the receive cells it still has to pay. -/
theorem mayWait_cell (c : Dev nD) (i : Cell) (U : Finset Ch) (h : ∀ k ∈ U, clev i c < rlev k (dst k c)) :
    (levAts L lv : sProp 𝕄) ⊢ MayWait (c : Thread nD τ) (csem i) () (Ow c U) := by
  refine mayWait_of c (csem i) (clev i c) (le_of_eq (lv_cell i c ())) _ fun g u hg => ?_
  obtain ⟨k, hk, rfl⟩ := Ow_pos hg
  refine ⟨rfl, ?_⟩
  show _ < lv (gcell (dst k c) (.rcv k)) u
  rw [lv_cell]
  exact h k hk

end Cert.AllReduce
-- ==== Proof.Ops.lean ====
/-
  The kernel's communications, one lemma each: a signal of a neighbour's barrier, the wait on a device's own, a copy on
  a channel, the wait for a channel's copy to arrive, and the wait for a device's own copy to have been sent.
-/
module

public import proofs.«01_k».proof.Proof.Sched

@[expose] public section

set_option maxRecDepth 20000

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Blk F) (K : Dev nD × Cell → ℕ)

/-- Every cell's invariant, and that every cell has reached its round. -/
def Recs : sProp 𝕄 := bigSep Finset.univ fun ci : Dev nD × Cell =>
  iprop(cellInv ER (Rd X) (K ci) (gcell ci.1 ci.2) ∗ reached ER (gcell ci.1 ci.2) 0)
/-- What every device knows: the cells' records and the levels. -/
def Ctx : sProp 𝕄 := iprop(Recs X K ∗ levAts L lv)

instance recs_persistent : BI.Persistent (Recs X K : sProp 𝕄) := by unfold Recs; infer_instance
instance ctx_persistent : BI.Persistent (Ctx X K : sProp 𝕄) := by unfold Ctx; infer_instance

/-- The shared facts contain each cell's invariant and that its first round is reached. -/
theorem ctx_cell (c : Dev nD) (i : Cell) :
    (Ctx X K : sProp 𝕄) ⊢ iprop(cellInv ER (Rd X) (K (c, i)) (gcell c i) ∗ reached ER (gcell c i) 0) := by
  unfold Ctx Recs
  exact sep_elim_left.trans (bigSep_elim (Finset.mem_univ (c, i)))
/-- So for the barrier. -/
theorem ctx_bar (c : Dev nD) :
    (Ctx X K : sProp 𝕄) ⊢ iprop(cellInv ER (Rd X) (K (c, .bar)) (barG c) ∗ reached ER (barG c) 0) := ctx_cell X K c .bar
/-- So for a send cell. -/
theorem ctx_snd (k : Ch) (c : Dev nD) :
    (Ctx X K : sProp 𝕄) ⊢ iprop(cellInv ER (Rd X) (K (c, .snd k)) (sndG k c) ∗ reached ER (sndG k c) 0) := ctx_cell X K c (.snd k)
/-- So for a receive cell. -/
theorem ctx_rcv (k : Ch) (c : Dev nD) :
    (Ctx X K : sProp 𝕄) ⊢ iprop(cellInv ER (Rd X) (K (c, .rcv k)) (rcvG k c) ∗ reached ER (rcvG k c) 0) := ctx_cell X K c (.rcv k)

/-- The shared facts contain the levels. -/
theorem ctx_lev : (Ctx X K : sProp 𝕄) ⊢ levAts L lv := by
  unfold Ctx
  exact sep_elim_right

/-- A device may wait for a copy to arrive if that comes below everything it owes. -/
theorem mayWait_rcv (k : Ch) (c : Dev nD) (U : Finset Ch) (h : ∀ k' ∈ U, rlev k c < rlev k' (dst k' c)) :
    (Ctx X K : sProp 𝕄) ⊢ MayWait (c : Thread nD τ) (.dma (rcvIx k)) () (Ow c U) :=
  BI.Entails.trans (ctx_lev X K) (show (levAts L lv : sProp 𝕄) ⊢ MayWait (c : Thread nD τ) (csem (.rcv k)) () (Ow c U) from mayWait_cell c (.rcv k) U h)
/-- A device may wait for a copy of its own to have been sent. -/
theorem mayWait_snd (k : Ch) (c : Dev nD) (U : Finset Ch) (h : ∀ k' ∈ U, 0 < rlev k' (dst k' c)) :
    (Ctx X K : sProp 𝕄) ⊢ MayWait (c : Thread nD τ) (.dma (sndIx k)) () (Ow c U) :=
  BI.Entails.trans (ctx_lev X K) (show (levAts L lv : sProp 𝕄) ⊢ MayWait (c : Thread nD τ) (csem (.snd k)) () (Ow c U) from mayWait_cell c (.snd k) U h)
/-- A device may wait on its barrier owing the copies only. -/
theorem mayWait_bar (c : Dev nD) (U : Finset Ch) (h : ∀ k' ∈ U, 1 < rlev k' (dst k' c)) :
    (Ctx X K : sProp 𝕄) ⊢ MayWait (c : Thread nD τ) (.reg barS) () (Ow c U) :=
  BI.Entails.trans (ctx_lev X K) (show (levAts L lv : sProp 𝕄) ⊢ MayWait (c : Thread nD τ) (csem .bar) () (Ow c U) from mayWait_cell c .bar U h)

/-- The send cell of a channel in use has a duty. -/
theorem snd_duty {k : Ch} {c : Dev nD} (h : act k c = true) : (0 : Fin 5) ∈ (Rd X).duties (sndG k c) 0 := by
  show _ ∈ (Rd X).duties (gcell c (.snd k)) 0
  rw [duties_cell, show cduties (.snd k) c = {0} from if_pos h]; exact Finset.mem_singleton_self _
/-- The receive cell of a channel in use has a duty. -/
theorem rcv_duty {k : Ch} {c : Dev nD} (h : rcv k c = true) : (0 : Fin 5) ∈ (Rd X).duties (rcvG k c) 0 := by
  show _ ∈ (Rd X).duties (gcell c (.rcv k)) 0
  rw [duties_cell, show cduties (.rcv k) c = {0} from if_pos h]; exact Finset.mem_singleton_self _
/-- The barrier has a duty for each neighbour. -/
theorem bar_duty (c : Dev nD) (j : Fin 5) : j ∈ (Rd X).duties (barG c) 0 := by
  show _ ∈ (Rd X).duties (gcell c .bar) 0
  rw [duties_cell]; exact Finset.mem_univ _
/-- A send cell is paid with the region that was read. -/
theorem snd_payload (k : Ch) (c : Dev nD) : (Rd X).payload (sndG k c) 0 0 = sndPay X k c := payload_cell X (.snd k) c 0
/-- A receive cell is paid with the region that was filled. -/
theorem rcv_payload (k : Ch) (c : Dev nD) : (Rd X).payload (rcvG k c) 0 0 = rcvPay X k c := payload_cell X (.rcv k) c 0
/-- The barrier is paid with a neighbour's landing zones. -/
theorem bar_payload (c : Dev nD) (j : Fin 5) : (Rd X).payload (barG c) 0 j = barPay j c := payload_cell X .bar c j
/-- A send cell in use expects the channel's amount. -/
theorem snd_expect {k : Ch} {c : Dev nD} (h : act k c = true) : (Rd X).expect (sndG k c) 0 = amt k :=
  expect_one X (i := .snd k) (if_pos h)
/-- A receive cell in use expects the channel's amount. -/
theorem rcv_expect {k : Ch} {c : Dev nD} (h : rcv k c = true) : (Rd X).expect (rcvG k c) 0 = amt k :=
  expect_one X (i := .rcv k) (if_pos h)
/-- The barrier expects five units. -/
theorem bar_expect (c : Dev nD) : (Rd X).expect (barG c) 0 = 5 := expect_bar X c
/-- All that a send cell is paid is the region that was read. -/
theorem snd_rest {k : Ch} {c : Dev nD} (h : act k c = true) :
    bigSep ((Rd X).duties (sndG k c) 0 \ ∅) (fun d => (Rd X).payload (sndG k c) 0 d) = sndPay X k c :=
  rest_one X (i := .snd k) (if_pos h)
/-- All that a receive cell is paid is the region that was filled. -/
theorem rcv_rest {k : Ch} {c : Dev nD} (h : rcv k c = true) :
    bigSep ((Rd X).duties (rcvG k c) 0 \ ∅) (fun d => (Rd X).payload (rcvG k c) 0 d) = rcvPay X k c :=
  rest_one X (i := .rcv k) (if_pos h)
/-- All that the barrier is paid are the five neighbours' landing zones. -/
theorem bar_rest (c : Dev nD) : bigSep ((Rd X).duties (barG c) 0 \ ∅) (fun d => (Rd X).payload (barG c) 0 d)
    = (bigSep Finset.univ fun j : Fin 5 => barPay j c : sProp 𝕄) := rest_bar X c

/-- Device `c` owes the copies on the channels `U`. -/
def Owe (c : Dev nD) (U : Finset Ch) : sProp 𝕄 := iprop(∃ W, owes (c : Thread nD τ) (Ow c U) W)

/-! ## What a device holds of a channel, before and after -/

/-- To send: both duties, the region at the receiver, and the place at the send cell. -/
def unsR (k : Ch) (c : Dev nD) : sProp 𝕄 :=
  iprop(dutyTok ER (sndG k c) 0 0 ∗ dutyTok ER (rcvG k (dst k c)) 0 0 ∗ Junk (dst k c) (dstMem k c)
    ∗ atPos ER (sndG k c) 0 ∅ 0)
/-- Sent, not yet waited for. -/
def fltR (k : Ch) (c : Dev nD) : sProp 𝕄 :=
  iprop(cred (tallyAt (sndG k c) () (amt k)) ∗ atPos ER (sndG k c) 0 ∅ 0)
/-- To receive. -/
def unrR (k : Ch) (c : Dev nD) : sProp 𝕄 :=
  iprop(cred (tallyAt (rcvG k c) () (amt k)) ∗ atPos ER (rcvG k c) 0 ∅ 0)

/-- A copy on channel `k`. -/
theorem send_piece (k : Ch) (c : Dev nD) (hact : act k c = true) {U : Finset Ch} (hU : k ∈ U)
    {S D : MS (kShape k)} (hS : S = srcMem k c) (hD : D = dstMem k c) {n : Dev nD} (hn : n = dst k c)
    {ss rs : DmaSem sig} (hss : ss = sndIx k) (hrs : rs = rcvIx k)
    {hsc : (D : Memref sig (Dev.tc n : Thread nD τ).2.kind .vmem (kShape k) .f32).view.ref.isScScratch = false}
    {h1 : S.view.WordExact} {h2 : D.view.WordExact}
    {h3 : DmaTarget.Typed .vmem (.dma rs) (.remote (Dev.tc n : Thread nD τ) D (.dma ss) hsc)}
    {α : Type} {kt : PUnit → Prog (TpuEff nD τ sig (Elt F) Λ₀ .tc) α} {Q : α → sProp 𝕄} :
    iprop(Ctx X K ∗ Holds c (srcMem k c) (qs k) (val X k c) ∗ unsR k c ∗ Owe c U)
      ⊢ iprop(((fltR k c ∗ Owe c (U.erase k)) -∗ WP c (kt ⟨⟩) Q)
          -∗ WP c (.op (.enqueueDma S (.remote (Dev.tc n : Thread nD τ) D (.dma ss) hsc) (.dma rs) h1 h2 h3) kt) Q) := by
  subst hS hD hn hss hrs
  iintro ⟨#HC, Hsrc, Huns, HO⟩ Hk
  unfold Holds unsR Junk Owe fltR
  icases Hsrc with ⟨%fs, Hsrc, %hfs⟩
  icases Huns with ⟨Ht1, Ht2, ⟨%fd, Hdst⟩, Hat⟩
  icases HO with ⟨%W, HO⟩
  ihave H1 := (ctx_snd X K k c) $$ HC
  ihave H2 := (ctx_rcv X K k (dst k c)) $$ HC
  icases H1 with ⟨#I1, #R1⟩
  icases H2 with ⟨#I2, #R2⟩
  iapply (Rounds.wp_send_pointsTo 𝒱₀ ER (Rd X) (c : Thread nD τ) none (κ₁ := K (c, .snd k)) (κ₂ := K (dst k c, .rcv k))
    (c' := (dst k c : Thread nD τ)) (src := srcMem k c) (dst := dstMem k c) (sS := .dma (sndIx k)) (sem := .dma (rcvIx k))
    (r₁ := 0) (r₂ := 0) (d₁ := 0) (d₂ := 0) (fs := fs) (fd := fd) (q := qs k)
    (snd_duty X hact) (rcv_duty X (by rw [rcv_dst]; exact hact))
    () () (amt k) (show (dstMem k c).view.dmaCredit = amt k from (amt_eq k c).symm) (amount_cell X (.snd k) c 0) (amount_cell X (.rcv k) (dst k c) 0) (Ow c (U.erase k)) (Ow_erase c hU) (W := W)
    (by
      rw [snd_payload]; unfold sndPay Holds
      iintro H; iexists fs; isplitl [H]; · iexact H
      ipureintro; exact hfs)
    (by
      rw [rcv_payload]; unfold rcvPay Holds
      rw [src_dst]
      iintro H; iexists _; isplitl [H]; · iexact H
      ipureintro
      rw [View.read_write_univ, hfs])) $$ [Hsrc Hdst HO Ht1 Ht2]
  · isplitr; · iexact I1
    isplitr; · iexact I2
    isplitl [Hsrc]; · iexact Hsrc
    isplitl [Hdst]; · iexact Hdst
    isplitl [HO]; · iexact HO
    isplitl [Ht1]; · iexact Ht1
    isplitr; · iexact R1
    isplitl [Ht2]; · iexact Ht2
    iexact R2
  iintro ⟨Hc, HO⟩
  iapply Hk
  isplitl [Hc Hat]
  · isplitl [Hc]; · iexact Hc
    iexact Hat
  iexists W; iexact HO

/-- Closing a cell that is past its round. -/
theorem close_past (c : Dev nD) (i : Cell) :
    iprop(Ctx X K ∗ atPos ER (gcell c i) 1 ∅ 0) ⊢ (|={Set.univ}=> semVal (gcell c i) 0 : sProp 𝕄) := by
  iintro ⟨#HC, Hat⟩
  ihave H1 := (ctx_cell X K c i) $$ HC
  icases H1 with ⟨#I1, -⟩
  iapply (Rounds.cell_close ER (Rd X) (Set.mem_univ (K (c, i))) (fun h => h) (R := 0 + 1) (duties_later X (gcell c i)))
  isplitr; · iexact I1
  iexact Hat

/-- The barrier is at zero after its round. -/
theorem close_bar (c : Dev nD) :
    iprop(Ctx X K ∗ atPos ER (barG c) 1 ∅ 0) ⊢ (|={Set.univ}=> semVal (barG c) 0 : sProp 𝕄) := close_past X K c .bar
/-- A send cell is at zero after its round. -/
theorem close_snd (k : Ch) (c : Dev nD) :
    iprop(Ctx X K ∗ atPos ER (sndG k c) 1 ∅ 0) ⊢ (|={Set.univ}=> semVal (sndG k c) 0 : sProp 𝕄) := close_past X K c (.snd k)
/-- A receive cell is at zero after its round. -/
theorem close_rcv (k : Ch) (c : Dev nD) :
    iprop(Ctx X K ∗ atPos ER (rcvG k c) 1 ∅ 0) ⊢ (|={Set.univ}=> semVal (rcvG k c) 0 : sProp 𝕄) := close_past X K c (.rcv k)

/-- Closing a cell that has no duty. -/
theorem close_idle (c : Dev nD) (i : Cell) (h : cduties i c = ∅) :
    iprop(Ctx X K ∗ atPos ER (gcell c i) 0 ∅ 0) ⊢ (|={Set.univ}=> semVal (gcell c i) 0 : sProp 𝕄) := by
  iintro ⟨#HC, Hat⟩
  ihave H1 := (ctx_cell X K c i) $$ HC
  icases H1 with ⟨#I1, -⟩
  iapply (Rounds.cell_close ER (Rd X) (Set.mem_univ (K (c, i))) (fun h => h) (R := 0) (duties_none X h))
  isplitr; · iexact I1
  iexact Hat

/-- The wait for a channel's copy to arrive. -/
theorem recv_piece (k : Ch) (c : Dev nD) (hrcv : rcv k c = true) {U : Finset Ch} (hlev : ∀ k' ∈ U, rlev k c < rlev k' (dst k' c))
    {S D : MS (kShape k)} (hD : D.view.dmaCredit = (dstMem k (src k c)).view.dmaCredit) {rs : DmaSem sig} (hrs : rs = rcvIx k)
    {h1 : S.view.WordExact} {h2 : D.view.WordExact}
    {α : Type} {kt : PUnit → Prog (TpuEff nD τ sig (Elt F) Λ₀ .tc) α} {Q : α → sProp 𝕄} :
    iprop(Ctx X K ∗ unrR k c ∗ Owe c U)
      ⊢ iprop(((semVal (rcvG k c) 0 ∗ Holds c (dstMem k (src k c)) fullShare (val X k (src k c)) ∗ Owe c U) -∗ WP c (kt ⟨⟩) Q)
          -∗ WP c (.op (.waitDma2 rs S D h1 h2) kt) Q) := by
  subst hrs
  iintro ⟨#HC, Hunr, HO⟩ Hk
  unfold unrR Owe
  icases Hunr with ⟨Hc, Hat⟩
  icases HO with ⟨%W, HO⟩
  ihave H1 := (ctx_rcv X K k c) $$ HC
  icases H1 with ⟨#I1, -⟩
  have hA : D.view.dmaCredit = amt k := hD.trans (amt_eq k (src k c)).symm
  iapply (Rounds.wp_wait_rest_token 𝒱₀ ER (Rd X) (c : Thread nD τ) none (κ := K (c, .rcv k))
      (wpE_waitDma2_eq 𝒱₀ (c : Thread nD τ) none Set.univ) (Set.mem_univ _) () (O := Ow c U) (W := W) (R := 0) (m := 0) (T := ∅)
      (by
        show 0 + D.view.dmaCredit = (Rd X).expect (rcvG k c) 0
        rw [rcv_expect X hrcv, Nat.zero_add, hA])) $$ [Hc HO Hat]
  · isplitr; · iexact I1
    isplitl [Hc]; · iapply (Entails.of_eq (by rw [hA])) $$ Hc
    isplitl [HO]; · iexact HO
    isplitr; · iapply (mayWait_rcv X K k c U hlev) $$ HC
    iexact Hat
  iintro ⟨HO, Hat, -, Hpay⟩
  ihave Hp := (Entails.of_eq (rcv_rest X hrcv)) $$ Hpay
  unfold rcvPay
  imod (close_rcv X K k c) $$ [Hat] with Hz
  · isplitr; · iexact HC
    iexact Hat
  iapply Hk
  isplitl [Hz]; · iexact Hz
  isplitl [Hp]; · iexact Hp
  iexists _; iexact HO

/-- The wait for a channel's own copy to have been sent. -/
theorem swait_piece (k : Ch) (c : Dev nD) (hact : act k c = true) {U : Finset Ch}
    {S D : MS (kShape k)} (hD : D.view.dmaCredit = (dstMem k c).view.dmaCredit) {ss : DmaSem sig} (hss : ss = sndIx k)
    {h1 : S.view.WordExact} {h2 : D.view.WordExact}
    {α : Type} {kt : PUnit → Prog (TpuEff nD τ sig (Elt F) Λ₀ .tc) α} {Q : α → sProp 𝕄} (hlev : ∀ k' ∈ U, 0 < rlev k' (dst k' c)) :
    iprop(Ctx X K ∗ fltR k c ∗ Owe c U)
      ⊢ iprop(((semVal (sndG k c) 0 ∗ Holds c (srcMem k c) (qs k) (val X k c) ∗ Owe c U) -∗ WP c (kt ⟨⟩) Q)
          -∗ WP c (.op (.waitDma2 ss S D h1 h2) kt) Q) := by
  subst hss
  iintro ⟨#HC, Hflt, HO⟩ Hk
  unfold fltR Owe
  icases Hflt with ⟨Hc, Hat⟩
  icases HO with ⟨%W, HO⟩
  ihave H1 := (ctx_snd X K k c) $$ HC
  icases H1 with ⟨#I1, -⟩
  have hA : D.view.dmaCredit = amt k := hD.trans (amt_eq k c).symm
  iapply (Rounds.wp_wait_rest_token 𝒱₀ ER (Rd X) (c : Thread nD τ) none (κ := K (c, .snd k))
      (wpE_waitDma2_eq 𝒱₀ (c : Thread nD τ) none Set.univ) (Set.mem_univ _) () (O := Ow c U) (W := W) (R := 0) (m := 0) (T := ∅)
      (by
        show 0 + D.view.dmaCredit = (Rd X).expect (sndG k c) 0
        rw [snd_expect X hact, Nat.zero_add, hA])) $$ [Hc HO Hat]
  · isplitr; · iexact I1
    isplitl [Hc]; · iapply (Entails.of_eq (by rw [hA])) $$ Hc
    isplitl [HO]; · iexact HO
    isplitr; · iapply (mayWait_snd X K k c U hlev) $$ HC
    iexact Hat
  iintro ⟨HO, Hat, -, Hpay⟩
  ihave Hp := (Entails.of_eq (snd_rest X hact)) $$ Hpay
  unfold sndPay
  imod (close_snd X K k c) $$ [Hat] with Hz
  · isplitr; · iexact HC
    iexact Hat
  iapply Hk
  isplitl [Hz]; · iexact Hz
  isplitl [Hp]; · iexact Hp
  iexists _; iexact HO

/-! ## The barrier -/

/-- What a device owes its neighbours' barriers from number `j` on, and its copies. -/
def OB (c : Dev nD) (U : Finset Ch) : ℕ → CellTallies nD τ sig Unit
  | 0 => Ow c U
  | j + 1 => OB c U j + tallyAt (barG ((nb (Fin.ofNat 5 (4 - j))).symm c)) () 1

/-- What a device owes with `j` of its five barrier signals to come. -/
def OweB (c : Dev nD) (U : Finset Ch) (j : ℕ) : sProp 𝕄 := iprop(∃ W, owes (c : Thread nD τ) (OB c U j) W)

/-- The signal of the barrier of the device whose neighbour number `4 - j` is `c`. -/
theorem signal_piece (c : Dev nD) (U : Finset Ch) (j : ℕ) (i : Fin 5) (hi : Fin.ofNat 5 (4 - j) = i) {n : Dev nD} (hn : n = (nb i).symm c) {sm : Sem sig} (hs : sm = barS)
    {α : Type} {kt : PUnit → Prog (TpuEff nD τ sig (Elt F) Λ₀ .tc) α} {Q : α → sProp 𝕄} :
    iprop(Ctx X K ∗ dutyTok ER (barG ((nb i).symm c)) 0 i ∗ barPay i ((nb i).symm c) ∗ OweB c U (j + 1))
      ⊢ iprop((OweB c U j -∗ WP c (kt ⟨⟩) Q)
          -∗ WP c (.op (.semSignal (Dev.tc n : Thread nD τ) sm 1) kt) Q) := by
  subst hn hs hi
  iintro ⟨#HC, Ht, Hp, HO⟩ Hk
  unfold OweB
  icases HO with ⟨%W, HO⟩
  ihave H1 := (ctx_bar X K ((nb (Fin.ofNat 5 (4 - j))).symm c)) $$ HC
  icases H1 with ⟨#I1, #R1⟩
  iapply (Rounds.wp_signal 𝒱₀ ER (Rd X) (c : Thread nD τ) none (dst := ((nb (Fin.ofNat 5 (4 - j))).symm c : Thread nD τ)) (κ := K ((nb (Fin.ofNat 5 (4 - j))).symm c, .bar))
      (d := Fin.ofNat 5 (4 - j)) (bar_duty X _ _)
      (amount_cell X .bar _ _) () (OB c U j) rfl) $$ [HO Ht Hp]
  · isplitr; · iexact I1
    isplitl [HO]; · iexact HO
    isplitl [Ht]; · iexact Ht
    isplitl [Hp]
    · iapply (Entails.of_eq (bar_payload X _ _).symm) $$ Hp
    iexact R1
  iintro HO
  iapply Hk
  iexists W; iexact HO

/-- The wait on the barrier: the regions at the neighbours that the device's copies will fill come with it. -/
theorem barrier_piece (c : Dev nD) (U : Finset Ch) (hlev : ∀ k' ∈ U, 1 < rlev k' (dst k' c)) {sm : Sem sig} (hs : sm = barS)
    {α : Type} {kt : PUnit → Prog (TpuEff nD τ sig (Elt F) Λ₀ .tc) α} {Q : α → sProp 𝕄} :
    iprop(Ctx X K ∗ cred (tallyAt (barG c) () 5) ∗ atPos ER (barG c) 0 ∅ 0 ∗ OweB c U 0)
      ⊢ iprop(((semVal (barG c) 0 ∗ (bigSep Finset.univ fun j : Fin 5 => barPay j c) ∗ Owe c U) -∗ WP c (kt ⟨⟩) Q)
          -∗ WP c (.op (.semWait sm 5) kt) Q) := by
  subst hs
  iintro ⟨#HC, Hc, Hat, HO⟩ Hk
  unfold OweB OB
  icases HO with ⟨%W, HO⟩
  ihave H1 := (ctx_bar X K c) $$ HC
  icases H1 with ⟨#I1, -⟩
  iapply (Rounds.wp_wait_rest_token 𝒱₀ ER (Rd X) (c : Thread nD τ) none (κ := K (c, .bar))
      (wpE_semWait_eq 𝒱₀ (c : Thread nD τ) none Set.univ) (Set.mem_univ _) () (O := Ow c U) (W := W) (R := 0) (m := 0) (T := ∅)
      (by
        show 0 + 5 = (Rd X).expect (barG c) 0
        rw [bar_expect])) $$ [Hc HO Hat]
  · isplitr; · iexact I1
    isplitl [Hc]; · iexact Hc
    isplitl [HO]; · iexact HO
    isplitr; · iapply (mayWait_bar X K c U hlev) $$ HC
    iexact Hat
  iintro ⟨HO, Hat, -, Hpay⟩
  ihave Hp := (Entails.of_eq (bar_rest X c)) $$ Hpay
  imod (close_bar X K c) $$ [Hat] with Hz
  · isplitr; · iexact HC
    iexact Hat
  iapply Hk
  isplitl [Hz]; · iexact Hz
  isplitl [Hp]; · iexact Hp
  unfold Owe
  iexists _; iexact HO

end Cert.AllReduce
-- ==== Proof.State.lean ====
/-
  What a device holds between two statements of the kernel, as a set of named resources that depends on the device and
  on the statement's number, and the rule that carries a statement's own small footprint over to the whole set.

  The statements are numbered in program order from 1 after the barrier: 1 to 8 the outgoing sums, 9 to 12 and 15 to 18
  the device's own tiles, 13 to 41 the tiles along z, 39 to 44 the rows across x, 45 to 62 the waits for the device's
  own copies. `avail c n r`: device `c` holds `r` before statement `n`.
-/
module

public import proofs.«01_k».proof.Proof.Ops

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The resources -/

/-- The resources: a tile of the result (half, column block, which of three shares), the device's own tile not yet
    written, a sum's outgoing slot, a sum's landing slot, the rows of the other device along x, and a channel to send
    on, to receive on, sent on but not waited for, done with sending, done with receiving. -/
inductive Res where
  | pc (s : Fin 2) (j : Fin 4) (p : Fin 3)
  | own (s : Fin 2)
  | src (k : Ch)
  | land (k : Ch)
  | peer (s : Fin 2)
  | uns (k : Ch)
  | unr (k : Ch)
  | flt (k : Ch)
  | snt (k : Ch)
  | rcd (k : Ch)
deriving DecidableEq

/-- The channels of the sums along y. -/
def sumChans : List Ch := [.yp 0, .yp 1, .ys 0, .ys 1]
/-- The tile resources. -/
def pcList : List Res := (List.finRange 2).flatMap fun s => (List.finRange 4).flatMap fun j => (List.finRange 3).map fun p => .pc s j p
/-- Every resource that is ever held, listed. -/
def resList : List Res := pcList ++ (List.finRange 2).map .own ++ sumChans.map .src ++ sumChans.map .land ++ (List.finRange 2).map .peer
  ++ chans.map .uns ++ chans.map .unr ++ chans.map .flt ++ chans.map .snt ++ chans.map .rcd
/-- The list of resources names each once. -/
theorem resList_nodup : resList.Nodup := by decide +kernel

/-! ## When each thing happens -/

/-- The statement at which device `c` sends on channel `k`. -/
def sendAt (k : Ch) (c : Dev nD) : ℕ := match k with
  | .yp a => if py c = 0 then 1 + 4 * a.val else if py c = 1 then 3 + 4 * a.val else 12 + 6 * a.val
  | .ys a => if py c = 3 then 2 + 4 * a.val else if py c = 2 then 4 + 4 * a.val else 11 + 6 * a.val
  | .r d s => if d.val = 0 then 13 + 6 * s.val else if d.val = 1 then 22 + 4 * s.val else 30 + 4 * s.val
  | .l d s => if d.val = 0 then 14 + 6 * s.val else if d.val = 1 then 24 + 4 * s.val else 32 + 4 * s.val
  | .x s => 39 + 3 * s.val
/-- The statement at which device `c` waits for the copy to it on channel `k`. -/
def recvAt (k : Ch) (c : Dev nD) : ℕ := match k with
  | .yp a => if py c = 1 then 3 + 4 * a.val else if py c = 2 then 12 + 6 * a.val else 10 + 6 * a.val
  | .ys a => if py c = 2 then 4 + 4 * a.val else if py c = 1 then 11 + 6 * a.val else 9 + 6 * a.val
  | .r d s => if d.val = 0 then 21 + 4 * s.val else if d.val = 1 then 29 + 4 * s.val else 37 + 3 * s.val
  | .l d s => if d.val = 0 then 23 + 4 * s.val else if d.val = 1 then 31 + 4 * s.val else 38 + 3 * s.val
  | .x s => 43 + s.val
/-- The statement at which a device waits for its copy on channel `k` to have been sent. -/
def swaitAt (k : Ch) : ℕ := match k with
  | .yp a => 45 + 2 * a.val
  | .ys a => 46 + 2 * a.val
  | .r d s => 49 + d.val + 7 * s.val
  | .l d s => 52 + d.val + 7 * s.val
  | .x s => 55 + 7 * s.val
/-- The statement at which device `c` writes its own tile of half `s`. -/
def ownAt (s : Fin 2) (c : Dev nD) : ℕ :=
  9 + 6 * s.val + (if py c = 0 then 0 else if py c = 3 then 1 else if py c = 1 then 2 else 3)

/-- Device `c` has sent on channel `k` before statement `n` and not yet waited for that. -/
def flying (k : Ch) (c : Dev nD) (n : ℕ) : Bool := act k c && Nat.blt (sendAt k c) n && Nat.ble n (swaitAt k)

/-- A number below 3 as such. -/
def fin3 (n : ℕ) : Fin 3 := ⟨n % 3, Nat.mod_lt _ (by decide)⟩

/-- Device `c` has the tile of half `s`, column block `j` of the result before statement `n`. -/
def known (c : Dev nD) (n : ℕ) (s : Fin 2) (j : Fin 4) : Bool :=
  if j.val = pz c then Nat.blt (ownAt s c) n
  else if j.val < pz c then Nat.blt (recvAt (.r (fin3 (pz c - 1 - j.val)) s) c) n
  else Nat.blt (recvAt (.l (fin3 (j.val - pz c - 1)) s) c) n
/-- A share of a tile is with a copy on its way. -/
def lent (c : Dev nD) (n : ℕ) (s : Fin 2) (j : Fin 4) (p : Fin 3) : Bool := match p with
  | 0 => flying (.x s) c n
  | 1 => Nat.ble j.val (pz c) && Nat.blt (pz c - j.val) 3 && flying (.r (fin3 (pz c - j.val)) s) c n
  | 2 => Nat.ble (pz c) j.val && Nat.blt (j.val - pz c) 3 && flying (.l (fin3 (j.val - pz c)) s) c n

/-- Device `c` holds `r` before statement `n`. -/
def avail (c : Dev nD) (n : ℕ) (r : Res) : Bool := match r with
  | .pc s j p => known c n s j && !lent c n s j p
  | .own s => Nat.ble n (ownAt s c)
  | .src k => !flying k c n
  | .land k => !rcv k c || Nat.blt (recvAt k c) n
  | .peer s => Nat.blt (recvAt (.x s) c) n
  | .uns k => act k c && Nat.ble n (sendAt k c)
  | .unr k => rcv k c && Nat.ble n (recvAt k c)
  | .flt k => flying k c n
  | .snt k => !act k c || Nat.blt (swaitAt k) n
  | .rcd k => !rcv k c || Nat.blt (recvAt k c) n

/-- The resources of device `c` before statement `n`. -/
def A (c : Dev nD) (n : ℕ) : Finset Res := resList.toFinset.filter fun r => avail c n r = true
/-- The channels device `c` has still to send on before statement `n`. -/
def U (c : Dev nD) (n : ℕ) : Finset Ch := Finset.univ.filter fun k => avail c n (.uns k) = true

/-! ## What the resources are -/

/-- The three shares of a tile. -/
def share (p : Fin 3) : PosShare TreeShare := match p with
  | 0 => fullShare.left | 1 => fullShare.right.left | 2 => fullShare.right.right

variable (X : Dev nD → Blk F) (K : Dev nD × Cell → ℕ)

/-- What device `c` holds of each resource. -/
def pts (c : Dev nD) (r : Res) : sProp 𝕄 := match r with
  | .pc s j p => outPts c (tileR c s j).set (share p) (outF X (py c))
  | .own s => Junk c (tileM (tileOff c s (zcol c)) (tileOff_inb c s (zcol c)))
  | .src k => Junk c (srcMem k c)
  | .land k => if rcv k c then Holds c (dstMem k (src k c)) fullShare (val X k (src k c)) else Junk c (dstMem k (src k c))
  | .peer s => outPts c (rowsR (Cert.AllReduce.src (.x s) c) s).set fullShare (outF X (py c))
  | .uns k => unsR k c
  | .unr k => unrR k c
  | .flt k => fltR k c
  | .snt k => semVal (sndG k c) 0
  | .rcd k => semVal (rcvG k c) 0

/-- Everything device `c` holds before statement `n`. -/
def St (c : Dev nD) (n : ℕ) : sProp 𝕄 :=
  iprop(Ctx X K ∗ xPts c (X c) ∗ Owe c (U c n) ∗ bigSep (A c n) (pts X c))

/-! ## The frame -/

/-- The resources of a list. -/
def sepL (c : Dev nD) : List Res → sProp 𝕄
  | [] => iprop(emp)
  | [r] => pts X c r
  | r :: r' :: l => iprop(pts X c r ∗ sepL c (r' :: l))

/-- The resources of a list, one by one. -/
theorem sepL_eq (c : Dev nD) : ∀ l : List Res, l.Nodup → bigSep l.toFinset (pts X c) = sepL X c l
  | [], _ => by rw [List.toFinset_nil, bigSep_empty]; rfl
  | [r], _ => by rw [List.toFinset_cons, List.toFinset_nil, insert_empty_eq, bigSep_singleton]; rfl
  | r :: r' :: l, h => by
      have h' := List.nodup_cons.mp h
      rw [List.toFinset_cons, bigSep_insert (by rw [List.mem_toFinset]; exact h'.1), sepL_eq c (r' :: l) h'.2]
      rfl

/-- Statement `n` of device `c` turns the resources `C` into the resources `P`. -/
def chk (c : Dev nD) (n n' : ℕ) (C P : List Res) : Bool :=
  decide C.Nodup && decide P.Nodup && C.all (fun r => resList.contains r && avail c n r) && P.all (fun r => resList.contains r && avail c n' r)
    && resList.all fun r => (avail c n' r && !P.contains r) == (avail c n r && !C.contains r)

/-- A separating conjunction over a set, split at a subset. -/
theorem bsplit {I : Type} [DecidableEq I] {s t : Finset I} (h : t ⊆ s) {Φ : I → sProp 𝕄} :
    bigSep s Φ = iprop(bigSep t Φ ∗ bigSep (s \ t) Φ) := bigSep_sdiff_split h

/-- If the check passes, what a device holds before and after a statement is the statement's footprint and one common rest. -/
theorem chk_frame {c : Dev nD} {n n' : ℕ} {C P : List Res} (h : chk c n n' C P = true) :
    ∃ R : sProp 𝕄, bigSep (A c n) (pts X c) = iprop(sepL X c C ∗ R) ∧ bigSep (A c n') (pts X c) = iprop(sepL X c P ∗ R) := by
  unfold chk at h
  simp only [Bool.and_eq_true, decide_eq_true_eq, List.all_eq_true, List.contains_iff_mem, beq_iff_eq] at h
  obtain ⟨⟨⟨⟨hC, hP⟩, hCa⟩, hPa⟩, hAll⟩ := h
  have mem (m : ℕ) (r : Res) : r ∈ A c m ↔ r ∈ resList ∧ avail c m r = true := by
    unfold A; rw [Finset.mem_filter, List.mem_toFinset]
  refine ⟨bigSep (A c n \ C.toFinset) (pts X c), ?_, ?_⟩
  · rw [bsplit (s := A c n) (t := C.toFinset) (fun r hr => (mem n r).mpr (hCa r (List.mem_toFinset.mp hr))), sepL_eq X c C hC]
  · rw [bsplit (s := A c n') (t := P.toFinset) (fun r hr => (mem n' r).mpr (hPa r (List.mem_toFinset.mp hr))), sepL_eq X c P hP]
    refine congrArg (fun B => iprop(sepL X c P ∗ bigSep B (pts X c))) ?_
    ext r
    rw [Finset.mem_sdiff, Finset.mem_sdiff, mem, mem, List.mem_toFinset, List.mem_toFinset]
    constructor
    · rintro ⟨⟨h1, h2⟩, h3⟩
      have := hAll r h1
      simp only [h2, Bool.true_and] at this
      have h4 : (!P.contains r) = true := by simpa using h3
      rw [h4] at this
      have := this.symm
      simp only [Bool.and_eq_true] at this
      exact ⟨⟨h1, this.1⟩, by simpa using this.2⟩
    · rintro ⟨⟨h1, h2⟩, h3⟩
      have := hAll r h1
      simp only [h2, Bool.true_and] at this
      have h4 : (!C.contains r) = true := by simpa using h3
      rw [h4] at this
      simp only [Bool.and_eq_true] at this
      exact ⟨⟨h1, this.1⟩, by simpa using this.2⟩

/-- The channels owed are unchanged, if no resource to send was touched. -/
def sameU (c : Dev nD) (n n' : ℕ) : Bool := chans.all fun k => avail c n' (.uns k) == avail c n (.uns k)
/-- The channels owed lose `k`. -/
def lessU (c : Dev nD) (n n' : ℕ) (k : Ch) : Bool :=
  avail c n (.uns k) && chans.all fun k' => avail c n' (.uns k') == (avail c n (.uns k') && !decide (k' = k))
/-- Every channel still owed before statement `n` is received at a level above `l`. -/
def above (c : Dev nD) (n l : ℕ) : Bool := chans.all fun k => !avail c n (.uns k) || Nat.blt l (rlev k (dst k c))

/-- If the check passes, the statement leaves the channels to be used as they were. -/
theorem U_same {c : Dev nD} {n n' : ℕ} (h : sameU c n n' = true) : U c n' = U c n := by
  unfold sameU at h
  simp only [List.all_eq_true, beq_iff_eq] at h
  unfold U
  exact Finset.filter_congr fun k _ => by rw [h k (mem_chans k)]
/-- If the check passes, the statement uses one channel and leaves the others. -/
theorem U_less {c : Dev nD} {n n' : ℕ} {k : Ch} (h : lessU c n n' k = true) : k ∈ U c n ∧ U c n' = (U c n).erase k := by
  unfold lessU at h
  simp only [Bool.and_eq_true, List.all_eq_true, beq_iff_eq] at h
  obtain ⟨h1, h2⟩ := h
  unfold U
  refine ⟨Finset.mem_filter.mpr ⟨Finset.mem_univ _, h1⟩, ?_⟩
  ext k'
  rw [Finset.mem_filter, Finset.mem_erase, Finset.mem_filter, h2 k' (mem_chans k')]
  simp only [Finset.mem_univ, true_and, Bool.and_eq_true, Bool.not_eq_true', decide_eq_false_iff_not]
  exact and_comm
/-- If the check passes, all that is owed is above the level. -/
theorem U_above {c : Dev nD} {n l : ℕ} (h : above c n l = true) : ∀ k ∈ U c n, l < rlev k (dst k c) := by
  unfold above at h
  simp only [List.all_eq_true, Bool.or_eq_true, Bool.not_eq_true'] at h
  intro k hk
  have hk' := (Finset.mem_filter.mp hk).2
  rcases h k (mem_chans k) with h | h
  · rw [h] at hk'; exact absurd hk' (by decide)
  · exact Nat.blt_eq.mp h

/-- A piece of program `p` that goes on with `q`, with its footprint: it turns the resources `C` into `P`, and what is
    owed from `V` into `V'`. -/
def Trip (c : Dev nD) (V V' : Finset Ch) (C P : List Res) {α : Type} (p q : Prog (TpuEff nD τ sig (Elt F) Λ₀ .tc) α) : Prop :=
  ∀ Q : α → sProp 𝕄, iprop(Ctx X K ∗ xPts c (X c) ∗ Owe c V ∗ sepL X c C)
    ⊢ iprop(((xPts c (X c) ∗ Owe c V' ∗ sepL X c P) -∗ WP c q Q) -∗ WP c p Q)

variable {X K}

/-- A piece of program with its footprint, run on the whole. -/
theorem run {c : Dev nD} {n n' : ℕ} {C P : List Res} {α : Type} {p q : Prog (TpuEff nD τ sig (Elt F) Λ₀ .tc) α} {Q : α → sProp 𝕄}
    (hf : chk c n n' C P = true) (ht : Trip X K c (U c n) (U c n') C P p q) (hq : St X K c n' ⊢ WP c q Q) :
    St X K c n ⊢ WP c p Q := by
  obtain ⟨R, h1, h2⟩ := chk_frame X hf
  unfold St at hq ⊢
  rw [h1]; rw [h2] at hq
  iintro ⟨#HC, Hx, HO, HA, HR⟩
  iapply (ht Q) $$ [Hx HO HA]
  · isplitr; · iexact HC
    isplitl [Hx]; · iexact Hx
    isplitl [HO] <;> iassumption
  iintro ⟨Hx, HO, HP⟩
  iapply hq
  isplitr; · iexact HC
  isplitl [Hx]; · iexact Hx
  isplitl [HO]; · iexact HO
  isplitl [HP] <;> iassumption

/-- A statement that a device skips leaves its resources as they are. -/
theorem idle {c : Dev nD} {n n' : ℕ} (hf : chk c n n' [] [] = true) (hu : sameU c n n' = true) : (St X K c n : sProp 𝕄) ⊢ St X K c n' := by
  obtain ⟨R, h1, h2⟩ := chk_frame X hf
  unfold St
  rw [h1, h2, U_same hu]

/-- A conditional statement. -/
theorem cond {c : Dev nD} {n : ℕ} (n' : ℕ) {P : Prop} [Decidable P] {α : Type} {T : P → Prog (TpuEff nD τ sig (Elt F) Λ₀ .tc) α}
    {q : Prog (TpuEff nD τ sig (Elt F) Λ₀ .tc) α} {Q : α → sProp 𝕄}
    (hF : ¬P → (chk c n n' [] [] && sameU c n n') = true)
    (hT : ∀ h : P, (St X K c n' ⊢ WP c q Q) → St X K c n ⊢ WP c (T h) Q)
    (hq : St X K c n' ⊢ WP c q Q) :
    St X K c n ⊢ WP c (dite P T (fun _ => q)) Q := by
  by_cases h : P
  · rw [dif_pos h]; exact hT h hq
  · rw [dif_neg h]
    have := hF h
    simp only [Bool.and_eq_true] at this
    exact (idle this.1 this.2).trans hq

end Cert.AllReduce
-- ==== Proof.Values.lean ====
/-
  The values that the copies carry, one device's step at a time: the first device of a line along y sends its own tile,
  the next ones what they receive plus their own tile, and the result's tile is the device's own plus what it receives.
-/
module

public import proofs.«01_k».proof.Proof.State

@[expose] public section

noncomputable section

namespace Cert.AllReduce

open Cert.KernelIdeal Cert.KernelIdeal.Gen
open Idealize.ShloMosaic

variable {F : FTy → Type} [FloatOps F] (X : Dev nD → Blk F)

/-- The channel of a sum along y. -/
def ySum (up : Bool) (a : Fin 2) : Ch := if up then .yp a else .ys a
/-- The device of a line along y that begins a sum. -/
def firstY (up : Bool) : ℕ := if up then 0 else 3
/-- The device that a sum reaches next. -/
def nextY (up : Bool) : ℕ := if up then 1 else 2
/-- The device that a sum reaches after that. -/
def thirdY (up : Bool) : ℕ := if up then 2 else 1
/-- The device that a sum reaches last. -/
def lastY (up : Bool) : ℕ := if up then 3 else 0

/-- Device `c`'s own tile of the argument. -/
def xTile (c : Dev nD) (a : Fin 2) : FVec F S512x128 .f32 := fun i => X c ((tileR c a (zcol c)).emb i)
/-- Device `c`'s own tile of an array. -/
def ofTile (f : Blk F) (c : Dev nD) (a : Fin 2) : FVec F S512x128 .f32 := fun i => f ((tileR c a (zcol c)).emb i)
/-- The sum that a channel along y carries, as far as coordinate `y`. -/
def part (up : Bool) (y : ℕ) : Blk F := if up then pre X y else suf X y

/-- What a sum's copy carries. -/
def sumVal (up : Bool) (c : Dev nD) (a : Fin 2) : FVec F S512x128 .f32 := ofTile (part X up (py c)) c a

/-- What a channel of the sums from before carries. -/
theorem sumVal_yp (c : Dev nD) (a : Fin 2) : val X (.yp a) c = sumVal X true c a := rfl
/-- What a channel of the sums from after carries. -/
theorem sumVal_ys (c : Dev nD) (a : Fin 2) : val X (.ys a) c = sumVal X false c a := rfl

/-- A device's own tile depends on its places along x and z alone. -/
theorem ofTile_congr (f : Blk F) {c c' : Dev nD} (hx : px c = px c') (hz : pz c = pz c') (a : Fin 2) : ofTile f c a = ofTile f c' a := by
  have ho : tileOff c a (zcol c) = tileOff c' a (zcol c') := by unfold tileOff zcol; simp only [hx, hz]
  funext i
  unfold ofTile
  refine congrArg f (funext fun b => Fin.ext ?_)
  rw [emb_unit, emb_unit]
  exact congrArg (· + (i b).val) (congrFun ho b)

/-- The device that sends along y has the same places along x and z. -/
theorem src_place : ∀ up a c, px (src (ySum up a) c) = px c ∧ pz (src (ySum up a) c) = pz c := by decide +kernel

/-- What arrives on a sum's channel, in the receiver's own coordinates. -/
theorem sumVal_src (up : Bool) (c : Dev nD) (a : Fin 2) :
    sumVal X up (src (ySum up a) c) a = ofTile (part X up (py (src (ySum up a) c))) c a := by
  unfold sumVal
  exact ofTile_congr _ (src_place up a c).1 (src_place up a c).2 a

/-- The argument's values on a device's own tile. -/
theorem xat_ofTile (c : Dev nD) (a : Fin 2) : ofTile (xat X (py c)) c a = xTile X c a := by
  funext i
  exact xat_tile X c a i

/-- A sum begins with the first device's own tile. -/
theorem sumVal_first {up : Bool} {c : Dev nD} (h : py c = firstY up) (a : Fin 2) : sumVal X up c a = xTile X c a := by
  rw [← xat_ofTile]
  unfold sumVal
  cases up
  · rw [show py c = 3 from h]; rfl
  · rw [show py c = 0 from h]; rfl

/-- The device that sends a sum is the neighbour on the sum's side, place by place. -/
theorem src_y : ∀ up a c, rcv (ySum up a) c = true →
    (up = true ∧ ((py c = 1 ∧ py (src (ySum up a) c) = 0) ∨ (py c = 2 ∧ py (src (ySum up a) c) = 1) ∨ (py c = 3 ∧ py (src (ySum up a) c) = 2)))
    ∨ (up = false ∧ ((py c = 2 ∧ py (src (ySum up a) c) = 3) ∨ (py c = 1 ∧ py (src (ySum up a) c) = 2) ∨ (py c = 0 ∧ py (src (ySum up a) c) = 1))) := by
  decide +kernel

/-- A sum goes on with what arrives plus the device's own tile. -/
theorem sumVal_next {up : Bool} {c : Dev nD} (a : Fin 2) (h : rcv (ySum up a) c = true) :
    sumVal X up c a = addf (sumVal X up (src (ySum up a) c) a) (xTile X c a) := by
  rw [sumVal_src, ← xat_ofTile]
  unfold sumVal
  rcases src_y up a c h with ⟨rfl, ⟨h1, h2⟩ | ⟨h1, h2⟩ | ⟨h1, h2⟩⟩ | ⟨rfl, ⟨h1, h2⟩ | ⟨h1, h2⟩ | ⟨h1, h2⟩⟩ <;> (rw [h1, h2]; rfl)

/-- The result's tile on a device at the end of the line: its own plus what arrives. -/
theorem out_last {up : Bool} {c : Dev nD} (a : Fin 2) (hy : py c = lastY up) (h : rcv (ySum up a) c = true) :
    ofTile (outF X (py c)) c a = addf (xTile X c a) (sumVal X up (src (ySum up a) c) a) := by
  rw [sumVal_src, ← xat_ofTile]
  rcases src_y up a c h with ⟨rfl, ⟨h1, h2⟩ | ⟨h1, h2⟩ | ⟨h1, h2⟩⟩ | ⟨rfl, ⟨h1, h2⟩ | ⟨h1, h2⟩ | ⟨h1, h2⟩⟩ <;>
    first
      | (rw [h1, h2]; rfl)
      | (rw [h1] at hy; exact absurd hy (by decide))

/-- The result's tile on a device inside the line: its own plus what arrives from before, plus what arrives from after. -/
theorem out_mid {c : Dev nD} (a : Fin 2) (h : rcv (ySum true a) c = true) (h' : rcv (ySum false a) c = true) :
    ofTile (outF X (py c)) c a
      = addf (addf (xTile X c a) (sumVal X true (src (ySum true a) c) a)) (sumVal X false (src (ySum false a) c) a) := by
  rw [sumVal_src, sumVal_src, ← xat_ofTile]
  rcases src_y true a c h with ⟨-, ⟨h1, h2⟩ | ⟨h1, h2⟩ | ⟨h1, h2⟩⟩ | ⟨h0, -⟩
  · rcases src_y false a c h' with ⟨h0, -⟩ | ⟨-, ⟨h3, h4⟩ | ⟨h3, h4⟩ | ⟨h3, h4⟩⟩
    · exact absurd h0 (by decide)
    all_goals first
      | (rw [h3] at h1; exact absurd h1 (by decide))
      | (rw [h1, h2, h4]; rfl)
  · rcases src_y false a c h' with ⟨h0, -⟩ | ⟨-, ⟨h3, h4⟩ | ⟨h3, h4⟩ | ⟨h3, h4⟩⟩
    · exact absurd h0 (by decide)
    all_goals first
      | (rw [h3] at h1; exact absurd h1 (by decide))
      | (rw [h1, h2, h4]; rfl)
  · rcases src_y false a c h' with ⟨h0, -⟩ | ⟨-, ⟨h3, h4⟩ | ⟨h3, h4⟩ | ⟨h3, h4⟩⟩
    · exact absurd h0 (by decide)
    all_goals (rw [h3] at h1; exact absurd h1 (by decide))
  · exact absurd h0 (by decide)

end Cert.AllReduce
-- ==== Proof.Facts.lean ====
/-
  The printed conditions, offsets and device numbers, arranged by statement, and what they mean on the mesh; checked
  by evaluation on all devices.
-/
module

public import proofs.«01_k».proof.Proof.Values

@[expose] public section

noncomputable section

namespace Cert.AllReduce

open Cert.KernelIdeal Cert.KernelIdeal.Gen
open Idealize.ShloMosaic

/-- The channels along z. -/
def zChan (right : Bool) (d : Fin 3) (s : Fin 2) : Ch := if right then .r d s else .l d s

/-! ## The statements of the sums along y -/

/-- Whether a device begins a sum. -/
def condFirst : Bool → Fin 2 → Dev nD → BitVec 1
  | true, 0 => k0_cond1 | false, 0 => k0_cond2 | true, 1 => k0_cond5 | false, 1 => k0_cond6
/-- The printed condition says that the device is a sum's first. -/
theorem condFirst_iff : ∀ up a c, condFirst up a c = 1#1 ↔ (py c == firstY up) = true := by decide +kernel
/-- Whether a device is the second of a sum. -/
def condNext : Bool → Fin 2 → Dev nD → BitVec 1
  | true, 0 => k0_cond3 | false, 0 => k0_cond4 | true, 1 => k0_cond7 | false, 1 => k0_cond8
/-- The printed condition says that the device is a sum's second. -/
theorem condNext_iff : ∀ up a c, condNext up a c = 1#1 ↔ (py c == nextY up) = true := by decide +kernel
/-- Whether a device is the third of a sum. -/
def condThird : Bool → Fin 2 → Dev nD → BitVec 1
  | true, 0 => k0_cond12 | false, 0 => k0_cond11 | true, 1 => k0_cond18 | false, 1 => k0_cond17
/-- The printed condition says that the device is a sum's third. -/
theorem condThird_iff : ∀ up a c, condThird up a c = 1#1 ↔ (py c == thirdY up) = true := by decide +kernel
/-- Whether a device is the last of a sum. -/
def condLast : Bool → Fin 2 → Dev nD → BitVec 1
  | true, 0 => k0_cond10 | false, 0 => k0_cond9 | true, 1 => k0_cond16 | false, 1 => k0_cond15
/-- The printed condition says that the device is a sum's last. -/
theorem condLast_iff : ∀ up a c, condLast up a c = 1#1 ↔ (py c == lastY up) = true := by decide +kernel

/-- Where a sum's first device loads its tile. -/
def offFirst : Bool → Fin 2 → Dev nD → Fin 2 → ℕ
  | true, 0 => k0_off1 | false, 0 => k0_off2 | true, 1 => k0_off5 | false, 1 => k0_off6
/-- The first device of a sum reads the argument at its own tile. -/
theorem offFirst_eq : ∀ up a c, offFirst up a c = tileOff c a (zcol c) := by decide +kernel
/-- Where a sum's second device loads its tile. -/
def offNext : Bool → Fin 2 → Dev nD → Fin 2 → ℕ
  | true, 0 => k0_off3 | false, 0 => k0_off4 | true, 1 => k0_off7 | false, 1 => k0_off8
/-- The second device of a sum reads the argument at its own tile. -/
theorem offNext_eq : ∀ up a c, offNext up a c = tileOff c a (zcol c) := by decide +kernel
/-- Where a sum's third device loads and stores its tile. -/
def offThird : Bool → Fin 2 → Dev nD → Fin 2 → ℕ
  | true, 0 => k0_off12 | false, 0 => k0_off11 | true, 1 => k0_off18 | false, 1 => k0_off17
/-- The third device of a sum reads and writes at its own tile. -/
theorem offThird_eq : ∀ up a c, offThird up a c = tileOff c a (zcol c) := by decide +kernel
/-- Where a sum's last device loads and stores its tile. -/
def offLast : Bool → Fin 2 → Dev nD → Fin 2 → ℕ
  | true, 0 => k0_off10 | false, 0 => k0_off9 | true, 1 => k0_off16 | false, 1 => k0_off15
/-- The last device of a sum reads and writes at its own tile. -/
theorem offLast_eq : ∀ up a c, offLast up a c = tileOff c a (zcol c) := by decide +kernel

/-- Where a sum's first device sends to. -/
def devFirst : Bool → Fin 2 → Dev nD → ℕ
  | true, 0 => k0_dev6 | false, 0 => k0_dev7 | true, 1 => k0_dev10 | false, 1 => k0_dev11
/-- The first device of a sum sends to its neighbour on the sum's channel. -/
theorem devFirst_eq : ∀ up a c, (py c == firstY up) = true → devFirst up a c = (dst (ySum up a) c).val := by decide +kernel
/-- Where a sum's second device sends to. -/
def devNext : Bool → Fin 2 → Dev nD → ℕ
  | true, 0 => k0_dev8 | false, 0 => k0_dev9 | true, 1 => k0_dev12 | false, 1 => k0_dev13
/-- The second device of a sum sends to its neighbour on the sum's channel. -/
theorem devNext_eq : ∀ up a c, (py c == nextY up) = true → devNext up a c = (dst (ySum up a) c).val := by decide +kernel
/-- Where a sum's third device sends to. -/
def devThird : Bool → Fin 2 → Dev nD → ℕ
  | true, 0 => k0_dev15 | false, 0 => k0_dev14 | true, 1 => k0_dev19 | false, 1 => k0_dev18
/-- The third device of a sum sends to its neighbour on the sum's channel. -/
theorem devThird_eq : ∀ up a c, (py c == thirdY up) = true → devThird up a c = (dst (ySum up a) c).val := by decide +kernel

/-- The devices of a line along y that send. -/
theorem y_places : ∀ up a c,
    ((py c == firstY up) = true → act (ySum up a) c = true) ∧
    ((py c == nextY up) = true → act (ySum up a) c = true ∧ rcv (ySum up a) c = true) ∧
    ((py c == thirdY up) = true → act (ySum up a) c = true ∧ rcv (ySum up a) c = true ∧ rcv (ySum (!up) a) c = true) ∧
    ((py c == lastY up) = true → rcv (ySum up a) c = true) := by decide +kernel

/-! ## The statements of the copies along z -/

/-- Whether a device sends along z. -/
def condSend : Bool → Fin 3 → Fin 2 → Dev nD → BitVec 1
  | true, 0, 0 => k0_cond13 | true, 1, 0 => k0_cond22 | true, 2, 0 => k0_cond30
  | true, 0, 1 => k0_cond19 | true, 1, 1 => k0_cond26 | true, 2, 1 => k0_cond34
  | false, 0, 0 => k0_cond14 | false, 1, 0 => k0_cond24 | false, 2, 0 => k0_cond32
  | false, 0, 1 => k0_cond20 | false, 1, 1 => k0_cond28 | false, 2, 1 => k0_cond36
/-- The printed condition of a send along z says that the device uses the channel. -/
theorem condSend_iff : ∀ right d s c, condSend right d s c = 1#1 ↔ act (zChan right d s) c = true := by decide +kernel
/-- Whether a device receives along z. -/
def condRecv : Bool → Fin 3 → Fin 2 → Dev nD → BitVec 1
  | true, 0, 0 => k0_cond21 | true, 1, 0 => k0_cond29 | true, 2, 0 => k0_cond37
  | true, 0, 1 => k0_cond25 | true, 1, 1 => k0_cond33 | true, 2, 1 => k0_cond39
  | false, 0, 0 => k0_cond23 | false, 1, 0 => k0_cond31 | false, 2, 0 => k0_cond38
  | false, 0, 1 => k0_cond27 | false, 1, 1 => k0_cond35 | false, 2, 1 => k0_cond40
/-- The printed condition of a receive along z says that something comes on the channel. -/
theorem condRecv_iff : ∀ right d s c, condRecv right d s c = 1#1 ↔ rcv (zChan right d s) c = true := by decide +kernel
/-- Whether a device waits for what it sent along z. -/
def condSwait : Bool → Fin 3 → Fin 2 → Dev nD → BitVec 1
  | true, 0, 0 => k0_cond45 | true, 1, 0 => k0_cond46 | true, 2, 0 => k0_cond47
  | true, 0, 1 => k0_cond51 | true, 1, 1 => k0_cond52 | true, 2, 1 => k0_cond53
  | false, 0, 0 => k0_cond48 | false, 1, 0 => k0_cond49 | false, 2, 0 => k0_cond50
  | false, 0, 1 => k0_cond54 | false, 1, 1 => k0_cond55 | false, 2, 1 => k0_cond56
/-- The printed condition of a send wait along z says that the device uses the channel. -/
theorem condSwait_iff : ∀ right d s c, condSwait right d s c = 1#1 ↔ act (zChan right d s) c = true := by decide +kernel
/-- The tile a device sends along z. -/
def offSend : Bool → Fin 3 → Fin 2 → Dev nD → Fin 2 → ℕ
  | true, 0, 0 => k0_off13 | true, 1, 0 => k0_off22 | true, 2, 0 => k0_off30
  | true, 0, 1 => k0_off19 | true, 1, 1 => k0_off26 | true, 2, 1 => k0_off34
  | false, 0, 0 => k0_off14 | false, 1, 0 => k0_off24 | false, 2, 0 => k0_off32
  | false, 0, 1 => k0_off20 | false, 1, 1 => k0_off28 | false, 2, 1 => k0_off36
/-- A send along z takes the tile that its channel carries. -/
theorem offSend_eq : ∀ right d s c, act (zChan right d s) c = true → offSend right d s c = tileOff c s (tcol (zChan right d s) c) := by
  decide +kernel
/-- Where a device sends to along z. -/
def devSend : Bool → Fin 3 → Fin 2 → Dev nD → ℕ
  | true, 0, 0 => k0_dev16 | true, 1, 0 => k0_dev22 | true, 2, 0 => k0_dev26
  | true, 0, 1 => k0_dev20 | true, 1, 1 => k0_dev24 | true, 2, 1 => k0_dev28
  | false, 0, 0 => k0_dev17 | false, 1, 0 => k0_dev23 | false, 2, 0 => k0_dev27
  | false, 0, 1 => k0_dev21 | false, 1, 1 => k0_dev25 | false, 2, 1 => k0_dev29
/-- A send along z goes to the channel's neighbour. -/
theorem devSend_eq : ∀ right d s c, act (zChan right d s) c = true → devSend right d s c = (dst (zChan right d s) c).val := by
  decide +kernel

/-! ## The statements of the copies across x, and the signals -/

/-- The rows a device sends across x. -/
def offX : Fin 2 → Dev nD → Fin 2 → ℕ
  | 0 => fun c => k0_off39 c 0#32 | 1 => fun c => k0_off39 c 512#32
/-- A send across x takes a half's rows. -/
theorem offX_eq : ∀ s c, offX s c = rowsOff c s := by decide +kernel
/-- Where a device sends to across x. -/
def devX : Fin 2 → Dev nD → ℕ
  | 0 => k0_dev30 | 1 => k0_dev31
/-- A send across x goes to the other device along x. -/
theorem devX_eq : ∀ s c, devX s c = (dst (.x s) c).val := by decide +kernel
/-- Whom a device signals. -/
def devSig : Fin 5 → Dev nD → ℕ
  | 0 => k0_dev1 | 1 => k0_dev2 | 2 => k0_dev3 | 3 => k0_dev4 | 4 => k0_dev5
/-- The devices signalled at the barrier are those of which the signaller is a neighbour. -/
theorem devSig_eq : ∀ i c, devSig i c = ((nb i).symm c).val := by decide +kernel

end Cert.AllReduce
-- ==== Proof.Tables.lean ====
/-
  The book-keeping of every statement, checked by evaluation on all devices.
-/
module

public import proofs.«01_k».proof.Proof.Facts

@[expose] public section

noncomputable section

namespace Cert.AllReduce

open Cert.KernelIdeal Cert.KernelIdeal.Gen
open Idealize.ShloMosaic

/-- The share of a tile that a copy along z reads. -/
def zShare (right : Bool) : Fin 3 := if right then 1 else 2

/-- What a copy along z uses. -/
def sendC (right : Bool) (d : Fin 3) (s : Fin 2) (c : Dev nD) : List Res :=
  [.uns (zChan right d s), .pc s (tcol (zChan right d s) c) (zShare right)]
/-- The three shares of a tile. -/
def pcs (s : Fin 2) (j : Fin 4) : List Res := [.pc s j 0, .pc s j 1, .pc s j 2]

/-- The book-keeping of a statement: its resources, and that what is owed loses channel `k`, or nothing; if the device
    skips the statement nothing changes. -/
def okSend (act : Bool) (c : Dev nD) (n : ℕ) (k : Ch) (C P : List Res) : Bool :=
  if act then chk c n (n + 1) C P && lessU c n (n + 1) k else chk c n (n + 1) [] [] && sameU c n (n + 1)
/-- The same of a statement that waits at level `l`. -/
def okWait (act : Bool) (c : Dev nD) (n l : ℕ) (C P : List Res) : Bool :=
  if act then chk c n (n + 1) C P && sameU c n (n + 1) && above c n l else chk c n (n + 1) [] [] && sameU c n (n + 1)

/-- The same of a statement that waits at level `l` and then sends on channel `k`. -/
def okBoth (act : Bool) (c : Dev nD) (n l : ℕ) (k : Ch) (C P : List Res) : Bool :=
  if act then chk c n (n + 1) C P && lessU c n (n + 1) k && above c n l else chk c n (n + 1) [] [] && sameU c n (n + 1)

/-- The four tiles of a half, at the share that the copy across x reads. -/
def rowPcs (s : Fin 2) : List Res := [.pc s 0 0, .pc s 1 0, .pc s 2 0, .pc s 3 0]

/-- The sends along z fit the table of resources. -/
theorem send_ok : ∀ right d s c, okSend (act (zChan right d s) c) c (sendAt (zChan right d s) c) (zChan right d s)
    (sendC right d s c) [.flt (zChan right d s)] = true := by decide +kernel

/-- The receives along z fit the table of resources. -/
theorem recv_ok : ∀ right d s c, okWait (rcv (zChan right d s) c) c (recvAt (zChan right d s) c) (rlev (zChan right d s) c)
    [.unr (zChan right d s)] (.rcd (zChan right d s) :: pcs s (tcol (zChan right d s) (src (zChan right d s) c))) = true := by decide +kernel

/-- The send waits along z fit the table of resources. -/
theorem zwait_ok : ∀ right d s c, okWait (act (zChan right d s) c) c (swaitAt (zChan right d s)) 0
    [.flt (zChan right d s)] [.snt (zChan right d s), .pc s (tcol (zChan right d s) c) (zShare right)] = true := by decide +kernel

/-- The sends across x fit the table of resources. -/
theorem xsend_ok : ∀ s c, okSend true c (sendAt (.x s) c) (.x s) (.uns (.x s) :: rowPcs s) [.flt (.x s)] = true := by decide +kernel
/-- The receives across x fit the table of resources. -/
theorem xrecv_ok : ∀ s c, okWait true c (recvAt (.x s) c) (rlev (.x s) c) [.unr (.x s)] [.rcd (.x s), .peer s] = true := by decide +kernel
/-- The send waits across x fit the table of resources. -/
theorem xwait_ok : ∀ s c, okWait true c (swaitAt (.x s)) 0 [.flt (.x s)] (.snt (.x s) :: rowPcs s) = true := by decide +kernel

/-- The send waits along y fit the table of resources. -/
theorem ywait_ok : ∀ up a c, okWait (act (ySum up a) c) c (swaitAt (ySum up a)) 0
    [.flt (ySum up a)] [.snt (ySum up a), .src (ySum up a)] = true := by decide +kernel

/-- How far into its group a sum's statement comes. -/
def lag (up : Bool) : ℕ := if up then 0 else 1

/-- The statements of a sum's first device fit the table of resources. -/
theorem begin_ok : ∀ up a c, okSend (py c == firstY up) c (1 + 4 * a.val + lag up) (ySum up a)
    [.src (ySum up a), .uns (ySum up a)] [.flt (ySum up a)] = true := by decide +kernel
/-- The statements of a sum's second device fit the table of resources. -/
theorem next_ok : ∀ up a c, okBoth (py c == nextY up) c (3 + 4 * a.val + lag up) (rlev (ySum up a) c) (ySum up a)
    [.unr (ySum up a), .src (ySum up a), .uns (ySum up a)] [.rcd (ySum up a), .land (ySum up a), .flt (ySum up a)] = true := by decide +kernel
/-- The statements of a sum's last device fit the table of resources. -/
theorem last_ok : ∀ up a c, okWait (py c == lastY up) c (10 + 6 * a.val - lag up) (rlev (ySum up a) c)
    [.unr (ySum up a), .own a] ([.rcd (ySum up a), .land (ySum up a)] ++ pcs a (zcol c)) = true := by decide +kernel
/-- The statements of a sum's third device fit the table of resources. -/
theorem third_ok : ∀ up a c, okBoth (py c == thirdY up) c (12 + 6 * a.val - lag up) (rlev (ySum up a) c) (ySum up a)
    [.unr (ySum up a), .src (ySum up a), .uns (ySum up a), .own a, .land (ySum (!up) a)]
    ([.rcd (ySum up a), .land (ySum up a), .flt (ySum up a), .land (ySum (!up) a)] ++ pcs a (zcol c)) = true := by decide +kernel

end Cert.AllReduce
-- ==== Proof.Stmts.lean ====
/-
  From the footprint of a piece of program to its step on everything a device holds, and the statements of the copies
  along z.
-/
module

public import proofs.«01_k».proof.Proof.Tables

@[expose] public section

set_option maxRecDepth 20000

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {X : Dev nD → Blk F} {K : Dev nD × Cell → ℕ}
variable {c : Dev nD} {n : ℕ} {α : Type} {q : Prog (TpuEff nD τ sig (Elt F) Λ₀ .tc) α}

/-! ## From footprints to steps -/

/-- A statement that always sends. -/
theorem always_send {k : Ch} {C R : List Res} {p : Prog (TpuEff nD τ sig (Elt F) Λ₀ .tc) α} {Q : α → sProp 𝕄}
    (hok : okSend true c n k C R = true)
    (hT : k ∈ U c n → Trip X K c (U c n) ((U c n).erase k) C R p q) (hq : St X K c (n + 1) ⊢ WP c q Q) :
    St X K c n ⊢ WP c p Q := by
  unfold okSend at hok
  rw [if_pos rfl, Bool.and_eq_true] at hok
  obtain ⟨hk, hu⟩ := U_less hok.2
  exact run hok.1 (by rw [hu]; exact hT hk) hq

/-- A statement that always waits at level `l`. -/
theorem always_wait {l : ℕ} {C R : List Res} {p : Prog (TpuEff nD τ sig (Elt F) Λ₀ .tc) α} {Q : α → sProp 𝕄}
    (hok : okWait true c n l C R = true)
    (hT : (∀ k ∈ U c n, l < rlev k (dst k c)) → Trip X K c (U c n) (U c n) C R p q) (hq : St X K c (n + 1) ⊢ WP c q Q) :
    St X K c n ⊢ WP c p Q := by
  unfold okWait at hok
  rw [if_pos rfl, Bool.and_eq_true, Bool.and_eq_true] at hok
  exact run hok.1.1 (by rw [U_same hok.1.2]; exact hT (U_above hok.2)) hq

/-- A statement that a device skips or that sends. -/
theorem stmt_send {a : Bool} {k : Ch} {C R : List Res} {P : Prop} [Decidable P] {T : P → Prog (TpuEff nD τ sig (Elt F) Λ₀ .tc) α} {Q : α → sProp 𝕄}
    (hok : okSend a c n k C R = true) (hP : P ↔ a = true)
    (hT : a = true → ∀ h : P, k ∈ U c n → Trip X K c (U c n) ((U c n).erase k) C R (T h) q) (hq : St X K c (n + 1) ⊢ WP c q Q) :
    St X K c n ⊢ WP c (dite P T (fun _ => q)) Q := by
  refine cond (n + 1) (fun h => ?_) (fun h hq => ?_) hq
  · have ha : a = false := by rw [hP] at h; exact Bool.eq_false_iff.mpr h
    rw [ha] at hok; exact hok
  · have ha := hP.mp h
    rw [ha] at hok
    exact always_send hok (hT ha h) hq

/-- A statement that a device skips or that waits at level `l`. -/
theorem stmt_wait {a : Bool} {l : ℕ} {C R : List Res} {P : Prop} [Decidable P] {T : P → Prog (TpuEff nD τ sig (Elt F) Λ₀ .tc) α} {Q : α → sProp 𝕄}
    (hok : okWait a c n l C R = true) (hP : P ↔ a = true)
    (hT : a = true → ∀ h : P, (∀ k ∈ U c n, l < rlev k (dst k c)) → Trip X K c (U c n) (U c n) C R (T h) q) (hq : St X K c (n + 1) ⊢ WP c q Q) :
    St X K c n ⊢ WP c (dite P T (fun _ => q)) Q := by
  refine cond (n + 1) (fun h => ?_) (fun h hq => ?_) hq
  · have ha : a = false := by rw [hP] at h; exact Bool.eq_false_iff.mpr h
    rw [ha] at hok; exact hok
  · have ha := hP.mp h
    rw [ha] at hok
    exact always_wait hok (hT ha h) hq

/-- A statement that a device skips or that waits at level `l` and then sends. -/
theorem stmt_both {a : Bool} {l : ℕ} {k : Ch} {C R : List Res} {P : Prop} [Decidable P] {T : P → Prog (TpuEff nD τ sig (Elt F) Λ₀ .tc) α} {Q : α → sProp 𝕄}
    (hok : okBoth a c n l k C R = true) (hP : P ↔ a = true)
    (hT : a = true → ∀ h : P, k ∈ U c n → (∀ k ∈ U c n, l < rlev k (dst k c)) → Trip X K c (U c n) ((U c n).erase k) C R (T h) q)
    (hq : St X K c (n + 1) ⊢ WP c q Q) :
    St X K c n ⊢ WP c (dite P T (fun _ => q)) Q := by
  unfold okBoth at hok
  refine cond (n + 1) (fun h => ?_) (fun h hq => ?_) hq
  · have ha : a = false := by rw [hP] at h; exact Bool.eq_false_iff.mpr h
    rw [ha, if_neg (by decide)] at hok; exact hok
  · have ha := hP.mp h
    rw [ha, if_pos rfl, Bool.and_eq_true, Bool.and_eq_true] at hok
    obtain ⟨hk, hu⟩ := U_less hok.1.2
    exact run hok.1.1 (by rw [hu]; exact hT ha h hk (U_above hok.2)) hq

/-! ## Footprints of single operations -/

omit [FloatOps F] in
/-- Nothing beside a resource changes nothing. -/
theorem emp_right (P : sProp 𝕄) : iprop(P ∗ emp) = P := sep_emp_eq P

/-- A list's resources are the first one and the others'. -/
theorem sepL_cons (X : Dev nD → Blk F) (c : Dev nD) (r : Res) (l : List Res) : (sepL X c (r :: l) : sProp 𝕄) = iprop(pts X c r ∗ sepL X c l) := by
  cases l with
  | nil => exact (emp_right _).symm
  | cons r' l => rfl

/-- The footprint of a send. -/
theorem trip_send {k : Ch} {V : Finset Ch} {C : List Res} {p : Prog (TpuEff nD τ sig (Elt F) Λ₀ .tc) α}
    (hp : ∀ Q : α → sProp 𝕄, iprop(Ctx X K ∗ Holds c (srcMem k c) (qs k) (val X k c) ∗ unsR k c ∗ Owe c V)
      ⊢ iprop(((fltR k c ∗ Owe c (V.erase k)) -∗ WP c q Q) -∗ WP c p Q))
    (hC : (sepL X c C : sProp 𝕄) ⊢ Holds c (srcMem k c) (qs k) (val X k c)) :
    Trip X K c V (V.erase k) (.uns k :: C) [.flt k] p q := by
  intro Q
  rw [sepL_cons, show (pts X c (.uns k) : sProp 𝕄) = unsR k c from rfl, show (sepL X c [.flt k] : sProp 𝕄) = fltR k c from rfl]
  iintro ⟨#HC, Hx, HO, Hu, Hp⟩ Hk
  ihave Hs := hC $$ Hp
  iapply (hp Q) $$ [Hs Hu HO]
  · isplitr; · iexact HC
    isplitl [Hs]; · iexact Hs
    isplitl [Hu]; · iexact Hu
    iexact HO
  iintro ⟨Hf, HO⟩
  iapply Hk
  isplitl [Hx]; · iexact Hx
  isplitl [HO]; · iexact HO
  iexact Hf

/-- The footprint of the wait for a send. -/
theorem trip_swait {k : Ch} {V : Finset Ch} {R : List Res} {p : Prog (TpuEff nD τ sig (Elt F) Λ₀ .tc) α}
    (hp : ∀ Q : α → sProp 𝕄, iprop(Ctx X K ∗ fltR k c ∗ Owe c V)
      ⊢ iprop(((semVal (sndG k c) 0 ∗ Holds c (srcMem k c) (qs k) (val X k c) ∗ Owe c V) -∗ WP c q Q) -∗ WP c p Q))
    (hR : Holds c (srcMem k c) (qs k) (val X k c) ⊢ (sepL X c R : sProp 𝕄)) :
    Trip X K c V V [.flt k] (.snt k :: R) p q := by
  intro Q
  rw [sepL_cons X c (.snt k), show (pts X c (.snt k) : sProp 𝕄) = semVal (sndG k c) 0 from rfl, show (sepL X c [.flt k] : sProp 𝕄) = fltR k c from rfl]
  iintro ⟨#HC, Hx, HO, Hf⟩ Hk
  iapply (hp Q) $$ [Hf HO]
  · isplitr; · iexact HC
    isplitl [Hf]; · iexact Hf
    iexact HO
  iintro ⟨Hv, Hs, HO⟩
  iapply Hk
  isplitl [Hx]; · iexact Hx
  isplitl [HO]; · iexact HO
  isplitl [Hv]; · iexact Hv
  iapply hR; iexact Hs

/-- The footprint of the wait for an arrival. -/
theorem trip_recv {k : Ch} {V : Finset Ch} {R : List Res} {p : Prog (TpuEff nD τ sig (Elt F) Λ₀ .tc) α}
    (hp : ∀ Q : α → sProp 𝕄, iprop(Ctx X K ∗ unrR k c ∗ Owe c V)
      ⊢ iprop(((semVal (rcvG k c) 0 ∗ Holds c (dstMem k (src k c)) fullShare (val X k (src k c)) ∗ Owe c V) -∗ WP c q Q) -∗ WP c p Q))
    (hR : Holds c (dstMem k (src k c)) fullShare (val X k (src k c)) ⊢ (sepL X c R : sProp 𝕄)) :
    Trip X K c V V [.unr k] (.rcd k :: R) p q := by
  intro Q
  rw [sepL_cons X c (.rcd k), show (pts X c (.rcd k) : sProp 𝕄) = semVal (rcvG k c) 0 from rfl, show (sepL X c [.unr k] : sProp 𝕄) = unrR k c from rfl]
  iintro ⟨#HC, Hx, HO, Hf⟩ Hk
  iapply (hp Q) $$ [Hf HO]
  · isplitr; · iexact HC
    isplitl [Hf]; · iexact Hf
    iexact HO
  iintro ⟨Hv, Hs, HO⟩
  iapply Hk
  isplitl [Hx]; · iexact Hx
  isplitl [HO]; · iexact HO
  isplitl [Hv]; · iexact Hv
  iapply hR; iexact Hs

/-! ## Copies along z -/

/-- What a copy along z reads is the tile's share that is set aside for it. -/
theorem z_src (X : Dev nD → Blk F) (right : Bool) (d : Fin 3) (s : Fin 2) (c : Dev nD) :
    (Holds c (srcMem (zChan right d s) c) (qs (zChan right d s)) (val X (zChan right d s) c) : sProp 𝕄)
      ⊣⊢ pts X c (.pc s (tcol (zChan right d s) c) (zShare right)) := by
  cases right
  · exact tile_pts c _ _ _ (outF X (py c))
  · exact tile_pts c _ _ _ (outF X (py c))

/-- A tile at an offset is the tile at the same offset. -/
theorem tile_eq {o o' : Fin 2 → ℕ} (e : o = o') (h) (h') : (tileM o h : MS S512x128) = tileM o' h' := by subst e; rfl

/-- The send of a copy along z. -/
theorem z_send (right : Bool) (d : Fin 3) (s : Fin 2) {V : Finset Ch} (ha : act (zChan right d s) c = true) (hU : zChan right d s ∈ V)
    {o : Fin 2 → ℕ} {ho : ∀ i, o i + S512x128.size i ≤ S2048x512.size i}
    (hoff : act (zChan right d s) c = true → o = tileOff c s (tcol (zChan right d s) c))
    {nv : ℕ} {hnv : nv < nD} (hdev : act (zChan right d s) c = true → nv = (dst (zChan right d s) c).val)
    {ss rs : DmaSem sig} (hss : ss = sndIx (zChan right d s)) (hrs : rs = rcvIx (zChan right d s)) :
    Trip X K c V (V.erase (zChan right d s)) (sendC right d s c) [.flt (zChan right d s)]
      (Prog.lift (.enqueueDma (tileM o ho) (.remote (Dev.tc (⟨nv, hnv⟩ : Dev nD)) (tileM o ho) (.dma ss)) (.dma rs)
        (View.wordExact_bits rfl) (View.wordExact_bits rfl) ⟨⟨rfl, Or.inl rfl⟩, trivial⟩) >>= fun _ => q) q := by
  have ho' := hoff ha
  have hd : (⟨nv, hnv⟩ : Dev nD) = dst (zChan right d s) c := Fin.ext (hdev ha)
  simp only [Prog.lift, Prog.bind_op, Prog.bind_ret]
  refine trip_send (fun Q => ?_) (z_src X right d s c).2
  cases right
  · exact send_piece (kt := fun _ => q) X K (.l d s) c ha hU (tile_eq ho' _ _) (tile_eq ho' _ _) hd hss hrs
  · exact send_piece (kt := fun _ => q) X K (.r d s) c ha hU (tile_eq ho' _ _) (tile_eq ho' _ _) hd hss hrs

/-- Waiting for a copy along z to have been sent. -/
theorem z_swait (right : Bool) (d : Fin 3) (s : Fin 2) {V : Finset Ch} (ha : act (zChan right d s) c = true)
    (hl : ∀ k ∈ V, 0 < rlev k (dst k c)) {S D : MS S512x128} (hD : D.view.dmaCredit = amt (zChan right d s))
    {ss : DmaSem sig} (hss : ss = sndIx (zChan right d s)) {h1 : S.view.WordExact} {h2 : D.view.WordExact} :
    Trip X K c V V [.flt (zChan right d s)] [.snt (zChan right d s), .pc s (tcol (zChan right d s) c) (zShare right)]
      (Prog.lift (.waitDma2 ss S D h1 h2) >>= fun _ => q) q := by
  simp only [Prog.lift, Prog.bind_op, Prog.bind_ret]
  refine trip_swait (fun Q => ?_) (z_src X right d s c).1
  cases right
  · exact swait_piece (kt := fun _ => q) X K (.l d s) c ha (hD.trans (amt_eq _ c).symm) hss hl
  · exact swait_piece (kt := fun _ => q) X K (.r d s) c ha (hD.trans (amt_eq _ c).symm) hss hl

/-- A tile owned outright is its three shares. -/
theorem tile_shares (X : Dev nD → Blk F) (c : Dev nD) (s : Fin 2) (j : Fin 4) :
    outPts c (tileR c s j).set fullShare (outF X (py c)) ⊣⊢ (sepL X c (pcs s j) : sProp 𝕄) := by
  unfold pcs sepL sepL sepL pts outPts share
  constructor
  · iintro H
    ihave H := (pointsTo_share (PosShare.mem_left_op_right fullShare)).1 $$ H
    icases H with ⟨H1, H2⟩
    isplitl [H1]; · iexact H1
    ihave H2 := (pointsTo_share (PosShare.mem_left_op_right fullShare.right)).1 $$ H2
    iexact H2
  · iintro ⟨H1, H2⟩
    ihave H2 := (pointsTo_share (PosShare.mem_left_op_right fullShare.right)).2 $$ H2
    iapply (pointsTo_share (PosShare.mem_left_op_right fullShare)).2
    isplitl [H1] <;> iassumption

/-- Tiles at the same place have the same elements. -/
theorem unit_set_eq {o o' : Fin 2 → ℕ} (e : o = o') (h) (h') :
    (Rect.unit (s := S2048x512) o S512x128.size h).set = (Rect.unit (s := S2048x512) o' S512x128.size h').set := by subst e; rfl

/-- Devices of one x coordinate have the same tiles. -/
theorem tile_set_eq {c c' : Dev nD} (s : Fin 2) (j : Fin 4) (h : px c = px c') : (tileR c s j).set = (tileR c' s j).set :=
  unit_set_eq (by unfold tileOff; rw [h]) _ _

/-- The device that sends along z has the same places along x and y. -/
theorem z_src_place : ∀ right d s c, px (src (zChan right d s) c) = px c ∧ py (src (zChan right d s) c) = py c := by decide +kernel

/-- What arrives on a channel along z is the whole of a tile. -/
theorem z_dst (X : Dev nD → Blk F) (right : Bool) (d : Fin 3) (s : Fin 2) (c : Dev nD) :
    (Holds c (dstMem (zChan right d s) (src (zChan right d s) c)) fullShare (val X (zChan right d s) (src (zChan right d s) c)) : sProp 𝕄)
      ⊢ sepL X c (pcs s (tcol (zChan right d s) (src (zChan right d s) c))) := by
  refine BIBase.Entails.trans ?_ (tile_shares X c s _).1
  obtain ⟨hx, hy⟩ := z_src_place right d s c
  have ho := tile_set_eq s (tcol (zChan right d s) (src (zChan right d s) c)) hx
  rw [← ho, ← hy]
  cases right
  · exact (tile_pts c _ _ _ (outF X (py (src (.l d s) c)))).1
  · exact (tile_pts c _ _ _ (outF X (py (src (.r d s) c)))).1

/-- Waiting for a copy along z to arrive. -/
theorem z_recv (right : Bool) (d : Fin 3) (s : Fin 2) {V : Finset Ch} (ha : rcv (zChan right d s) c = true)
    (hl : ∀ k ∈ V, rlev (zChan right d s) c < rlev k (dst k c)) {S D : MS S512x128} (hD : D.view.dmaCredit = amt (zChan right d s))
    {rs : DmaSem sig} (hrs : rs = rcvIx (zChan right d s)) {h1 : S.view.WordExact} {h2 : D.view.WordExact} :
    Trip X K c V V [.unr (zChan right d s)] (.rcd (zChan right d s) :: pcs s (tcol (zChan right d s) (src (zChan right d s) c)))
      (Prog.lift (.waitDma2 rs S D h1 h2) >>= fun _ => q) q := by
  simp only [Prog.lift, Prog.bind_op, Prog.bind_ret]
  refine trip_recv (fun Q => ?_) (z_dst X right d s c)
  cases right
  · exact recv_piece (kt := fun _ => q) X K (.l d s) c ha hl (hD.trans (amt_eq _ _).symm) hrs
  · exact recv_piece (kt := fun _ => q) X K (.r d s) c ha hl (hD.trans (amt_eq _ _).symm) hrs

/-! ## The statements along z on everything a device holds -/

/-- Before statement `n` of device `c` the rest of its program is `p`, and it runs to `Q`. -/
def Goes (X : Dev nD → Blk F) (K : Dev nD × Cell → ℕ) (c : Dev nD) (n : ℕ) {α : Type} (p : Prog (TpuEff nD τ sig (Elt F) Λ₀ .tc) α) (Q : α → sProp 𝕄) : Prop :=
  St X K c n ⊢ WP c p Q

/-- The program that returns at once. -/
theorem done {a : α} {n : ℕ} : Goes X K c n (Pure.pure a) (fun _ => (St X K c n : sProp 𝕄)) := by
  show _ ⊢ iprop(|={Set.univ}[frame]=> St X K c n)
  iintro H
  imodintro
  iexact H

/-- The program that returns at once, and what it returns. -/
theorem done_with {a : α} {φ : α → Prop} {n : ℕ} (h : φ a) : Goes X K c n (Pure.pure a) (fun r => (iprop(⌜φ r⌝ ∗ St X K c n) : sProp 𝕄)) := by
  show _ ⊢ iprop(|={Set.univ}[frame]=> (⌜φ a⌝ ∗ St X K c n))
  iintro H
  imodintro
  isplitr; · ipureintro; exact h
  iexact H

/-- A send along z, if the device makes it. -/
theorem at_send {P : Prop} [Decidable P] {T : P → Prog (TpuEff nD τ sig (Elt F) Λ₀ .tc) α} {Q : α → sProp 𝕄} (right : Bool) (d : Fin 3) (s : Fin 2)
    (hn : n = sendAt (zChan right d s) c) (hP : P ↔ act (zChan right d s) c = true)
    (hT : act (zChan right d s) c = true → ∀ h : P, zChan right d s ∈ U c n →
      Trip X K c (U c n) ((U c n).erase (zChan right d s)) (sendC right d s c) [.flt (zChan right d s)] (T h) q)
    (hq : Goes X K c (n + 1) q Q) : Goes X K c n (dite P T (fun _ => q)) Q := by
  subst hn; exact stmt_send (send_ok right d s c) hP hT hq

/-- A wait for an arrival along z, if the device makes it. -/
theorem at_recv {P : Prop} [Decidable P] {T : P → Prog (TpuEff nD τ sig (Elt F) Λ₀ .tc) α} {Q : α → sProp 𝕄} (right : Bool) (d : Fin 3) (s : Fin 2)
    (hn : n = recvAt (zChan right d s) c) (hP : P ↔ rcv (zChan right d s) c = true)
    (hT : rcv (zChan right d s) c = true → ∀ h : P, (∀ k ∈ U c n, rlev (zChan right d s) c < rlev k (dst k c)) →
      Trip X K c (U c n) (U c n) [.unr (zChan right d s)] (.rcd (zChan right d s) :: pcs s (tcol (zChan right d s) (src (zChan right d s) c))) (T h) q)
    (hq : Goes X K c (n + 1) q Q) : Goes X K c n (dite P T (fun _ => q)) Q := by
  subst hn; exact stmt_wait (recv_ok right d s c) hP hT hq

/-- A wait for a send along z, if the device makes it. -/
theorem at_swait {P : Prop} [Decidable P] {T : P → Prog (TpuEff nD τ sig (Elt F) Λ₀ .tc) α} {Q : α → sProp 𝕄} (right : Bool) (d : Fin 3) (s : Fin 2)
    (hn : n = swaitAt (zChan right d s)) (hP : P ↔ act (zChan right d s) c = true)
    (hT : act (zChan right d s) c = true → ∀ h : P, (∀ k ∈ U c n, 0 < rlev k (dst k c)) →
      Trip X K c (U c n) (U c n) [.flt (zChan right d s)] [.snt (zChan right d s), .pc s (tcol (zChan right d s) c) (zShare right)] (T h) q)
    (hq : Goes X K c (n + 1) q Q) : Goes X K c n (dite P T (fun _ => q)) Q := by
  subst hn; exact stmt_wait (zwait_ok right d s c) hP hT hq

end Cert.AllReduce
-- ==== Proof.StmtsX.lean ====
/-
  The statements of the copies across x.
-/
module

public import proofs.«01_k».proof.Proof.Stmts

@[expose] public section

set_option maxRecDepth 20000

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {X : Dev nD → Blk F} {K : Dev nD × Cell → ℕ}
variable {c : Dev nD} {n : ℕ} {α : Type} {q : Prog (TpuEff nD τ sig (Elt F) Λ₀ .tc) α}

/-! ## The rows of a half are four tiles -/

/-- The four tiles of a half cover its rows. -/
theorem rows_cover (c : Dev nD) (s : Fin 2) : (rowsR c s).set = Finset.univ.biUnion fun j : Fin 4 => (tileR c s j).set := by
  ext i
  rw [Finset.mem_biUnion, Rect.mem_set_unit]
  constructor
  · intro h
    have h1 : (i 1).val < 512 := (i 1).isLt
    refine ⟨⟨(i 1).val / 128, by omega⟩, Finset.mem_univ _, Rect.mem_set_unit.mpr fun a => ?_⟩
    match a with
    | ⟨0, _⟩ => exact h 0
    | ⟨1, _⟩ =>
        show 128 * ((i 1).val / 128) ≤ (i 1).val ∧ (i 1).val < 128 * ((i 1).val / 128) + 128
        omega
  · rintro ⟨j, -, h⟩
    rw [Rect.mem_set_unit] at h
    intro a
    match a with
    | ⟨0, _⟩ => exact h 0
    | ⟨1, _⟩ =>
        have h1 : (i 1).val < 512 := (i 1).isLt
        show 0 ≤ (i 1).val ∧ (i 1).val < 0 + 512
        omega

/-- Two tiles of one half are disjoint. -/
theorem tiles_disjoint (c : Dev nD) (s : Fin 2) {j j' : Fin 4} (h : j ≠ j') : Disjoint (tileR c s j).set (tileR c s j').set := by
  have h' : j.val ≠ j'.val := fun e => h (Fin.ext e)
  refine Rect.unit_disjoint 1 ?_
  show 128 * j.val + 128 ≤ 128 * j'.val ∨ 128 * j'.val + 128 ≤ 128 * j.val
  omega

/-- A half's rows are its four tiles. -/
theorem rows_tiles (c d : Dev nD) (s : Fin 2) (sh : PosShare TreeShare) (g : Blk F) :
    (outPts d (rowsR c s).set sh g : sProp 𝕄) = bigSep Finset.univ fun j : Fin 4 => outPts d (tileR c s j).set sh g := by
  unfold outPts
  rw [rows_cover]
  exact pointsTo_biUnion _ _ fun j _ j' _ h => tiles_disjoint c s h

/-- What the copy across x reads is the share of the four tiles that is set aside for it. -/
theorem x_src (X : Dev nD → Blk F) (s : Fin 2) (c : Dev nD) :
    (Holds c (srcMem (.x s) c) (qs (.x s)) (val X (.x s) c) : sProp 𝕄) ⊣⊢ sepL X c (rowPcs s) := by
  have e := rows_pts c (rowsOff c s) (rowsOff_inb c s) (qs (.x s)) (outF X (py c))
  rw [rows_tiles, bigSep_univ_eq_bigSepL [0, 1, 2, 3] (by decide) (by decide)] at e
  exact e

/-- Rows at an offset are the rows at the same offset. -/
theorem rowsM_eq {o o' : Fin 2 → ℕ} (e : o = o') (h) (h') : (rowsM o h : MS S512x512) = rowsM o' h' := by subst e; rfl

/-- Every device sends across x. -/
theorem x_act : ∀ s c, act (.x s) c = true := by decide +kernel
/-- Every device receives across x. -/
theorem x_rcv : ∀ s c, rcv (.x s) c = true := by decide +kernel
/-- The device that sends across x has the same place along y. -/
theorem x_src_y : ∀ s c, py (src (.x s) c) = py c := by decide +kernel

/-- What arrives across x is the other half of the rows. -/
theorem x_dst (X : Dev nD → Blk F) (s : Fin 2) (c : Dev nD) :
    (Holds c (dstMem (.x s) (src (.x s) c)) fullShare (val X (.x s) (src (.x s) c)) : sProp 𝕄) ⊢ sepL X c [.peer s] := by
  have e := (rows_pts c (rowsOff (src (.x s) c) s) (rowsOff_inb _ s) fullShare (outF X (py (src (.x s) c)))).1
  rw [x_src_y] at e
  refine BIBase.Entails.trans (Entails.of_eq ?_) e
  show Holds c (rowsM _ _) fullShare (fun i => outF X (py (src (.x s) c)) ((rowsR (src (.x s) c) s).emb i)) = _
  rw [x_src_y]

/-! ## The statements -/

/-- The send of a half's rows across x. -/
theorem at_xsend (s : Fin 2) {o : Fin 2 → ℕ} {ho : ∀ i, o i + S512x512.size i ≤ S2048x512.size i} (hoff : o = rowsOff c s)
    {nv : ℕ} {hnv : nv < nD} (hdev : nv = (dst (.x s) c).val) {ss rs : DmaSem sig} (hn : n = sendAt (.x s) c)
    (hss : ss = sndIx (.x s)) (hrs : rs = rcvIx (.x s)) {Q : α → sProp 𝕄} (hq : Goes X K c (n + 1) q Q) :
    Goes X K c n (Prog.lift (.enqueueDma (rowsM o ho) (.remote (Dev.tc (⟨nv, hnv⟩ : Dev nD)) (rowsM o ho) (.dma ss)) (.dma rs)
        (View.wordExact_bits rfl) (View.wordExact_bits rfl) ⟨⟨rfl, Or.inl rfl⟩, trivial⟩) >>= fun _ => q) Q := by
  subst hn
  have hd : (⟨nv, hnv⟩ : Dev nD) = dst (.x s) c := Fin.ext hdev
  simp only [Prog.lift, Prog.bind_op, Prog.bind_ret]
  exact always_send (xsend_ok s c) (fun hU => trip_send (fun Q =>
    send_piece (kt := fun _ => q) X K (.x s) c (x_act s c) hU (rowsM_eq hoff _ _) (rowsM_eq hoff _ _) hd hss hrs) (x_src X s c).2) hq

/-- The wait for the other half's rows to arrive. -/
theorem at_xrecv (s : Fin 2) {S D : MS S512x512} {rs : DmaSem sig} {h1 : S.view.WordExact} {h2 : D.view.WordExact}
    (hn : n = recvAt (.x s) c) (hrs : rs = rcvIx (.x s)) (hD : D.view.dmaCredit = amt (.x s)) {Q : α → sProp 𝕄} (hq : Goes X K c (n + 1) q Q) :
    Goes X K c n (Prog.lift (.waitDma2 rs S D h1 h2) >>= fun _ => q) Q := by
  subst hn
  simp only [Prog.lift, Prog.bind_op, Prog.bind_ret]
  exact always_wait (xrecv_ok s c) (fun hl => trip_recv (fun Q =>
    recv_piece (kt := fun _ => q) X K (.x s) c (x_rcv s c) hl (hD.trans (amt_eq _ _).symm) hrs) (x_dst X s c)) hq

/-- The wait for a half's rows to have been sent. -/
theorem at_xswait (s : Fin 2) {S D : MS S512x512} {ss : DmaSem sig} {h1 : S.view.WordExact} {h2 : D.view.WordExact}
    (hn : n = swaitAt (.x s)) (hss : ss = sndIx (.x s)) (hD : D.view.dmaCredit = amt (.x s)) {Q : α → sProp 𝕄} (hq : Goes X K c (n + 1) q Q) :
    Goes X K c n (Prog.lift (.waitDma2 ss S D h1 h2) >>= fun _ => q) Q := by
  subst hn
  simp only [Prog.lift, Prog.bind_op, Prog.bind_ret]
  exact always_wait (xwait_ok s c) (fun hl => trip_swait (fun Q =>
    swait_piece (kt := fun _ => q) X K (.x s) c (x_act s c) (hD.trans (amt_eq _ _).symm) hss hl) (x_src X s c).1) hq

end Cert.AllReduce
-- ==== Proof.StmtsY.lean ====
/-
  The statements of the sums along y.
-/
module

public import proofs.«01_k».proof.Proof.StmtsX
public import Idealize.ShloMosaic.Lib.Pipeline.Value

@[expose] public section

set_option maxRecDepth 20000

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {X : Dev nD → Blk F} {K : Dev nD × Cell → ℕ}
variable {c : Dev nD} {n : ℕ} {α : Type} {q : Prog (TpuEff nD τ sig (Elt F) Λ₀ .tc) α}

/-! ## What a device holds of a sum -/

/-- A slot of an outgoing buffer. -/
abbrev upS (up : Bool) (a : Fin 2) : MS S512x128 := slotM (upM up) (slotOff a) (slotOff_inb a)
/-- A slot of a landing buffer. -/
abbrev inS (up : Bool) (a : Fin 2) : MS S512x128 := slotM (inM up) (slotOff a) (slotOff_inb a)
/-- A device's own tile of the result. -/
abbrev ownT (c : Dev nD) (a : Fin 2) : MS S512x128 := tileM (tileOff c a (zcol c)) (tileOff_inb c a (zcol c))

/-- A sum's outgoing slot, not in use. -/
theorem pts_src (up : Bool) (a : Fin 2) : (pts X c (.src (ySum up a)) : sProp 𝕄) = Junk c (upS up a) := by cases up <;> rfl
/-- A sum's landing slot, after the arrival. -/
theorem pts_land (up : Bool) (a : Fin 2) (h : rcv (ySum up a) c = true) :
    (pts X c (.land (ySum up a)) : sProp 𝕄) = Holds c (inS up a) fullShare (sumVal X up (src (ySum up a) c) a) := by
  cases up
  · exact if_pos h
  · exact if_pos h
/-- A device's own tile, not yet written. -/
theorem pts_own (a : Fin 2) : (pts X c (.own a) : sProp 𝕄) = Junk c (ownT c a) := rfl

/-- The result's tile, written, is its three shares. -/
theorem own_shares (a : Fin 2) : (Holds c (ownT c a) fullShare (ofTile (outF X (py c)) c a) : sProp 𝕄) ⊢ sepL X c (pcs a (zcol c)) :=
  (tile_pts c _ _ _ (outF X (py c))).1.trans (tile_shares X c a (zcol c)).1

/-! ## The copies of a sum -/

/-- The send of a sum. -/
theorem y_send (up : Bool) (a : Fin 2) {V : Finset Ch} (ha : act (ySum up a) c = true) (hU : ySum up a ∈ V)
    {S D : MS S512x128} (hS : S = upS up a) (hD : D = inS up a) {d : Dev nD} (hd : d = dst (ySum up a) c)
    {ss rs : DmaSem sig} (hss : ss = sndIx (ySum up a)) (hrs : rs = rcvIx (ySum up a))
    {hsc : (D : Memref sig (Dev.tc d : Thread nD τ).2.kind .vmem S512x128 .f32).view.ref.isScScratch = false}
    {h1 : S.view.WordExact} {h2 : D.view.WordExact}
    {h3 : DmaTarget.Typed .vmem (.dma rs) (.remote (Dev.tc d : Thread nD τ) D (.dma ss) hsc)}
    {kt : PUnit → Prog (TpuEff nD τ sig (Elt F) Λ₀ .tc) α} {Q : α → sProp 𝕄} :
    iprop(Ctx X K ∗ Holds c (upS up a) fullShare (sumVal X up c a) ∗ unsR (ySum up a) c ∗ Owe c V)
      ⊢ iprop(((fltR (ySum up a) c ∗ Owe c (V.erase (ySum up a))) -∗ WP c (kt ⟨⟩) Q)
          -∗ WP c (.op (.enqueueDma S (.remote (Dev.tc d : Thread nD τ) D (.dma ss) hsc) (.dma rs) h1 h2 h3) kt) Q) := by
  cases up
  · exact send_piece X K (.ys a) c ha hU hS hD hd hss hrs
  · exact send_piece X K (.yp a) c ha hU hS hD hd hss hrs

/-- The wait for a sum's arrival. -/
theorem y_recv (up : Bool) (a : Fin 2) {V : Finset Ch} (ha : rcv (ySum up a) c = true) (hl : ∀ k ∈ V, rlev (ySum up a) c < rlev k (dst k c))
    {S D : MS S512x128} (hD : D.view.dmaCredit = amt (ySum up a)) {rs : DmaSem sig} (hrs : rs = rcvIx (ySum up a))
    {h1 : S.view.WordExact} {h2 : D.view.WordExact} {kt : PUnit → Prog (TpuEff nD τ sig (Elt F) Λ₀ .tc) α} {Q : α → sProp 𝕄} :
    iprop(Ctx X K ∗ unrR (ySum up a) c ∗ Owe c V)
      ⊢ iprop(((semVal (rcvG (ySum up a) c) 0 ∗ Holds c (inS up a) fullShare (sumVal X up (src (ySum up a) c) a) ∗ Owe c V) -∗ WP c (kt ⟨⟩) Q)
          -∗ WP c (.op (.waitDma2 rs S D h1 h2) kt) Q) := by
  cases up
  · exact recv_piece X K (.ys a) c ha hl (hD.trans (amt_eq _ _).symm) hrs
  · exact recv_piece X K (.yp a) c ha hl (hD.trans (amt_eq _ _).symm) hrs

/-- Waiting for a sum to have been sent. -/
theorem y_swait (up : Bool) (a : Fin 2) {V : Finset Ch} (ha : act (ySum up a) c = true)
    (hl : ∀ k ∈ V, 0 < rlev k (dst k c)) {S D : MS S512x128} (hD : D.view.dmaCredit = amt (ySum up a))
    {ss : DmaSem sig} (hss : ss = sndIx (ySum up a)) {h1 : S.view.WordExact} {h2 : D.view.WordExact} :
    Trip X K c V V [.flt (ySum up a)] [.snt (ySum up a), .src (ySum up a)] (Prog.lift (.waitDma2 ss S D h1 h2) >>= fun _ => q) q := by
  simp only [Prog.lift, Prog.bind_op, Prog.bind_ret]
  refine trip_swait (R := [.src (ySum up a)]) (k := ySum up a) (fun Q => ?_) ?_
  · cases up
    · exact swait_piece (kt := fun _ => q) X K (.ys a) c ha (hD.trans (amt_eq _ c).symm) hss hl
    · exact swait_piece (kt := fun _ => q) X K (.yp a) c ha (hD.trans (amt_eq _ c).symm) hss hl
  · cases up
    · exact holds_junk c (srcMem (.ys a) c) _
    · exact holds_junk c (srcMem (.yp a) c) _

/-! ## The payloads -/

/-- A tile put into a slot and read back. -/
theorem slot_cast (v : FVec F S512x128 .f32) :
    shapeCast S512x128 (shapeCast S1x512x128 v shapeCasts_S512x128_S1x512x128) shapeCasts_S1x512x128_S512x128 = v := shapeCast_shapeCast v _ _

/-- The first device of a sum stores what it loads. -/
theorem pay_first (v : Vec F S512x128 .f32) : shapeCast S512x128 (k0_pay9 v) shapeCasts_S1x512x128_S512x128 = v := by
  unfold k0_pay9
  rw [slot_cast, shapeCast_self]
/-- The second device of a sum stores the running sum plus what it loads. -/
theorem pay_next (w : Vec F S1x512x128 .f32) (v : Vec F S512x128 .f32) :
    shapeCast S512x128 (k0_pay1 w v) shapeCasts_S1x512x128_S512x128 = addf (shapeCast S512x128 w shapeCasts_S1x512x128_S512x128) v := by
  unfold k0_pay1
  rw [slot_cast, shapeCast_self]
/-- The last device of a sum stores what it loads plus the running sum. -/
theorem pay_last (v : Vec F S512x128 .f32) (w : Vec F S1x512x128 .f32) :
    k0_pay13 v w = addf v (shapeCast S512x128 w shapeCasts_S1x512x128_S512x128) := by
  unfold k0_pay13
  rw [shapeCast_self]
/-- The third device of a sum stores what it loads plus both running sums. -/
theorem pay_third (v : Vec F S512x128 .f32) (w w' : Vec F S1x512x128 .f32) :
    k0_pay15 v w w' = addf (addf v (shapeCast S512x128 w shapeCasts_S1x512x128_S512x128)) (shapeCast S512x128 w' shapeCasts_S1x512x128_S512x128) := by
  unfold k0_pay15
  rw [shapeCast_self]

/-! ## Statements -/

section
variable (up : Bool) (a : Fin 2) {V : Finset Ch}
  {o : Fin 2 → ℕ} {ho : ∀ i, o i + S512x128.size i ≤ S2048x512.size i}
  {p : Fin 3 → ℕ} {hp : ∀ i, p i + S1x512x128.size i ≤ S2x512x128.size i}
  {p' : Fin 3 → ℕ} {hp' : ∀ i, p' i + S1x512x128.size i ≤ S2x512x128.size i}
  {hlx : xM.view.LoadsAt (Rect.unit (s := S2048x512) o S512x128.size ho).toLoadRect}
  {hlo : oM.view.LoadsAt (Rect.unit (s := S2048x512) o S512x128.size ho).toLoadRect}
  {hlu : (upM up).view.LoadsAt (Rect.unit (s := S2x512x128) p S1x512x128.size hp).toLoadRect}
  {hli : (inM up).view.LoadsAt (Rect.unit (s := S2x512x128) p S1x512x128.size hp).toLoadRect}
  {hsu : ((upM up).access (Rect.unit (s := S2x512x128) p S1x512x128.size hp)).Stores Finset.univ}
  {hso : (oM.access (Rect.unit (s := S2048x512) o S512x128.size ho)).Stores Finset.univ}

/-- The device's own tile of the argument, loaded. -/
theorem load_own (ho' : o = tileOff c a (zcol c)) {kt : Vec F S512x128 .f32 → Prog (TpuEff nD τ sig (Elt F) Λ₀ .tc) α} {Q : α → sProp 𝕄} :
    xPts c (X c) ⊢ iprop((xPts c (X c) -∗ WP c (kt (xTile X c a)) Q)
      -∗ WP c (.op (.load xM (Rect.unit (s := S2048x512) o S512x128.size ho).toLoadRect hlx) kt) Q) := by
  subst ho'
  exact load_x _ _ (X c)

/-- The beginning of a sum: the device's tile goes into the outgoing slot and on to the next device. -/
theorem y_begin (hy : (py c == firstY up) = true) (hU : ySum up a ∈ V) (ho' : o = tileOff c a (zcol c)) (hp' : p = slotOff a)
    {pay : Vec F S512x128 .f32 → FVec F S1x512x128 .f32} (hpay : ∀ v, shapeCast S512x128 (pay v) shapeCasts_S1x512x128_S512x128 = v)
    {nv : ℕ} {hnv : nv < nD} (hdev : (py c == firstY up) = true → nv = (dst (ySum up a) c).val)
    {ss rs : DmaSem sig} {hm hsc} {h1 h2 h3} (hss : ss = sndIx (ySum up a)) (hrs : rs = rcvIx (ySum up a)) :
    Trip X K c V (V.erase (ySum up a)) [.src (ySum up a), .uns (ySum up a)] [.flt (ySum up a)]
      ((Prog.lift (.load xM (Rect.unit (s := S2048x512) o S512x128.size ho).toLoadRect hlx) : Prog (TpuEff nD τ sig (Elt F) Λ₀ .tc) (Vec F S512x128 .f32)) >>= fun v =>
        (Prog.lift (.load (upM up) (Rect.unit (s := S2x512x128) p S1x512x128.size hp).toLoadRect hlu) : Prog (TpuEff nD τ sig (Elt F) Λ₀ .tc) (Vec F S1x512x128 .f32)) >>= fun _ =>
        Prog.lift (.store (upM up) (Rect.unit (s := S2x512x128) p S1x512x128.size hp) (pay v) Finset.univ hsu hm) >>= fun _ =>
        Prog.lift (.enqueueDma (slotM (upM up) p hp) (.remote (Dev.tc (⟨nv, hnv⟩ : Dev nD)) (slotM (inM up) p hp) (.dma ss) hsc) (.dma rs) h1 h2 h3) >>= fun _ => q) q := by
  subst hp'
  have hd : (⟨nv, hnv⟩ : Dev nD) = dst (ySum up a) c := Fin.ext (hdev hy)
  have hv := sumVal_first X (eq_of_beq hy) a
  intro Q
  simp only [Prog.lift, Prog.bind_op, Prog.bind_ret]
  rw [sepL_cons, pts_src, show (sepL X c [.uns (ySum up a)] : sProp 𝕄) = unsR (ySum up a) c from rfl,
    show (sepL X c [.flt (ySum up a)] : sProp 𝕄) = fltR (ySum up a) c from rfl]
  iintro ⟨#HC, Hx, HO, Hs, Hu⟩ Hk
  iapply (load_own a ho') $$ Hx
  iintro Hx
  iapply (load_junk (upM up) (slotOff a) _) $$ Hs
  iintro %w Hs
  iapply (store_slot (upM up) (slotOff a) _ (pay (xTile X c a))) $$ Hs
  iintro Hs
  rw [hpay, ← hv]
  iapply (y_send up a ((y_places up a c).1 hy) hU rfl rfl hd hss hrs) $$ [Hs Hu HO]
  · isplitr; · iexact HC
    isplitl [Hs]; · iexact Hs
    isplitl [Hu]; · iexact Hu
    iexact HO
  iintro ⟨Hf, HO⟩
  iapply Hk
  isplitl [Hx]; · iexact Hx
  isplitl [HO]; · iexact HO
  iexact Hf

/-- A sum's step: what arrives and the device's tile are added into the outgoing slot. -/
theorem y_add (hr : rcv (ySum up a) c = true) (hl : ∀ k ∈ V, rlev (ySum up a) c < rlev k (dst k c)) (ho' : o = tileOff c a (zcol c)) (hp' : p = slotOff a)
    {pay : Vec F S1x512x128 .f32 → Vec F S512x128 .f32 → FVec F S1x512x128 .f32}
    (hpay : ∀ w v, shapeCast S512x128 (pay w v) shapeCasts_S1x512x128_S512x128 = addf (shapeCast S512x128 w shapeCasts_S1x512x128_S512x128) v)
    {rs : DmaSem sig} {hm} {h1 h2} (hrs : rs = rcvIx (ySum up a))
    {kt : Prog (TpuEff nD τ sig (Elt F) Λ₀ .tc) α} {Q : α → sProp 𝕄} :
    iprop(Ctx X K ∗ xPts c (X c) ∗ Owe c V ∗ unrR (ySum up a) c ∗ Junk c (upS up a))
      ⊢ iprop(((xPts c (X c) ∗ Owe c V ∗ semVal (rcvG (ySum up a) c) 0 ∗ Holds c (inS up a) fullShare (sumVal X up (src (ySum up a) c) a)
            ∗ Holds c (upS up a) fullShare (sumVal X up c a)) -∗ WP c kt Q)
          -∗ WP c (.op (.waitDma2 rs (slotM (upM up) p hp) (slotM (inM up) p hp) h1 h2) fun _ =>
            .op (.load (inM up) (Rect.unit (s := S2x512x128) p S1x512x128.size hp).toLoadRect hli) fun w =>
            .op (.load xM (Rect.unit (s := S2048x512) o S512x128.size ho).toLoadRect hlx) fun v =>
            .op (.load (upM up) (Rect.unit (s := S2x512x128) p S1x512x128.size hp).toLoadRect hlu) fun _ =>
            .op (.store (upM up) (Rect.unit (s := S2x512x128) p S1x512x128.size hp) (pay w v) Finset.univ hsu hm) fun _ => kt) Q) := by
  subst hp'
  have hv := sumVal_next X a hr
  iintro ⟨#HC, Hx, HO, Hr, Hs⟩ Hk
  iapply (y_recv up a hr hl (by cases up <;> rfl) hrs) $$ [Hr HO]
  · isplitr; · iexact HC
    isplitl [Hr]; · iexact Hr
    iexact HO
  iintro ⟨Hv, Hi, HO⟩
  iapply (load_slot (inM up) (slotOff a) _ fullShare (sumVal X up (src (ySum up a) c) a)) $$ Hi
  iintro %w %hw Hi
  iapply (load_own a ho') $$ Hx
  iintro Hx
  iapply (load_junk (upM up) (slotOff a) _) $$ Hs
  iintro %w' Hs
  iapply (store_slot (upM up) (slotOff a) _ (pay w (xTile X c a))) $$ Hs
  iintro Hs
  rw [hpay, hw, ← hv]
  iapply Hk
  isplitl [Hx]; · iexact Hx
  isplitl [HO]; · iexact HO
  isplitl [Hv]; · iexact Hv
  isplitl [Hi] <;> iassumption

/-- The second device of a sum: it adds its tile to what arrives and sends the sum on. -/
theorem y_next (hy : (py c == nextY up) = true) (hU : ySum up a ∈ V) (hl : ∀ k ∈ V, rlev (ySum up a) c < rlev k (dst k c))
    (ho' : o = tileOff c a (zcol c)) (hp' : p = slotOff a)
    {pay : Vec F S1x512x128 .f32 → Vec F S512x128 .f32 → FVec F S1x512x128 .f32}
    (hpay : ∀ w v, shapeCast S512x128 (pay w v) shapeCasts_S1x512x128_S512x128 = addf (shapeCast S512x128 w shapeCasts_S1x512x128_S512x128) v)
    {nv : ℕ} {hnv : nv < nD} (hdev : (py c == nextY up) = true → nv = (dst (ySum up a) c).val)
    {ss rs rs' : DmaSem sig} {hm hsc} {h1 h2 h1' h2' h3} (hss : ss = sndIx (ySum up a)) (hrs : rs = rcvIx (ySum up a)) (hrs' : rs' = rcvIx (ySum up a)) :
    Trip X K c V (V.erase (ySum up a)) [.unr (ySum up a), .src (ySum up a), .uns (ySum up a)]
      [.rcd (ySum up a), .land (ySum up a), .flt (ySum up a)]
      ((Prog.lift (.waitDma2 rs' (slotM (upM up) p hp) (slotM (inM up) p hp) h1' h2') >>= fun _ =>
        (Prog.lift (.load (inM up) (Rect.unit (s := S2x512x128) p S1x512x128.size hp).toLoadRect hli) : Prog (TpuEff nD τ sig (Elt F) Λ₀ .tc) (Vec F S1x512x128 .f32)) >>= fun w =>
        (Prog.lift (.load xM (Rect.unit (s := S2048x512) o S512x128.size ho).toLoadRect hlx) : Prog (TpuEff nD τ sig (Elt F) Λ₀ .tc) (Vec F S512x128 .f32)) >>= fun v =>
        (Prog.lift (.load (upM up) (Rect.unit (s := S2x512x128) p S1x512x128.size hp).toLoadRect hlu) : Prog (TpuEff nD τ sig (Elt F) Λ₀ .tc) (Vec F S1x512x128 .f32)) >>= fun _ =>
        Prog.lift (.store (upM up) (Rect.unit (s := S2x512x128) p S1x512x128.size hp) (pay w v) Finset.univ hsu hm) >>= fun _ => Pure.pure PUnit.unit) >>= fun _ =>
        Prog.lift (.enqueueDma (slotM (upM up) p hp) (.remote (Dev.tc (⟨nv, hnv⟩ : Dev nD)) (slotM (inM up) p hp) (.dma ss) hsc) (.dma rs) h1 h2 h3) >>= fun _ => q) q := by
  have hd : (⟨nv, hnv⟩ : Dev nD) = dst (ySum up a) c := Fin.ext (hdev hy)
  obtain ⟨ha, hr⟩ := (y_places up a c).2.1 hy
  intro Q
  simp only [Prog.lift, Prog.bind_op, Prog.bind_ret, Prog.pure_eq_ret]
  rw [sepL_cons, sepL_cons X c (.src _), pts_src, show (sepL X c [.uns (ySum up a)] : sProp 𝕄) = unsR (ySum up a) c from rfl,
    show (pts X c (.unr (ySum up a)) : sProp 𝕄) = unrR (ySum up a) c from rfl,
    sepL_cons X c (.rcd _), sepL_cons X c (.land _), pts_land up a hr, show (sepL X c [.flt (ySum up a)] : sProp 𝕄) = fltR (ySum up a) c from rfl,
    show (pts X c (.rcd (ySum up a)) : sProp 𝕄) = semVal (rcvG (ySum up a) c) 0 from rfl]
  iintro ⟨#HC, Hx, HO, Hr, Hs, Hu⟩ Hk
  iapply (y_add up a hr hl ho' hp' hpay hrs') $$ [Hx HO Hr Hs]
  · isplitr; · iexact HC
    isplitl [Hx]; · iexact Hx
    isplitl [HO]; · iexact HO
    isplitl [Hr] <;> iassumption
  iintro ⟨Hx, HO, Hv, Hi, Hs⟩
  subst hp'
  iapply (y_send up a ha hU rfl rfl hd hss hrs) $$ [Hs Hu HO]
  · isplitr; · iexact HC
    isplitl [Hs]; · iexact Hs
    isplitl [Hu]; · iexact Hu
    iexact HO
  iintro ⟨Hf, HO⟩
  iapply Hk
  isplitl [Hx]; · iexact Hx
  isplitl [HO]; · iexact HO
  isplitl [Hv]; · iexact Hv
  isplitl [Hi] <;> iassumption

/-- The last device of a sum: it adds what arrives to its tile into the result. -/
theorem y_last (hy : (py c == lastY up) = true) (hl : ∀ k ∈ V, rlev (ySum up a) c < rlev k (dst k c))
    (ho' : o = tileOff c a (zcol c)) (hp' : p = slotOff a)
    {pay : Vec F S512x128 .f32 → Vec F S1x512x128 .f32 → FVec F S512x128 .f32}
    (hpay : ∀ v w, pay v w = addf v (shapeCast S512x128 w shapeCasts_S1x512x128_S512x128))
    {rs : DmaSem sig} {hm} {h1 h2} (hrs : rs = rcvIx (ySum up a)) :
    Trip X K c V V [.unr (ySum up a), .own a] ([.rcd (ySum up a), .land (ySum up a)] ++ pcs a (zcol c))
      (Prog.lift (.waitDma2 rs (slotM (upM up) p hp) (slotM (inM up) p hp) h1 h2) >>= fun _ =>
        (Prog.lift (.load xM (Rect.unit (s := S2048x512) o S512x128.size ho).toLoadRect hlx) : Prog (TpuEff nD τ sig (Elt F) Λ₀ .tc) (Vec F S512x128 .f32)) >>= fun v =>
        (Prog.lift (.load (inM up) (Rect.unit (s := S2x512x128) p S1x512x128.size hp).toLoadRect hli) : Prog (TpuEff nD τ sig (Elt F) Λ₀ .tc) (Vec F S1x512x128 .f32)) >>= fun w =>
        (Prog.lift (.load oM (Rect.unit (s := S2048x512) o S512x128.size ho).toLoadRect hlo) : Prog (TpuEff nD τ sig (Elt F) Λ₀ .tc) (Vec F S512x128 .f32)) >>= fun _ =>
        Prog.lift (.store oM (Rect.unit (s := S2048x512) o S512x128.size ho) (pay v w) Finset.univ hso hm) >>= fun _ => q) q := by
  subst hp'
  have hr := (y_places up a c).2.2.2 hy
  have hv := out_last X a (eq_of_beq hy) hr
  intro Q
  simp only [Prog.lift, Prog.bind_op, Prog.bind_ret]
  rw [List.cons_append, List.cons_append, List.nil_append, sepL_cons, show (sepL X c [.own a] : sProp 𝕄) = Junk c (ownT c a) from rfl,
    show (pts X c (.unr (ySum up a)) : sProp 𝕄) = unrR (ySum up a) c from rfl,
    sepL_cons X c (.rcd _), sepL_cons X c (.land _), pts_land up a hr,
    show (pts X c (.rcd (ySum up a)) : sProp 𝕄) = semVal (rcvG (ySum up a) c) 0 from rfl]
  iintro ⟨#HC, Hx, HO, Hr, Ho⟩ Hk
  iapply (y_recv up a hr hl (by cases up <;> rfl) hrs) $$ [Hr HO]
  · isplitr; · iexact HC
    isplitl [Hr]; · iexact Hr
    iexact HO
  iintro ⟨Hv, Hi, HO⟩
  iapply (load_own a ho') $$ Hx
  iintro Hx
  iapply (load_slot (inM up) (slotOff a) _ fullShare (sumVal X up (src (ySum up a) c) a)) $$ Hi
  iintro %w %hw Hi
  subst ho'
  iapply (load_out (tileOff c a (zcol c)) _) $$ Ho
  iintro %w' Ho
  iapply (store_out (tileOff c a (zcol c)) _ (pay (xTile X c a) w)) $$ Ho
  iintro Ho
  rw [hpay, hw, ← hv]
  ihave Ho := (own_shares a) $$ Ho
  iapply Hk
  isplitl [Hx]; · iexact Hx
  isplitl [HO]; · iexact HO
  isplitl [Hv]; · iexact Hv
  isplitl [Hi] <;> iassumption

/-- A middle device's result: its tile plus both sums that have arrived. -/
theorem y_out (hr : rcv (ySum true a) c = true) (hr' : rcv (ySum false a) c = true) (ho' : o = tileOff c a (zcol c)) (hpe : p' = slotOff a)
    {pay : Vec F S512x128 .f32 → Vec F S1x512x128 .f32 → Vec F S1x512x128 .f32 → FVec F S512x128 .f32}
    (hpay : ∀ v w w', pay v w w' = addf (addf v (shapeCast S512x128 w shapeCasts_S1x512x128_S512x128)) (shapeCast S512x128 w' shapeCasts_S1x512x128_S512x128))
    {hlp : (inM true).view.LoadsAt (Rect.unit (s := S2x512x128) p' S1x512x128.size hp').toLoadRect}
    {hls : (inM false).view.LoadsAt (Rect.unit (s := S2x512x128) p' S1x512x128.size hp').toLoadRect} {hm}
    {kt : Prog (TpuEff nD τ sig (Elt F) Λ₀ .tc) α} {Q : α → sProp 𝕄} :
    iprop(xPts c (X c) ∗ Holds c (inS true a) fullShare (sumVal X true (src (ySum true a) c) a)
        ∗ Holds c (inS false a) fullShare (sumVal X false (src (ySum false a) c) a) ∗ Junk c (ownT c a))
      ⊢ iprop(((xPts c (X c) ∗ Holds c (inS true a) fullShare (sumVal X true (src (ySum true a) c) a)
            ∗ Holds c (inS false a) fullShare (sumVal X false (src (ySum false a) c) a) ∗ sepL X c (pcs a (zcol c))) -∗ WP c kt Q)
          -∗ WP c (.op (.load xM (Rect.unit (s := S2048x512) o S512x128.size ho).toLoadRect hlx) fun v =>
            .op (.load (inM true) (Rect.unit (s := S2x512x128) p' S1x512x128.size hp').toLoadRect hlp) fun w =>
            .op (.load (inM false) (Rect.unit (s := S2x512x128) p' S1x512x128.size hp').toLoadRect hls) fun w' =>
            .op (.load oM (Rect.unit (s := S2048x512) o S512x128.size ho).toLoadRect hlo) fun _ =>
            .op (.store oM (Rect.unit (s := S2048x512) o S512x128.size ho) (pay v w w') Finset.univ hso hm) fun _ => kt) Q) := by
  subst hpe
  have hv := out_mid X a hr hr'
  iintro ⟨Hx, Hi, Hj, Ho⟩ Hk
  iapply (load_own a ho') $$ Hx
  iintro Hx
  iapply (load_slot (inM true) (slotOff a) _ fullShare (sumVal X true (src (ySum true a) c) a)) $$ Hi
  iintro %w %hw Hi
  iapply (load_slot (inM false) (slotOff a) _ fullShare (sumVal X false (src (ySum false a) c) a)) $$ Hj
  iintro %w' %hw' Hj
  subst ho'
  iapply (load_out (tileOff c a (zcol c)) _) $$ Ho
  iintro %w'' Ho
  iapply (store_out (tileOff c a (zcol c)) _ (pay (xTile X c a) w w')) $$ Ho
  iintro Ho
  rw [hpay, hw, hw', ← hv]
  ihave Ho := (own_shares a) $$ Ho
  iapply Hk
  isplitl [Hx]; · iexact Hx
  isplitl [Hi]; · iexact Hi
  isplitl [Hj] <;> iassumption

/-- The third device of a sum: it sends the sum on, and the other sum has arrived, so it writes its tile of the result. -/
theorem y_third (hy : (py c == thirdY up) = true) (hU : ySum up a ∈ V) (hl : ∀ k ∈ V, rlev (ySum up a) c < rlev k (dst k c))
    (ho' : o = tileOff c a (zcol c)) (hpe : p = slotOff a)
    {pay : Vec F S1x512x128 .f32 → Vec F S512x128 .f32 → FVec F S1x512x128 .f32}
    (hpay : ∀ w v, shapeCast S512x128 (pay w v) shapeCasts_S1x512x128_S512x128 = addf (shapeCast S512x128 w shapeCasts_S1x512x128_S512x128) v)
    {payo : Vec F S512x128 .f32 → Vec F S1x512x128 .f32 → Vec F S1x512x128 .f32 → FVec F S512x128 .f32}
    (hpayo : ∀ v w w', payo v w w' = addf (addf v (shapeCast S512x128 w shapeCasts_S1x512x128_S512x128)) (shapeCast S512x128 w' shapeCasts_S1x512x128_S512x128))
    {nv : ℕ} {hnv : nv < nD} (hdev : (py c == thirdY up) = true → nv = (dst (ySum up a) c).val)
    {hlp : (inM true).view.LoadsAt (Rect.unit (s := S2x512x128) p S1x512x128.size hp).toLoadRect}
    {hls : (inM false).view.LoadsAt (Rect.unit (s := S2x512x128) p S1x512x128.size hp).toLoadRect}
    {hlx' : xM.view.LoadsAt (Rect.unit (s := S2048x512) o S512x128.size ho).toLoadRect}
    {ss rs rs' : DmaSem sig} {hm hm' hsc} {h1 h2 h1' h2' h3} (hss : ss = sndIx (ySum up a)) (hrs : rs = rcvIx (ySum up a)) (hrs' : rs' = rcvIx (ySum up a)) :
    Trip X K c V (V.erase (ySum up a)) [.unr (ySum up a), .src (ySum up a), .uns (ySum up a), .own a, .land (ySum (!up) a)]
      ([.rcd (ySum up a), .land (ySum up a), .flt (ySum up a), .land (ySum (!up) a)] ++ pcs a (zcol c))
      ((Prog.lift (.waitDma2 rs' (slotM (upM up) p hp) (slotM (inM up) p hp) h1' h2') >>= fun _ =>
        (Prog.lift (.load (inM up) (Rect.unit (s := S2x512x128) p S1x512x128.size hp).toLoadRect hli) : Prog (TpuEff nD τ sig (Elt F) Λ₀ .tc) (Vec F S1x512x128 .f32)) >>= fun w =>
        (Prog.lift (.load xM (Rect.unit (s := S2048x512) o S512x128.size ho).toLoadRect hlx) : Prog (TpuEff nD τ sig (Elt F) Λ₀ .tc) (Vec F S512x128 .f32)) >>= fun v =>
        (Prog.lift (.load (upM up) (Rect.unit (s := S2x512x128) p S1x512x128.size hp).toLoadRect hlu) : Prog (TpuEff nD τ sig (Elt F) Λ₀ .tc) (Vec F S1x512x128 .f32)) >>= fun _ =>
        Prog.lift (.store (upM up) (Rect.unit (s := S2x512x128) p S1x512x128.size hp) (pay w v) Finset.univ hsu hm) >>= fun _ => Pure.pure PUnit.unit) >>= fun _ =>
        Prog.lift (.enqueueDma (slotM (upM up) p hp) (.remote (Dev.tc (⟨nv, hnv⟩ : Dev nD)) (slotM (inM up) p hp) (.dma ss) hsc) (.dma rs) h1 h2 h3) >>= fun _ =>
        (Prog.lift (.load xM (Rect.unit (s := S2048x512) o S512x128.size ho).toLoadRect hlx') : Prog (TpuEff nD τ sig (Elt F) Λ₀ .tc) (Vec F S512x128 .f32)) >>= fun v =>
        (Prog.lift (.load (inM true) (Rect.unit (s := S2x512x128) p S1x512x128.size hp).toLoadRect hlp) : Prog (TpuEff nD τ sig (Elt F) Λ₀ .tc) (Vec F S1x512x128 .f32)) >>= fun w =>
        (Prog.lift (.load (inM false) (Rect.unit (s := S2x512x128) p S1x512x128.size hp).toLoadRect hls) : Prog (TpuEff nD τ sig (Elt F) Λ₀ .tc) (Vec F S1x512x128 .f32)) >>= fun w' =>
        (Prog.lift (.load oM (Rect.unit (s := S2048x512) o S512x128.size ho).toLoadRect hlo) : Prog (TpuEff nD τ sig (Elt F) Λ₀ .tc) (Vec F S512x128 .f32)) >>= fun _ =>
        Prog.lift (.store oM (Rect.unit (s := S2048x512) o S512x128.size ho) (payo v w w') Finset.univ hso hm') >>= fun _ => q) q := by
  have hd : (⟨nv, hnv⟩ : Dev nD) = dst (ySum up a) c := Fin.ext (hdev hy)
  obtain ⟨ha, hr, hr'⟩ := (y_places up a c).2.2.1 hy
  intro Q
  simp only [Prog.lift, Prog.bind_op, Prog.bind_ret, Prog.pure_eq_ret]
  simp only [List.cons_append, List.nil_append]
  rw [sepL_cons, sepL_cons X c (.src _), sepL_cons X c (.uns _), sepL_cons X c (.own _), pts_src, show (pts X c (.uns (ySum up a)) : sProp 𝕄) = unsR (ySum up a) c from rfl,
    show (pts X c (.unr (ySum up a)) : sProp 𝕄) = unrR (ySum up a) c from rfl, pts_own,
    show (sepL X c [.land (ySum (!up) a)] : sProp 𝕄) = pts X c (.land (ySum (!up) a)) from rfl,
    sepL_cons X c (.rcd _), sepL_cons X c (.land _), sepL_cons X c (.flt _), sepL_cons X c (.land _), pts_land up a hr, pts_land (!up) a hr',
    show (pts X c (.flt (ySum up a)) : sProp 𝕄) = fltR (ySum up a) c from rfl,
    show (pts X c (.rcd (ySum up a)) : sProp 𝕄) = semVal (rcvG (ySum up a) c) 0 from rfl]
  iintro ⟨#HC, Hx, HO, Hr, Hs, Hu, Ho, Hj⟩ Hk
  iapply (y_add up a hr hl ho' hpe hpay hrs') $$ [Hx HO Hr Hs]
  · isplitr; · iexact HC
    isplitl [Hx]; · iexact Hx
    isplitl [HO]; · iexact HO
    isplitl [Hr] <;> iassumption
  iintro ⟨Hx, HO, Hv, Hi, Hs⟩
  iapply (y_send up a ha hU (by subst hpe; rfl) (by subst hpe; rfl) hd hss hrs) $$ [Hs Hu HO]
  · isplitr; · iexact HC
    isplitl [Hs]; · iexact Hs
    isplitl [Hu]; · iexact Hu
    iexact HO
  iintro ⟨Hf, HO⟩
  cases up
  · iapply (y_out a hr' hr ho' hpe hpayo) $$ [Hx Hi Hj Ho]
    · isplitl [Hx]; · iexact Hx
      isplitl [Hj]; · iexact Hj
      isplitl [Hi]; · iexact Hi
      iexact Ho
    iintro ⟨Hx, Hj, Hi, Ho⟩
    iapply Hk
    isplitl [Hx]; · iexact Hx
    isplitl [HO]; · iexact HO
    isplitl [Hv]; · iexact Hv
    isplitl [Hi]; · iexact Hi
    isplitl [Hf]; · iexact Hf
    isplitl [Hj]; · iexact Hj
    iexact Ho
  · iapply (y_out a hr hr' ho' hpe hpayo) $$ [Hx Hi Hj Ho]
    · isplitl [Hx]; · iexact Hx
      isplitl [Hi]; · iexact Hi
      isplitl [Hj]; · iexact Hj
      iexact Ho
    iintro ⟨Hx, Hi, Hj, Ho⟩
    iapply Hk
    isplitl [Hx]; · iexact Hx
    isplitl [HO]; · iexact HO
    isplitl [Hv]; · iexact Hv
    isplitl [Hi]; · iexact Hi
    isplitl [Hf]; · iexact Hf
    isplitl [Hj]; · iexact Hj
    iexact Ho
end

/-! ## The statements along y on everything a device holds -/

/-- The beginning of a sum, if the device is the first. -/
theorem at_begin {P : Prop} [Decidable P] {T : P → Prog (TpuEff nD τ sig (Elt F) Λ₀ .tc) α} {Q : α → sProp 𝕄} (up : Bool) (a : Fin 2)
    (hn : n = 1 + 4 * a.val + lag up) (hP : P ↔ (py c == firstY up) = true)
    (hT : (py c == firstY up) = true → ∀ h : P, ySum up a ∈ U c n →
      Trip X K c (U c n) ((U c n).erase (ySum up a)) [.src (ySum up a), .uns (ySum up a)] [.flt (ySum up a)] (T h) q)
    (hq : Goes X K c (n + 1) q Q) : Goes X K c n (dite P T (fun _ => q)) Q := by
  subst hn; exact stmt_send (begin_ok up a c) hP hT hq

/-- The second step of a sum, if the device is the second. -/
theorem at_next {P : Prop} [Decidable P] {T : P → Prog (TpuEff nD τ sig (Elt F) Λ₀ .tc) α} {Q : α → sProp 𝕄} (up : Bool) (a : Fin 2)
    (hn : n = 3 + 4 * a.val + lag up) (hP : P ↔ (py c == nextY up) = true)
    (hT : (py c == nextY up) = true → ∀ h : P, ySum up a ∈ U c n → (∀ k ∈ U c n, rlev (ySum up a) c < rlev k (dst k c)) →
      Trip X K c (U c n) ((U c n).erase (ySum up a)) [.unr (ySum up a), .src (ySum up a), .uns (ySum up a)]
        [.rcd (ySum up a), .land (ySum up a), .flt (ySum up a)] (T h) q)
    (hq : Goes X K c (n + 1) q Q) : Goes X K c n (dite P T (fun _ => q)) Q := by
  subst hn; exact stmt_both (next_ok up a c) hP hT hq

/-- The end of a sum, if the device is the last. -/
theorem at_last {P : Prop} [Decidable P] {T : P → Prog (TpuEff nD τ sig (Elt F) Λ₀ .tc) α} {Q : α → sProp 𝕄} (up : Bool) (a : Fin 2)
    (hn : n = 10 + 6 * a.val - lag up) (hP : P ↔ (py c == lastY up) = true)
    (hT : (py c == lastY up) = true → ∀ h : P, (∀ k ∈ U c n, rlev (ySum up a) c < rlev k (dst k c)) →
      Trip X K c (U c n) (U c n) [.unr (ySum up a), .own a] ([.rcd (ySum up a), .land (ySum up a)] ++ pcs a (zcol c)) (T h) q)
    (hq : Goes X K c (n + 1) q Q) : Goes X K c n (dite P T (fun _ => q)) Q := by
  subst hn; exact stmt_wait (last_ok up a c) hP hT hq

/-- The third step of a sum, if the device is the third. -/
theorem at_third {P : Prop} [Decidable P] {T : P → Prog (TpuEff nD τ sig (Elt F) Λ₀ .tc) α} {Q : α → sProp 𝕄} (up : Bool) (a : Fin 2)
    (hn : n = 12 + 6 * a.val - lag up) (hP : P ↔ (py c == thirdY up) = true)
    (hT : (py c == thirdY up) = true → ∀ h : P, ySum up a ∈ U c n → (∀ k ∈ U c n, rlev (ySum up a) c < rlev k (dst k c)) →
      Trip X K c (U c n) ((U c n).erase (ySum up a)) [.unr (ySum up a), .src (ySum up a), .uns (ySum up a), .own a, .land (ySum (!up) a)]
        ([.rcd (ySum up a), .land (ySum up a), .flt (ySum up a), .land (ySum (!up) a)] ++ pcs a (zcol c)) (T h) q)
    (hq : Goes X K c (n + 1) q Q) : Goes X K c n (dite P T (fun _ => q)) Q := by
  subst hn; exact stmt_both (third_ok up a c) hP hT hq

/-- The wait for a sum to have been sent, if the device sends one. -/
theorem at_yswait {P : Prop} [Decidable P] {T : P → Prog (TpuEff nD τ sig (Elt F) Λ₀ .tc) α} {Q : α → sProp 𝕄} (up : Bool) (a : Fin 2)
    (hn : n = swaitAt (ySum up a)) (hP : P ↔ act (ySum up a) c = true)
    (hT : act (ySum up a) c = true → ∀ h : P, (∀ k ∈ U c n, 0 < rlev k (dst k c)) →
      Trip X K c (U c n) (U c n) [.flt (ySum up a)] [.snt (ySum up a), .src (ySum up a)] (T h) q)
    (hq : Goes X K c (n + 1) q Q) : Goes X K c n (dite P T (fun _ => q)) Q := by
  subst hn; exact stmt_wait (ywait_ok up a c) hP hT hq

end Cert.AllReduce
-- ==== Proof.PartsY.lean ====
/-
  A part of the kernel on its buffers; statements 13 to 22.
-/
module

public import proofs.«01_k».proof.Proof.StmtsY

@[expose] public section

set_option maxRecDepth 20000

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {X : Dev nD → Blk F} {K : Dev nD × Cell → ℕ} {c : Dev nD}

/-- A part of the kernel on the kernel's buffers and semaphores. -/
abbrev onBufs {β : Sort*} (f : (a0 : MS S2048x512) → a0.IsWhole → (a1 : MS S2048x512) → a1.IsWhole → (a2 : MS S2x512x128) → a2.IsWhole →
    (a3 : MS S2x512x128) → a3.IsWhole → (a4 : MS S2x512x128) → a4.IsWhole → (a5 : MS S2x512x128) → a5.IsWhole →
    DmaSems sig S2 → DmaSems sig S2 → DmaSems sig S2 → DmaSems sig S2 → DmaSems sig S3x2 → DmaSems sig S3x2 → DmaSems sig S3x2 → DmaSems sig S3x2 →
    DmaSems sig S2 → DmaSems sig S2 → β) : β :=
  f xM (Memref.isWhole_whole _) oM (Memref.isWhole_whole _) (inM true) (Memref.isWhole_whole _) (upM true) (Memref.isWhole_whole _)
    (inM false) (Memref.isWhole_whole _) (upM false) (Memref.isWhole_whole _)
    cc0_scratch4 cc0_scratch5 cc0_scratch6 cc0_scratch7 cc0_scratch8 cc0_scratch9 cc0_scratch10 cc0_scratch11 cc0_scratch12 cc0_scratch13

/-- Statements 13 to 22. -/
theorem part13_ok (v2 v5 v8 v10 v12 v14 v16 : BitVec 32) (v18 v19 v20 v21 : BitVec 1) (v22 v23 : BitVec 32) (v127 : BitVec 1) :
    Goes X K c 13 (onBufs (k0_part13 (F := F)) c v2 v5 v8 v10 v12 v14 v16 v18 v19 v20 v21 v22 v23 v127) (fun _ => (St X K c 23 : sProp 𝕄)) := by
  unfold onBufs
  rw [k0_part13_eq_skeleton]
  unfold k0_part13_skel
  rw [k0_part7_eq_skeleton, k0_part8_eq_skeleton]
  unfold k0_part7_skel k0_part8_skel
  refine at_send true 0 0 rfl (condSend_iff true 0 0 c) (fun ha h hU => ?_) ?_
  · apply z_send true 0 0 ha hU (offSend_eq true 0 0 c) (devSend_eq true 0 0 c) <;> rfl
  refine at_send false 0 0 rfl (condSend_iff false 0 0 c) (fun ha h hU => ?_) ?_
  · apply z_send false 0 0 ha hU (offSend_eq false 0 0 c) (devSend_eq false 0 0 c) <;> rfl
  refine at_last false 1 rfl (condLast_iff false 1 c) (fun ha h hl => ?_) ?_
  · apply y_last false 1 ha hl (offLast_eq false 1 c) <;> first | rfl | exact pay_last
  refine at_last true 1 rfl (condLast_iff true 1 c) (fun ha h hl => ?_) ?_
  · apply y_last true 1 ha hl (offLast_eq true 1 c) <;> first | rfl | exact pay_last
  refine at_third false 1 rfl (condThird_iff false 1 c) (fun ha h hU hl => ?_) ?_
  · apply y_third false 1 ha hU hl (offThird_eq false 1 c) ?_ ?_ ?_ (devThird_eq false 1 c) <;> first | rfl | exact pay_next | exact pay_third
  refine at_third true 1 rfl (condThird_iff true 1 c) (fun ha h hU hl => ?_) ?_
  · apply y_third true 1 ha hU hl (offThird_eq true 1 c) ?_ ?_ ?_ (devThird_eq true 1 c) <;> first | rfl | exact pay_next | exact pay_third
  refine at_send true 0 1 rfl (condSend_iff true 0 1 c) (fun ha h hU => ?_) ?_
  · apply z_send true 0 1 ha hU (offSend_eq true 0 1 c) (devSend_eq true 0 1 c) <;> rfl
  refine at_send false 0 1 rfl (condSend_iff false 0 1 c) (fun ha h hU => ?_) ?_
  · apply z_send false 0 1 ha hU (offSend_eq false 0 1 c) (devSend_eq false 0 1 c) <;> rfl
  refine at_recv true 0 0 rfl (condRecv_iff true 0 0 c) (fun ha h hl => ?_) ?_
  · apply z_recv true 0 0 ha hl <;> rfl
  refine at_send true 1 0 rfl (condSend_iff true 1 0 c) (fun ha h hU => ?_) ?_
  · apply z_send true 1 0 ha hU (offSend_eq true 1 0 c) (devSend_eq true 1 0 c) <;> rfl
  exact done

end Cert.AllReduce
-- ==== Proof.PartsZ.lean ====
/-
  Statements 23 to 36.
-/
module

public import proofs.«01_k».proof.Proof.PartsY

@[expose] public section

set_option maxRecDepth 20000

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {X : Dev nD → Blk F} {K : Dev nD × Cell → ℕ} {c : Dev nD}

/-- Statements 23 to 29. -/
theorem part14_ok (v2 v5 v8 v14 v16 v23 v158 : BitVec 32) :
    Goes X K c 23 (onBufs (k0_part14 (F := F)) c v2 v5 v8 v14 v16 v23 v158) (fun _ => (St X K c 30 : sProp 𝕄)) := by
  unfold onBufs
  rw [k0_part14_eq_skeleton]
  unfold k0_part14_skel
  refine at_recv false 0 0 rfl (condRecv_iff false 0 0 c) (fun ha h hl => ?_) ?_
  · apply z_recv false 0 0 ha hl <;> rfl
  refine at_send false 1 0 rfl (condSend_iff false 1 0 c) (fun ha h hU => ?_) ?_
  · apply z_send false 1 0 ha hU (offSend_eq false 1 0 c) (devSend_eq false 1 0 c) <;> rfl
  refine at_recv true 0 1 rfl (condRecv_iff true 0 1 c) (fun ha h hl => ?_) ?_
  · apply z_recv true 0 1 ha hl <;> rfl
  refine at_send true 1 1 rfl (condSend_iff true 1 1 c) (fun ha h hU => ?_) ?_
  · apply z_send true 1 1 ha hU (offSend_eq true 1 1 c) (devSend_eq true 1 1 c) <;> rfl
  refine at_recv false 0 1 rfl (condRecv_iff false 0 1 c) (fun ha h hl => ?_) ?_
  · apply z_recv false 0 1 ha hl <;> rfl
  refine at_send false 1 1 rfl (condSend_iff false 1 1 c) (fun ha h hU => ?_) ?_
  · apply z_send false 1 1 ha hU (offSend_eq false 1 1 c) (devSend_eq false 1 1 c) <;> rfl
  refine at_recv true 1 0 rfl (condRecv_iff true 1 0 c) (fun ha h hl => ?_) ?_
  · apply z_recv true 1 0 ha hl <;> rfl
  exact done

/-- Statements 30 to 36. -/
theorem part15_ok (v2 v5 v8 v14 v16 v23 v190 : BitVec 32) :
    Goes X K c 30 (onBufs (k0_part15 (F := F)) c v2 v5 v8 v14 v16 v23 v190) (fun _ => (St X K c 37 : sProp 𝕄)) := by
  unfold onBufs
  rw [k0_part15_eq_skeleton]
  unfold k0_part15_skel
  refine at_send true 2 0 rfl (condSend_iff true 2 0 c) (fun ha h hU => ?_) ?_
  · apply z_send true 2 0 ha hU (offSend_eq true 2 0 c) (devSend_eq true 2 0 c) <;> rfl
  refine at_recv false 1 0 rfl (condRecv_iff false 1 0 c) (fun ha h hl => ?_) ?_
  · apply z_recv false 1 0 ha hl <;> rfl
  refine at_send false 2 0 rfl (condSend_iff false 2 0 c) (fun ha h hU => ?_) ?_
  · apply z_send false 2 0 ha hU (offSend_eq false 2 0 c) (devSend_eq false 2 0 c) <;> rfl
  refine at_recv true 1 1 rfl (condRecv_iff true 1 1 c) (fun ha h hl => ?_) ?_
  · apply z_recv true 1 1 ha hl <;> rfl
  refine at_send true 2 1 rfl (condSend_iff true 2 1 c) (fun ha h hU => ?_) ?_
  · apply z_send true 2 1 ha hU (offSend_eq true 2 1 c) (devSend_eq true 2 1 c) <;> rfl
  refine at_recv false 1 1 rfl (condRecv_iff false 1 1 c) (fun ha h hl => ?_) ?_
  · apply z_recv false 1 1 ha hl <;> rfl
  refine at_send false 2 1 rfl (condSend_iff false 2 1 c) (fun ha h hU => ?_) ?_
  · apply z_send false 2 1 ha hU (offSend_eq false 2 1 c) (devSend_eq false 2 1 c) <;> rfl
  exact done

end Cert.AllReduce
-- ==== Proof.PartsX.lean ====
/-
  Statements 37 to 61.
-/
module

public import proofs.«01_k».proof.Proof.PartsZ

@[expose] public section

set_option maxRecDepth 20000

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {X : Dev nD → Blk F} {K : Dev nD × Cell → ℕ} {c : Dev nD}

/-- A device's y coordinate as the program computes it. -/
def yWord (c : Dev nD) : BitVec 32 := Scalar.remsi (Scalar.divsi (Dev.word c) 4#32) 4#32
/-- Whether a device waits for a sum it sent, as the program computes it. -/
def condY (up : Bool) (c : Dev nD) : BitVec 1 :=
  Scalar.cmpi .ne (Scalar.extui (if up then Scalar.cmpi .slt (yWord c) 3#32 else Scalar.cmpi .sgt (yWord c) 0#32) : BitVec 32) 0#32
/-- The printed condition of a send wait along y says that the device uses the channel. -/
theorem yWord_iff : ∀ up a c, condY up c = 1#1 ↔ act (ySum up a) c = true := by decide +kernel

/-- Statements 37 to 41. -/
theorem part16_ok (v2 v5 v8 v14 v16 v17 v23 v221 v143 : BitVec 32) :
    Goes X K c 37 (onBufs (k0_part16 (F := F)) c v2 v5 v8 v14 v16 v17 v23 v221 v143) (fun _ => (St X K c 42 : sProp 𝕄)) := by
  unfold onBufs
  rw [k0_part16_eq_skeleton]
  unfold k0_part16_skel
  refine at_recv true 2 0 rfl (condRecv_iff true 2 0 c) (fun ha h hl => ?_) ?_
  · apply z_recv true 2 0 ha hl <;> rfl
  refine at_recv false 2 0 rfl (condRecv_iff false 2 0 c) (fun ha h hl => ?_) ?_
  · apply z_recv false 2 0 ha hl <;> rfl
  apply at_xsend 0 (offX_eq 0 c) (devX_eq 0 c) rfl <;> first | rfl | skip
  refine at_recv true 2 1 rfl (condRecv_iff true 2 1 c) (fun ha h hl => ?_) ?_
  · apply z_recv true 2 1 ha hl <;> rfl
  refine at_recv false 2 1 rfl (condRecv_iff false 2 1 c) (fun ha h hl => ?_) ?_
  · apply z_recv false 2 1 ha hl <;> rfl
  exact done

/-- Statements 42 to 45. -/
theorem part17_ok (v8 v17 v24 v251 v252 : BitVec 32) :
    Goes X K c 42 (onBufs (k0_part17 (F := F)) c (yWord c) v8 v17 v24 v251 v252)
      (fun r => (iprop(⌜r = Scalar.cmpi .sgt (yWord c) 0#32⌝ ∗ St X K c 46) : sProp 𝕄)) := by
  unfold onBufs
  rw [k0_part17_eq_skeleton]
  unfold k0_part17_skel
  apply at_xsend 1 (offX_eq 1 c) (devX_eq 1 c) rfl <;> first | rfl | skip
  apply at_xrecv 0 rfl <;> first | rfl | skip
  apply at_xrecv 1 rfl <;> first | rfl | skip
  refine at_yswait true 0 rfl (yWord_iff true 0 c) (fun ha h hl => ?_) ?_
  · apply y_swait true 0 ha hl <;> rfl
  exact done_with rfl

/-- Statements 46 to 54. -/
theorem part18_ok (v8 v23 : BitVec 32) :
    Goes X K c 46 (onBufs (k0_part18 (F := F)) c (yWord c) v8 v23 (Scalar.cmpi .sgt (yWord c) 0#32)) (fun _ => (St X K c 55 : sProp 𝕄)) := by
  unfold onBufs
  rw [k0_part18_eq_skeleton]
  unfold k0_part18_skel
  refine at_yswait false 0 rfl (yWord_iff false 0 c) (fun ha h hl => ?_) ?_
  · apply y_swait false 0 ha hl <;> rfl
  refine at_yswait true 1 rfl (yWord_iff true 1 c) (fun ha h hl => ?_) ?_
  · apply y_swait true 1 ha hl <;> rfl
  refine at_yswait false 1 rfl (yWord_iff false 1 c) (fun ha h hl => ?_) ?_
  · apply y_swait false 1 ha hl <;> rfl
  refine at_swait true 0 0 rfl (condSwait_iff true 0 0 c) (fun ha h hl => ?_) ?_
  · apply z_swait true 0 0 ha hl <;> rfl
  refine at_swait true 1 0 rfl (condSwait_iff true 1 0 c) (fun ha h hl => ?_) ?_
  · apply z_swait true 1 0 ha hl <;> rfl
  refine at_swait true 2 0 rfl (condSwait_iff true 2 0 c) (fun ha h hl => ?_) ?_
  · apply z_swait true 2 0 ha hl <;> rfl
  refine at_swait false 0 0 rfl (condSwait_iff false 0 0 c) (fun ha h hl => ?_) ?_
  · apply z_swait false 0 0 ha hl <;> rfl
  refine at_swait false 1 0 rfl (condSwait_iff false 1 0 c) (fun ha h hl => ?_) ?_
  · apply z_swait false 1 0 ha hl <;> rfl
  refine at_swait false 2 0 rfl (condSwait_iff false 2 0 c) (fun ha h hl => ?_) ?_
  · apply z_swait false 2 0 ha hl <;> rfl
  exact done

/-- Statements 55 to 61. -/
theorem part19_ok (v8 v23 : BitVec 32) :
    Goes X K c 55 (onBufs (k0_part19 (F := F)) c v8 v23) (fun _ => (St X K c 62 : sProp 𝕄)) := by
  unfold onBufs
  rw [k0_part19_eq_skeleton]
  unfold k0_part19_skel
  apply at_xswait 0 rfl <;> first | rfl | skip
  refine at_swait true 0 1 rfl (condSwait_iff true 0 1 c) (fun ha h hl => ?_) ?_
  · apply z_swait true 0 1 ha hl <;> rfl
  refine at_swait true 1 1 rfl (condSwait_iff true 1 1 c) (fun ha h hl => ?_) ?_
  · apply z_swait true 1 1 ha hl <;> rfl
  refine at_swait true 2 1 rfl (condSwait_iff true 2 1 c) (fun ha h hl => ?_) ?_
  · apply z_swait true 2 1 ha hl <;> rfl
  refine at_swait false 0 1 rfl (condSwait_iff false 0 1 c) (fun ha h hl => ?_) ?_
  · apply z_swait false 0 1 ha hl <;> rfl
  refine at_swait false 1 1 rfl (condSwait_iff false 1 1 c) (fun ha h hl => ?_) ?_
  · apply z_swait false 1 1 ha hl <;> rfl
  refine at_swait false 2 1 rfl (condSwait_iff false 2 1 c) (fun ha h hl => ?_) ?_
  · apply z_swait false 2 1 ha hl <;> rfl
  exact done

end Cert.AllReduce
-- ==== Proof.Handshake.lean ====
/-
  The handshake with the neighbours, and statements 1 to 12.
-/
module

public import proofs.«01_k».proof.Proof.PartsX

@[expose] public section

set_option maxRecDepth 20000

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {X : Dev nD → Blk F} {K : Dev nD × Cell → ℕ} {c : Dev nD} {α : Type} {q : Prog (TpuEff nD τ sig (Elt F) Λ₀ .tc) α}

/-- What a device needs to signal the barrier of the device whose neighbour number `i` it is. -/
def sigR (c : Dev nD) (i : Fin 5) : sProp 𝕄 := iprop(dutyTok ER (barG ((nb i).symm c)) 0 i ∗ barPay i ((nb i).symm c))
/-- What a device needs for its last `j` signals. -/
def sigs (c : Dev nD) : ℕ → sProp 𝕄
  | 0 => iprop(emp)
  | j + 1 => iprop(sigR c (Fin.ofNat 5 (4 - j)) ∗ sigs c j)
/-- What a device holds with `j` of its five signals to come; `R` is what it keeps for later. -/
def BSt (X : Dev nD → Blk F) (K : Dev nD × Cell → ℕ) (c : Dev nD) (R : sProp 𝕄) (j : ℕ) : sProp 𝕄 :=
  iprop(Ctx X K ∗ OweB c (U c 1) j ∗ sigs c j ∗ cred (tallyAt (barG c) () 5) ∗ atPos ER (barG c) 0 ∅ 0 ∗ R)
/-- The program `p` runs from there to `Q`. -/
def Starts (X : Dev nD → Blk F) (K : Dev nD × Cell → ℕ) (c : Dev nD) (R : sProp 𝕄) (j : ℕ) {α : Type}
    (p : Prog (TpuEff nD τ sig (Elt F) Λ₀ .tc) α) (Q : α → sProp 𝕄) : Prop := BSt X K c R j ⊢ WP c p Q

/-- A signal. -/
theorem at_signal (i : Fin 5) {R : sProp 𝕄} {j : ℕ} (hi : Fin.ofNat 5 (4 - j) = i) {nv : ℕ} {hnv : nv < nD} (hn : nv = ((nb i).symm c).val)
    {sm : Sem sig} (hs : sm = barS) {Q : α → sProp 𝕄} (hq : Starts X K c R j q Q) :
    Starts X K c R (j + 1) (semSignalWord (⟨nv, hnv⟩ : Dev nD) sm 1#32 >>= fun _ => q) Q := by
  have hd : (⟨nv, hnv⟩ : Dev nD) = (nb i).symm c := Fin.ext hn
  show BSt X K c R (j + 1) ⊢ WP c (.op (.semSignal (Dev.tc (⟨nv, hnv⟩ : Dev nD) : Thread nD τ) sm 1) (fun _ => q)) Q
  unfold Starts at hq
  unfold BSt at hq ⊢
  rw [show (sigs c (j + 1) : sProp 𝕄) = iprop(sigR c i ∗ sigs c j) from by rw [← hi]; rfl]
  unfold sigR
  iintro ⟨#HC, HO, ⟨⟨Ht, Hp⟩, Hs⟩, Hc, Ha, HR⟩
  iapply (signal_piece X K c (U c 1) j i hi hd hs) $$ [HO Ht Hp]
  · isplitr; · iexact HC
    isplitl [Ht]; · iexact Ht
    isplitl [Hp]; · iexact Hp
    iexact HO
  iintro HO
  iapply hq
  isplitr; · iexact HC
  isplitl [HO]; · iexact HO
  isplitl [Hs]; · iexact Hs
  isplitl [Hc]; · iexact Hc
  isplitl [Ha]; · iexact Ha
  iexact HR

/-- All that a device owes after its signals is above the barrier's level. -/
theorem bar_above : ∀ c, above c 1 1 = true := by decide +kernel

/-- The wait for the neighbours' signals: after it the device has all it needs for the statements. -/
theorem at_barrier {R : sProp 𝕄}
    (hR : iprop(Ctx X K ∗ R ∗ bigSep Finset.univ fun j : Fin 5 => barPay j c) ⊢ (|={Set.univ}=> (xPts c (X c) ∗ bigSep (A c 1) (pts X c)) : sProp 𝕄))
    {sm : Sem sig} (hs : sm = barS) {Q : α → sProp 𝕄} (hq : Goes X K c 1 q Q) :
    Starts X K c R 0 (semWaitWord sm 5#32 >>= fun _ => q) (fun r => iprop(semVal (barG c) 0 ∗ Q r)) := by
  show BSt X K c R 0 ⊢ WP c (.op (.semWait sm 5) (fun _ => q)) _
  unfold Goes St at hq
  unfold BSt
  iintro ⟨#HC, HO, -, Hc, Ha, HR⟩
  iapply (barrier_piece X K c (U c 1) (U_above (bar_above c)) hs) $$ [HO Hc Ha]
  · isplitr; · iexact HC
    isplitl [Hc]; · iexact Hc
    isplitl [Ha]; · iexact Ha
    iexact HO
  iintro ⟨Hz, Hp, HO⟩
  imod hR $$ [HR Hp] with ⟨Hx, HA⟩
  · isplitr; · iexact HC
    isplitl [HR]; · iexact HR
    iexact Hp
  iapply (wp_frame_l frame (wpE (defs₀ (F := F)) 𝒱₀ (c : Thread nD τ) none))
  isplitl [Hz]; · iexact Hz
  iapply hq
  isplitr; · iexact HC
  isplitl [Hx]; · iexact Hx
  isplitl [HO]; · iexact HO
  iexact HA

/-- The first four signals. -/
theorem part11_ok {R : sProp 𝕄} (v2 v5 v8 v17 v36 v47 v58 v62 : BitVec 32) (v67 : BitVec 1) (v68 : BitVec 32) :
    Starts X K c R 5 (onBufs (k0_part11 (F := F)) c v2 v5 v8 v17 (SemArray.scalar (sig.barrier 0 rfl)) v36 v47 v58 v62 v67 v68)
      (fun _ => (BSt X K c R 1 : sProp 𝕄)) := by
  unfold onBufs
  rw [k0_part11_eq_skeleton]
  unfold k0_part11_skel
  refine at_signal 0 rfl (devSig_eq 0 c) rfl ?_
  refine at_signal 1 rfl (devSig_eq 1 c) rfl ?_
  refine at_signal 2 rfl (devSig_eq 2 c) rfl ?_
  refine at_signal 3 rfl (devSig_eq 3 c) rfl ?_
  show _ ⊢ iprop(|={Set.univ}[frame]=> BSt X K c R 1)
  iintro H
  imodintro
  iexact H

/-- The last signal, the wait for the neighbours' signals, and statements 1 to 12. -/
theorem part12_ok {R : sProp 𝕄}
    (hR : iprop(Ctx X K ∗ R ∗ bigSep Finset.univ fun j : Fin 5 => barPay j c) ⊢ (|={Set.univ}=> (xPts c (X c) ∗ bigSep (A c 1) (pts X c)) : sProp 𝕄))
    (v2 v8 v10 v12 : BitVec 32) (v18 v19 v20 v21 : BitVec 1) (v22 v23 : BitVec 32) :
    Starts X K c R 1 (onBufs (k0_part12 (F := F)) c v2 v8 v10 v12 v18 v19 v20 v21 v22 v23 (SemArray.scalar (sig.barrier 0 rfl)))
      (fun _ => (iprop(semVal (barG c) 0 ∗ St X K c 13) : sProp 𝕄)) := by
  unfold onBufs
  rw [k0_part12_eq_skeleton]
  unfold k0_part12_skel
  rw [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  refine at_signal 4 rfl (devSig_eq 4 c) rfl ?_
  refine at_barrier hR rfl ?_
  refine at_begin true 0 rfl (condFirst_iff true 0 c) (fun ha h hU => ?_) ?_
  · apply y_begin true 0 ha hU (offFirst_eq true 0 c) ?_ ?_ (devFirst_eq true 0 c) <;> first | rfl | exact pay_first
  refine at_begin false 0 rfl (condFirst_iff false 0 c) (fun ha h hU => ?_) ?_
  · apply y_begin false 0 ha hU (offFirst_eq false 0 c) ?_ ?_ (devFirst_eq false 0 c) <;> first | rfl | exact pay_first
  refine at_next true 0 rfl (condNext_iff true 0 c) (fun ha h hU hl => ?_) ?_
  · apply y_next true 0 ha hU hl (offNext_eq true 0 c) ?_ ?_ (devNext_eq true 0 c) <;> first | rfl | exact pay_next
  refine at_next false 0 rfl (condNext_iff false 0 c) (fun ha h hU hl => ?_) ?_
  · apply y_next false 0 ha hU hl (offNext_eq false 0 c) ?_ ?_ (devNext_eq false 0 c) <;> first | rfl | exact pay_next
  refine at_begin true 1 rfl (condFirst_iff true 1 c) (fun ha h hU => ?_) ?_
  · apply y_begin true 1 ha hU (offFirst_eq true 1 c) ?_ ?_ (devFirst_eq true 1 c) <;> first | rfl | exact pay_first
  refine at_begin false 1 rfl (condFirst_iff false 1 c) (fun ha h hU => ?_) ?_
  · apply y_begin false 1 ha hU (offFirst_eq false 1 c) ?_ ?_ (devFirst_eq false 1 c) <;> first | rfl | exact pay_first
  refine at_next true 1 rfl (condNext_iff true 1 c) (fun ha h hU hl => ?_) ?_
  · apply y_next true 1 ha hU hl (offNext_eq true 1 c) ?_ ?_ (devNext_eq true 1 c) <;> first | rfl | exact pay_next
  refine at_next false 1 rfl (condNext_iff false 1 c) (fun ha h hU hl => ?_) ?_
  · apply y_next false 1 ha hU hl (offNext_eq false 1 c) ?_ ?_ (devNext_eq false 1 c) <;> first | rfl | exact pay_next
  refine at_last false 0 rfl (condLast_iff false 0 c) (fun ha h hl => ?_) ?_
  · apply y_last false 0 ha hl (offLast_eq false 0 c) <;> first | rfl | exact pay_last
  refine at_last true 0 rfl (condLast_iff true 0 c) (fun ha h hl => ?_) ?_
  · apply y_last true 0 ha hl (offLast_eq true 0 c) <;> first | rfl | exact pay_last
  refine at_third false 0 rfl (condThird_iff false 0 c) (fun ha h hU hl => ?_) ?_
  · apply y_third false 0 ha hU hl (offThird_eq false 0 c) ?_ ?_ ?_ (devThird_eq false 0 c) <;> first | rfl | exact pay_next | exact pay_third
  refine at_third true 0 rfl (condThird_iff true 0 c) (fun ha h hU hl => ?_) ?_
  · apply y_third true 0 ha hU hl (offThird_eq true 0 c) ?_ ?_ ?_ (devThird_eq true 0 c) <;> first | rfl | exact pay_next | exact pay_third
  exact done

end Cert.AllReduce
-- ==== Proof.Body.lean ====
/-
  The kernel's body, from the handshake to its last statement.
-/
module

public import proofs.«01_k».proof.Proof.Handshake

@[expose] public section

set_option maxRecDepth 20000

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {X : Dev nD → Blk F} {K : Dev nD × Cell → ℕ} {c : Dev nD} {α β : Type}
variable {p : Prog (TpuEff nD τ sig (Elt F) Λ₀ .tc) β} {f : β → Prog (TpuEff nD τ sig (Elt F) Λ₀ .tc) α} {q : Prog (TpuEff nD τ sig (Elt F) Λ₀ .tc) α}

/-- The program `p` runs from the state before statement `n`, with `P` kept aside, to `Q`. -/
def Kept (X : Dev nD → Blk F) (K : Dev nD × Cell → ℕ) (c : Dev nD) (P : sProp 𝕄) (n : ℕ)
    (p : Prog (TpuEff nD τ sig (Elt F) Λ₀ .tc) α) (Q : α → sProp 𝕄) : Prop := iprop(P ∗ St X K c n) ⊢ WP c p Q

/-- Reading the device's number. -/
theorem at_device {R : sProp 𝕄} {j : ℕ} {f : Dev nD → Prog (TpuEff nD τ sig (Elt F) Λ₀ .tc) α} {Q : α → sProp 𝕄} (hq : Starts X K c R j (f c) Q) :
    Starts X K c R j (.op .deviceId f) Q := by
  unfold Starts at hq ⊢
  show _ ⊢ wp _ _ _ _ Q
  rw [wp_deviceId]
  exact hq

/-- Signals, then the rest. -/
theorem starts_starts {R : sProp 𝕄} {j j' : ℕ} {Q : α → sProp 𝕄} (hp : Starts X K c R j p (fun _ => BSt X K c R j'))
    (hf : ∀ r, Starts X K c R j' (f r) Q) : Starts X K c R j (p >>= f) Q := by
  unfold Starts at hp hf ⊢
  show _ ⊢ wp _ _ _ (p >>= f) Q
  rw [wp_bind]
  exact BIBase.Entails.trans hp (wp_mono _ _ _ hf)

/-- The rest of the handshake and the first statements, then the rest. -/
theorem starts_kept {R P : sProp 𝕄} {j n : ℕ} {Q : α → sProp 𝕄} (hp : Starts X K c R j p (fun _ => iprop(P ∗ St X K c n)))
    (hf : ∀ r, Kept X K c P n (f r) Q) : Starts X K c R j (p >>= f) Q := by
  unfold Starts at hp ⊢
  unfold Kept at hf
  show _ ⊢ wp _ _ _ (p >>= f) Q
  rw [wp_bind]
  exact BIBase.Entails.trans hp (wp_mono _ _ _ hf)

/-- Statements run with `P` kept aside. -/
theorem goes_kept {P : sProp 𝕄} {n : ℕ} {Q : β → sProp 𝕄} (hp : Goes X K c n p Q) : Kept X K c P n p (fun r => iprop(P ∗ Q r)) := by
  unfold Goes at hp
  unfold Kept
  iintro ⟨HP, H⟩
  iapply (wp_frame_l frame (wpE (defs₀ (F := F)) 𝒱₀ (c : Thread nD τ) none))
  isplitl [HP]; · iexact HP
  iapply hp; iexact H

/-- Statements, then the rest. -/
theorem kept_bind {P : sProp 𝕄} {n n' : ℕ} {Q : α → sProp 𝕄} (hp : Goes X K c n p (fun _ => St X K c n'))
    (hf : ∀ r, Kept X K c P n' (f r) Q) : Kept X K c P n (p >>= f) Q := by
  have h := goes_kept (P := P) hp
  unfold Kept at h hf ⊢
  show _ ⊢ wp _ _ _ (p >>= f) Q
  rw [wp_bind]
  exact BIBase.Entails.trans h (wp_mono _ _ _ hf)

/-- Statements that return `v`, then the rest. -/
theorem kept_bind_eq {P : sProp 𝕄} {n n' : ℕ} {v : β} {Q : α → sProp 𝕄} (hp : Goes X K c n p (fun r => iprop(⌜r = v⌝ ∗ St X K c n')))
    (hf : Kept X K c P n' (f v) Q) : Kept X K c P n (p >>= f) Q := by
  have h := goes_kept (P := P) hp
  unfold Kept at h hf ⊢
  show _ ⊢ wp _ _ _ (p >>= f) Q
  rw [wp_bind]
  refine BIBase.Entails.trans h (wp_mono _ _ _ fun r => ?_)
  iintro ⟨HP, %hr, H⟩
  subst hr
  iapply hf
  isplitl [HP]; · iexact HP
  iexact H

set_option maxHeartbeats 4000000 in
/-- The kernel's body on the kernel's buffers, from what a device holds before its first signal. -/
theorem body_run {R : sProp 𝕄}
    (hR : iprop(Ctx X K ∗ R ∗ bigSep Finset.univ fun j : Fin 5 => barPay j c) ⊢ (|={Set.univ}=> (xPts c (X c) ∗ bigSep (A c 1) (pts X c)) : sProp 𝕄)) :
    Starts X K c R 5 (onBufs (cc0_body (F := F))) (fun _ => (iprop(semVal (barG c) 0 ∗ St X K c 63) : sProp 𝕄)) := by
  unfold onBufs
  rw [cc0_body_eq_skeleton]
  unfold cc0_body_skel
  rw [k0_part9_eq_skeleton, k0_part10_eq_skeleton]
  unfold k0_part9_skel k0_part10_skel
  simp only [Prog.lift, Prog.bind_op, Prog.bind_ret, Prog.pure_eq_ret]
  refine at_device ?_
  beta_reduce
  refine starts_starts (part11_ok _ _ _ _ _ _ _ _ _ _) fun _ => ?_
  refine starts_kept (part12_ok hR _ _ _ _ _ _ _ _ _ _) fun _ => ?_
  refine kept_bind (part13_ok _ _ _ _ _ _ _ _ _ _ _ _ _ _) fun _ => ?_
  refine kept_bind (part14_ok _ _ _ _ _ _ _) fun _ => ?_
  refine kept_bind (part15_ok _ _ _ _ _ _ _) fun _ => ?_
  refine kept_bind (part16_ok _ _ _ _ _ _ _ _ _) fun _ => ?_
  refine kept_bind_eq (part17_ok _ _ _ _ _) ?_
  refine kept_bind (part18_ok _ _) fun _ => ?_
  refine kept_bind (part19_ok _ _) fun _ => ?_
  refine goes_kept ?_
  show Goes X K c 62 (Prog.lift _ >>= fun _ => Pure.pure PUnit.unit) _
  apply at_xswait 1 rfl <;> first | rfl | skip
  exact done

end Cert.AllReduce
-- ==== Proof.Buffers.lean ====
/-
  The buffers as the regions the kernel's copies and tiles use: what a device splits them into at the start, and joins
  them from at the end.
-/
module

public import proofs.«01_k».proof.Proof.Body

@[expose] public section

set_option maxRecDepth 20000

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {X : Dev nD → Blk F} {c : Dev nD}

/-! ## The result -/

/-- The rows of a device and of the other device along x: which of the two, which half. -/
def blockR (c : Dev nD) (t : Bool × Fin 2) : Rect S2048x512 := rowsR (if t.1 then c else src (.x t.2) c) t.2

/-- The device that sends across x is the other one along x. -/
theorem x_src_x : ∀ s c, px (src (.x s) c) = 1 - px c := by decide +kernel

/-- Where a block of rows begins. -/
theorem blockR_off (c : Dev nD) (t : Bool × Fin 2) : ∃ r : ℕ, (∀ i, i ∈ (blockR c t).set ↔ 512 * r ≤ (i 0).val ∧ (i 0).val < 512 * r + 512)
    ∧ r = 2 * (if t.1 then px c else 1 - px c) + t.2.val := by
  refine ⟨_, fun i => ?_, rfl⟩
  unfold blockR
  rw [Rect.mem_set_unit]
  have h1 : (i 1).val < 512 := (i 1).isLt
  have hp : px (if t.1 then c else src (.x t.2) c) = if t.1 then px c else 1 - px c := by
    cases t.1
    · exact x_src_x _ _
    · rfl
  constructor
  · intro h
    have h0 := h 0
    have e : rowsOff (if t.1 then c else src (.x t.2) c) t.2 0 = 1024 * (if t.1 then px c else 1 - px c) + 512 * t.2.val := by
      rw [← hp]; rfl
    rw [e] at h0
    have e' : S512x512.size 0 = 512 := rfl
    rw [e'] at h0
    omega
  · intro h a
    match a with
    | ⟨0, _⟩ =>
        show rowsOff (if t.1 then c else src (.x t.2) c) t.2 0 ≤ (i 0).val ∧ (i 0).val < rowsOff (if t.1 then c else src (.x t.2) c) t.2 0 + 512
        have e : rowsOff (if t.1 then c else src (.x t.2) c) t.2 0 = 1024 * (if t.1 then px c else 1 - px c) + 512 * t.2.val := by
          rw [← hp]; rfl
        rw [e]; omega
    | ⟨1, _⟩ =>
        show 0 ≤ (i 1).val ∧ (i 1).val < 0 + 512
        omega

/-- The four blocks of rows are disjoint. -/
theorem blocks_disjoint (c : Dev nD) {t t' : Bool × Fin 2} (h : t ≠ t') : Disjoint (blockR c t).set (blockR c t').set := by
  obtain ⟨r, hr, e⟩ := blockR_off c t
  obtain ⟨r', hr', e'⟩ := blockR_off c t'
  rw [Finset.disjoint_left]
  intro i hi hi'
  rw [hr] at hi
  rw [hr'] at hi'
  have hrr : r = r' := by omega
  apply h
  obtain ⟨b, s⟩ := t
  obtain ⟨b', s'⟩ := t'
  have hx := px_lt c
  have hs := s.isLt
  have hs' := s'.isLt
  dsimp only at e e'
  have hb : b = b' := by
    cases b <;> cases b' <;> first | rfl | (exfalso; simp only [if_true, Bool.false_eq_true, if_false] at e e'; omega)
  subst hb
  have : s = s' := Fin.ext (by omega)
  subst this
  rfl

/-- The four blocks of rows are everything. -/
theorem blocks_cover (c : Dev nD) : (Finset.univ : Finset S2048x512.Idx) = Finset.univ.biUnion fun t : Bool × Fin 2 => (blockR c t).set := by
  ext i
  simp only [Finset.mem_univ, Finset.mem_biUnion, true_and, true_iff]
  have h0 : (i 0).val < 2048 := (i 0).isLt
  have hx := px_lt c
  refine ⟨(decide ((i 0).val / 1024 = px c), ⟨(i 0).val / 512 % 2, by omega⟩), ?_⟩
  obtain ⟨r, hr, e⟩ := blockR_off c (decide ((i 0).val / 1024 = px c), ⟨(i 0).val / 512 % 2, by omega⟩)
  rw [hr]
  by_cases hb : (i 0).val / 1024 = px c
  · simp only [hb, decide_true, if_true] at e; omega
  · simp only [hb, decide_false, Bool.false_eq_true, if_false] at e; omega

/-- The whole result is its four blocks of rows. -/
theorem out_blocks (c : Dev nD) (g : Blk F) :
    (outPts c Finset.univ fullShare g : sProp 𝕄) = bigSep Finset.univ fun t : Bool × Fin 2 => outPts c (blockR c t).set fullShare g := by
  unfold outPts
  rw [blocks_cover c]
  exact pointsTo_biUnion _ _ fun t _ t' _ h => blocks_disjoint c h

/-- The whole result is the device's own eight tiles and the other device's rows. -/
theorem out_split (c : Dev nD) (g : Blk F) :
    (outPts c Finset.univ fullShare g : sProp 𝕄)
      = iprop((bigSep Finset.univ fun s : Fin 2 => bigSep Finset.univ fun j : Fin 4 => outPts c (tileR c s j).set fullShare g)
        ∗ bigSep Finset.univ fun s : Fin 2 => outPts c (rowsR (src (.x s) c) s).set fullShare g) := by
  rw [out_blocks, bigSep_univ_prod, bigSep_univ_eq_bigSepL [true, false] (by decide) (by decide)]
  refine congrArg₂ (fun P Q : sProp 𝕄 => iprop(P ∗ Q)) ?_ rfl
  exact bigSep_congr fun s _ => rows_tiles c c s fullShare g

/-! ## The slots of a scratch buffer -/

/-- Which elements of a scratch buffer a slot has. -/
abbrev slotR (a : Fin 2) : Rect S2x512x128 := Rect.unit (s := S2x512x128) (slotOff a) S1x512x128.size (slotOff_inb a)

/-- Different slots have no element in common. -/
theorem slots_disjoint {a a' : Fin 2} (h : a ≠ a') : Disjoint (slotR a).set (slotR a').set := by
  have h' : a.val ≠ a'.val := fun e => h (Fin.ext e)
  refine Rect.unit_disjoint 0 ?_
  show a.val + 1 ≤ a'.val ∨ a'.val + 1 ≤ a.val
  omega

/-- The two slots make up the buffer. -/
theorem slots_cover : (Finset.univ : Finset S2x512x128.Idx) = Finset.univ.biUnion fun a : Fin 2 => (slotR a).set := by
  ext i
  simp only [Finset.mem_univ, Finset.mem_biUnion, true_and, true_iff]
  have h0 : (i 0).val < 2 := (i 0).isLt
  have h1 : (i 1).val < 512 := (i 1).isLt
  have h2 : (i 2).val < 128 := (i 2).isLt
  refine ⟨⟨(i 0).val, h0⟩, Rect.mem_set_unit.mpr fun a => ?_⟩
  match a with
  | ⟨0, _⟩ => show (i 0).val ≤ (i 0).val ∧ (i 0).val < (i 0).val + 1; omega
  | ⟨1, _⟩ => show 0 ≤ (i 1).val ∧ (i 1).val < 0 + 512; omega
  | ⟨2, _⟩ => show 0 ≤ (i 2).val ∧ (i 2).val < 0 + 128; omega

/-- The image of a union is the union of the images. -/
theorem map_biUnion {α β ι : Type} [DecidableEq α] [DecidableEq β] (e : α ↪ β) (S : Finset ι) (f : ι → Finset α) :
    (S.biUnion f).map e = S.biUnion fun i => (f i).map e := by
  ext b
  simp only [Finset.mem_map, Finset.mem_biUnion]
  constructor
  · rintro ⟨j, ⟨a, hS, ha⟩, e⟩; exact ⟨a, hS, j, ha, e⟩
  · rintro ⟨a, hS, j, ha, e⟩; exact ⟨j, ⟨a, hS, ha⟩, e⟩

/-- The elements of a buffer's slot. -/
theorem slotM_set (M : MS S2x512x128) (a : Fin 2) : (slotM M (slotOff a) (slotOff_inb a)).view.set = M.view.setOn (slotR a).set := by
  rw [slot_set_eq, View.set_slice]
  rfl

/-- Elements at known contents are elements at some contents. -/
theorem junk_of {s : Shape} (M : MS s) (f : Buf (Elt F) (M.view.loc (c : Thread nD τ))) :
    (M.view.loc (c : Thread nD τ) ↦[M.view.set]{fullShare} f : sProp 𝕄) ⊢ Junk c M := by
  unfold Junk
  iintro H
  iexists f; iexact H

/-- A scratch buffer at some contents is its two slots at some contents. -/
theorem slots_split (M : MS S2x512x128) :
    iprop(∃ f : Buf (Elt F) (M.view.loc (c : Thread nD τ)), (M.view.loc (c : Thread nD τ) ↦[M.view.set]{fullShare} f))
      ⊣⊢ (bigSep Finset.univ fun a : Fin 2 => Junk c (slotM M (slotOff a) (slotOff_inb a)) : sProp 𝕄) := by
  have hset : M.view.set = (Finset.univ : Finset (Fin 2)).biUnion fun a => (slotM M (slotOff a) (slotOff_inb a)).view.set := by
    rw [← View.setOn_univ, slots_cover]
    have he : (fun a : Fin 2 => (slotM M (slotOff a) (slotOff_inb a)).view.set) = fun a => M.view.setOn (slotR a).set := funext (slotM_set M)
    rw [he]
    unfold View.setOn
    exact map_biUnion M.view.emb _ _
  have hdis : ∀ a ∈ (Finset.univ : Finset (Fin 2)), ∀ a' ∈ (Finset.univ : Finset (Fin 2)), a ≠ a' →
      Disjoint ((slotM M (slotOff a) (slotOff_inb a)).view.set) ((slotM M (slotOff a') (slotOff_inb a')).view.set) := by
    intro a _ a' _ h
    rw [slotM_set, slotM_set]
    exact (Finset.disjoint_map _).mpr (slots_disjoint h)
  constructor
  · iintro ⟨%f, H⟩
    rw [hset]
    ihave H := (Entails.of_eq (pointsTo_biUnion (ℓ := M.view.loc (c : Thread nD τ)) (q := fullShare) (f := f) _ _ hdis)) $$ H
    have hj : (bigSep Finset.univ fun a : Fin 2 => (M.view.loc (c : Thread nD τ) ↦[(slotM M (slotOff a) (slotOff_inb a)).view.set]{fullShare} f : sProp 𝕄))
        ⊢ (bigSep Finset.univ fun a : Fin 2 => Junk c (slotM M (slotOff a) (slotOff_inb a)) : sProp 𝕄) := by
      exact bigSep_mono fun a _ => junk_of (slotM M (slotOff a) (slotOff_inb a)) f
    iapply hj; iexact H
  · unfold Junk
    iintro H
    ihave H := (BI.bigSep_exists_pi Finset.univ (fun (a : Fin 2) (f : Buf (Elt F) (M.view.loc (c : Thread nD τ))) =>
      (M.view.loc (c : Thread nD τ) ↦[(slotM M (slotOff a) (slotOff_inb a)).view.set]{fullShare} f : sProp 𝕄))) $$ H
    icases H with ⟨%fs, H⟩
    ihave H := (pointsTo_biUnion_join (ℓ := M.view.loc (c : Thread nD τ)) (q := fullShare) Finset.univ _ fs (fs 0) hdis) $$ H
    icases H with ⟨%g, -, H⟩
    iexists g
    rw [hset]
    iexact H

end Cert.AllReduce
-- ==== Proof.Zones.lean ====
/-
  The landing zones of the copies a device receives, cut out of its buffers at the start, and the result whole again
  at the end.
-/
module

public import proofs.«01_k».proof.Proof.Buffers

@[expose] public section

set_option maxRecDepth 20000

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {X : Dev nD → Blk F} {c : Dev nD}

/-! ## Families over the channels -/

/-- A resource held only if `b`. -/
def opt (b : Bool) (P : sProp 𝕄) : sProp 𝕄 := if b = true then P else iprop(emp)

/-- A resource under a true condition is held. -/
theorem opt_true (P : sProp 𝕄) : opt true P = P := rfl

/-- A resource under a false condition is not held. -/
theorem opt_false (P : sProp 𝕄) : opt false P = iprop(emp) := rfl

/-- A resource is held if `b` or if not. -/
theorem opt_split (b : Bool) (P : sProp 𝕄) : P = iprop(opt b P ∗ opt (!b) P) := by
  cases b
  · exact (sep_emp_eq P).symm.trans (BI.equiv_iff.mp ⟨BI.sep_comm, BI.sep_comm⟩)
  · exact (sep_emp_eq P).symm

/-- A family over a subset is the family of the resources held only there. -/
theorem bigSep_opt {I : Type} (s : Finset I) (p : I → Bool) (Φ : I → sProp 𝕄) :
    bigSep (s.filter fun i => p i = true) Φ = bigSep s fun i => opt (p i) (Φ i) := bigSep_filter s _ Φ

/-- The channels by kind. -/
def chanOf : (Bool × Fin 2) ⊕ (Fin 2 × (Bool × Fin 3)) ⊕ Fin 2 → Ch
  | .inl t => ySum t.1 t.2
  | .inr (.inl t) => zChan t.2.1 t.2.2 t.1
  | .inr (.inr s) => .x s

/-- The kind of a channel. -/
def kindOf : Ch → (Bool × Fin 2) ⊕ (Fin 2 × (Bool × Fin 3)) ⊕ Fin 2
  | .yp a => .inl (true, a)
  | .ys a => .inl (false, a)
  | .r d s => .inr (.inl (s, true, d))
  | .l d s => .inr (.inl (s, false, d))
  | .x s => .inr (.inr s)

/-- A channel is its kind. -/
def kinds : (Bool × Fin 2) ⊕ (Fin 2 × (Bool × Fin 3)) ⊕ Fin 2 ≃ Ch where
  toFun := chanOf
  invFun := kindOf
  left_inv := by
    rintro (⟨b, a⟩ | ⟨s, b, d⟩ | s)
    · cases b <;> rfl
    · cases b <;> rfl
    · rfl
  right_inv := fun k => by cases k <;> rfl

/-- A family over the channels is one over the sums, one over the tiles along z and one over the rows across x. -/
theorem chan_split (Φ : Ch → sProp 𝕄) : bigSep Finset.univ Φ
    = iprop((bigSep Finset.univ fun t : Bool × Fin 2 => Φ (ySum t.1 t.2))
      ∗ (bigSep Finset.univ fun s : Fin 2 => bigSep Finset.univ fun t : Bool × Fin 3 => Φ (zChan t.1 t.2 s))
      ∗ bigSep Finset.univ fun s : Fin 2 => Φ (.x s)) := by
  rw [bigSep_univ_equiv kinds Φ, bigSep_univ_sum, bigSep_univ_sum,
    bigSep_univ_prod (α := Fin 2)]
  rfl

/-! ## Landing zones -/

/-- The region on device `c` that the copy on channel `k` to it fills. -/
def zone (k : Ch) (c : Dev nD) : sProp 𝕄 := Junk c (dstMem k (src k c))

/-- A tile at some contents. -/
theorem tile_junk (o : Fin 2 → ℕ) (h) (g : Blk F) :
    outPts c (Rect.unit (s := S2048x512) o S512x128.size h).set fullShare g ⊢ (Junk c (tileM o h) : sProp 𝕄) := by
  have hs : (tileM o h).view.set = (Rect.unit (s := S2048x512) o S512x128.size h).set := View.set_slice_whole _ _
  have e := junk_of (c := c) (tileM o h) (g : Buf (Elt F) ((c : Thread nD τ).loc cc0_stg1_0))
  rw [hs] at e
  exact e

/-- A block of rows at some contents. -/
theorem rows_junk (o : Fin 2 → ℕ) (h) (g : Blk F) :
    outPts c (Rect.unit (s := S2048x512) o S512x512.size h).set fullShare g ⊢ (Junk c (rowsM o h) : sProp 𝕄) := by
  have hs : (rowsM o h).view.set = (Rect.unit (s := S2048x512) o S512x512.size h).set := View.set_slice_whole _ _
  have e := junk_of (c := c) (rowsM o h) (g : Buf (Elt F) ((c : Thread nD τ).loc cc0_stg1_0))
  rw [hs] at e
  exact e

/-- The columns that reach a device along z are all but its own. -/
theorem cols_image : ∀ (c : Dev nD) (s : Fin 2), ((Finset.univ : Finset (Bool × Fin 3)).filter fun t => rcv (zChan t.1 t.2 s) c = true).image
    (fun t => tcol (zChan t.1 t.2 s) (src (zChan t.1 t.2 s) c)) = Finset.univ.erase (zcol c) := by decide +kernel
/-- No column reaches a device twice. -/
theorem cols_inj : ∀ (c : Dev nD) (s : Fin 2) (t t' : Bool × Fin 3), rcv (zChan t.1 t.2 s) c = true → rcv (zChan t'.1 t'.2 s) c = true →
    tcol (zChan t.1 t.2 s) (src (zChan t.1 t.2 s) c) = tcol (zChan t'.1 t'.2 s) (src (zChan t'.1 t'.2 s) c) → t = t' := by decide +kernel

/-- A family over the columns but a device's own is one over what the device receives along z. -/
theorem cols_zones (c : Dev nD) (s : Fin 2) (Φ : Fin 4 → sProp 𝕄) : bigSep (Finset.univ.erase (zcol c)) Φ
    = bigSep Finset.univ fun t : Bool × Fin 3 => opt (rcv (zChan t.1 t.2 s) c) (Φ (tcol (zChan t.1 t.2 s) (src (zChan t.1 t.2 s) c))) := by
  rw [← cols_image c s, ← bigSep_opt Finset.univ (fun t : Bool × Fin 3 => rcv (zChan t.1 t.2 s) c)]
  exact Finset.fold_image fun t ht t' ht' h => cols_inj c s t t' (Finset.mem_filter.mp ht).2 (Finset.mem_filter.mp ht').2 h

/-- A family's members under the same condition. -/
theorem opt_mono {b : Bool} {P Q : sProp 𝕄} (h : P ⊢ Q) : opt b P ⊢ opt b Q := by
  cases b
  · exact BIBase.Entails.rfl
  · exact h

/-- The tile at a received column is the channel's landing zone. -/
theorem z_zone (right : Bool) (d : Fin 3) (s : Fin 2) (g : Blk F) :
    outPts c (tileR c s (tcol (zChan right d s) (src (zChan right d s) c))).set fullShare g ⊢ (zone (zChan right d s) c : sProp 𝕄) := by
  obtain ⟨hx, hy⟩ := z_src_place right d s c
  rw [tile_set_eq s (tcol (zChan right d s) (src (zChan right d s) c)) hx.symm]
  cases right
  · exact tile_junk _ _ g
  · exact tile_junk _ _ g

/-- The whole result's buffer is a device's own tiles and the landing zones of the copies along z and across x. -/
theorem out_open (g : Blk F) : outPts c Finset.univ fullShare g
    ⊢ (iprop((bigSep Finset.univ fun s : Fin 2 => pts X c (.own s))
      ∗ (bigSep Finset.univ fun s : Fin 2 => bigSep Finset.univ fun t : Bool × Fin 3 => opt (rcv (zChan t.1 t.2 s) c) (zone (zChan t.1 t.2 s) c))
      ∗ bigSep Finset.univ fun s : Fin 2 => zone (.x s) c) : sProp 𝕄) := by
  rw [out_split]
  have h1 : (bigSep Finset.univ fun s : Fin 2 => bigSep Finset.univ fun j : Fin 4 => outPts c (tileR c s j).set fullShare g)
      ⊢ (bigSep Finset.univ fun s : Fin 2 => iprop(pts X c (.own s)
        ∗ bigSep Finset.univ fun t : Bool × Fin 3 => opt (rcv (zChan t.1 t.2 s) c) (zone (zChan t.1 t.2 s) c)) : sProp 𝕄) := by
    refine bigSep_mono fun s _ => ?_
    rw [show (bigSep Finset.univ fun j : Fin 4 => outPts c (tileR c s j).set fullShare g : sProp 𝕄)
      = iprop(outPts c (tileR c s (zcol c)).set fullShare g ∗ bigSep (Finset.univ.erase (zcol c)) fun j : Fin 4 => outPts c (tileR c s j).set fullShare g)
      from bigSep_erase (Finset.mem_univ _), cols_zones c s]
    exact BI.sep_mono (tile_junk _ _ g) (bigSep_mono fun t _ => opt_mono (z_zone t.1 t.2 s g))
  have h2 : (bigSep Finset.univ fun s : Fin 2 => outPts c (rowsR (src (.x s) c) s).set fullShare g)
      ⊢ (bigSep Finset.univ fun s : Fin 2 => zone (.x s) c : sProp 𝕄) := bigSep_mono fun s _ => rows_junk _ _ g
  rw [bigSep_sep'] at h1
  iintro ⟨H1, H2⟩
  ihave H1 := h1 $$ H1
  ihave H2 := h2 $$ H2
  icases H1 with ⟨Ho, Hz⟩
  isplitl [Ho]; · iexact Ho
  isplitl [Hz]; · iexact Hz
  iexact H2

/-- A scratch buffer of some contents. -/
def scr (c : Dev nD) (M : MS S2x512x128) : sProp 𝕄 :=
  iprop(∃ f : Buf (Elt F) (M.view.loc (c : Thread nD τ)), (M.view.loc (c : Thread nD τ) ↦[M.view.set]{fullShare} f))

/-- An incoming buffer is the landing zones of its sum. -/
theorem scr_in (c : Dev nD) (up : Bool) : (scr c (inM up) : sProp 𝕄) ⊣⊢ bigSep Finset.univ fun a : Fin 2 => zone (ySum up a) c := by
  cases up
  · exact slots_split (c := c) (inM false)
  · exact slots_split (c := c) (inM true)

/-- An outgoing buffer is the regions its sum's copies read. -/
theorem scr_out (c : Dev nD) (up : Bool) : (scr c (upM up) : sProp 𝕄) ⊣⊢ bigSep Finset.univ fun a : Fin 2 => Junk c (srcMem (ySum up a) c) := by
  cases up
  · exact slots_split (c := c) (upM false)
  · exact slots_split (c := c) (upM true)

/-- The scratch buffers. -/
def scrs (c : Dev nD) : sProp 𝕄 := bigSep Finset.univ fun up : Bool => iprop(scr c (inM up) ∗ scr c (upM up))

/-- The scratch buffers are the sums' regions. -/
theorem scrs_split (c : Dev nD) : (scrs c : sProp 𝕄)
    ⊣⊢ iprop((bigSep Finset.univ fun t : Bool × Fin 2 => zone (ySum t.1 t.2) c)
      ∗ bigSep Finset.univ fun t : Bool × Fin 2 => Junk c (srcMem (ySum t.1 t.2) c)) := by
  unfold scrs
  rw [bigSep_sep', bigSep_univ_prod (α := Bool), bigSep_univ_prod (α := Bool)]
  have e1 : (fun up : Bool => (scr c (inM up) : sProp 𝕄)) = fun up => bigSep Finset.univ fun a : Fin 2 => zone (ySum up a) c :=
    funext fun up => BI.equiv_iff.mp ⟨(scr_in c up).1, (scr_in c up).2⟩
  have e2 : (fun up : Bool => (scr c (upM up) : sProp 𝕄)) = fun up => bigSep Finset.univ fun a : Fin 2 => Junk c (srcMem (ySum up a) c) :=
    funext fun up => BI.equiv_iff.mp ⟨(scr_out c up).1, (scr_out c up).2⟩
  rw [e1, e2]

/-- What a device's buffers are at the start: its own tiles, the sums' outgoing slots, the incoming slots that nothing
    reaches, and the landing zones of the copies it receives. -/
theorem bufs_open (c : Dev nD) (g : Blk F) : iprop(outPts c Finset.univ fullShare g ∗ scrs c)
    ⊢ (iprop((bigSep Finset.univ fun s : Fin 2 => pts X c (.own s))
      ∗ (bigSep Finset.univ fun t : Bool × Fin 2 => pts X c (.src (ySum t.1 t.2)))
      ∗ (bigSep Finset.univ fun t : Bool × Fin 2 => opt (!rcv (ySum t.1 t.2) c) (zone (ySum t.1 t.2) c))
      ∗ bigSep Finset.univ fun k : Ch => opt (rcv k c) (zone k c)) : sProp 𝕄) := by
  rw [chan_split]
  have hx : (bigSep Finset.univ fun s : Fin 2 => opt (rcv (.x s) c) (zone (.x s) c) : sProp 𝕄) = bigSep Finset.univ fun s : Fin 2 => zone (.x s) c :=
    bigSep_congr fun s _ => by rw [x_rcv, opt_true]
  have hy : (bigSep Finset.univ fun t : Bool × Fin 2 => zone (ySum t.1 t.2) c : sProp 𝕄)
      = iprop((bigSep Finset.univ fun t : Bool × Fin 2 => opt (rcv (ySum t.1 t.2) c) (zone (ySum t.1 t.2) c))
        ∗ bigSep Finset.univ fun t : Bool × Fin 2 => opt (!rcv (ySum t.1 t.2) c) (zone (ySum t.1 t.2) c)) := by
    rw [← bigSep_sep']
    exact bigSep_congr fun t _ => opt_split _ _
  rw [hx]
  iintro ⟨Ho, Hs⟩
  ihave Ho := (out_open (X := X) g) $$ Ho
  ihave Hs := (scrs_split c).1 $$ Hs
  icases Ho with ⟨Ho, Hz, Hx⟩
  icases Hs with ⟨Hi, Hu⟩
  ihave Hi := (Entails.of_eq hy) $$ Hi
  icases Hi with ⟨Hr, Hn⟩
  isplitl [Ho]; · iexact Ho
  isplitl [Hu]; · iexact Hu
  isplitl [Hn]; · iexact Hn
  isplitl [Hr]; · iexact Hr
  isplitl [Hz]; · iexact Hz
  iexact Hx

/-- The shares of all the tiles and the other device's rows are the whole result. -/
theorem out_close (c : Dev nD) :
    iprop((bigSep Finset.univ fun t : Fin 2 × Fin 4 × Fin 3 => pts X c (.pc t.1 t.2.1 t.2.2)) ∗ bigSep Finset.univ fun s : Fin 2 => pts X c (.peer s))
    ⊢ (outPts c Finset.univ fullShare (outF X (py c)) : sProp 𝕄) := by
  rw [out_split]
  refine BI.sep_mono ?_ (BI.Entails.refl _)
  rw [bigSep_univ_prod]
  refine bigSep_mono fun s _ => ?_
  rw [bigSep_univ_prod]
  refine bigSep_mono fun j _ => ?_
  rw [bigSep_univ_eq_bigSepL [0, 1, 2] (by decide) (by decide)]
  exact (tile_shares X c s j).2

/-- The sums' regions are the scratch buffers. -/
theorem scrs_close (c : Dev nD) :
    iprop((bigSep Finset.univ fun t : Bool × Fin 2 => pts X c (.src (ySum t.1 t.2))) ∗ bigSep Finset.univ fun t : Bool × Fin 2 => pts X c (.land (ySum t.1 t.2)))
    ⊢ (scrs c : sProp 𝕄) := by
  have h : (bigSep Finset.univ fun t : Bool × Fin 2 => pts X c (.land (ySum t.1 t.2))) ⊢ (bigSep Finset.univ fun t : Bool × Fin 2 => zone (ySum t.1 t.2) c : sProp 𝕄) := by
    refine bigSep_mono fun t _ => ?_
    show (if rcv (ySum t.1 t.2) c = true then Holds c (dstMem (ySum t.1 t.2) (src (ySum t.1 t.2) c)) fullShare (val X (ySum t.1 t.2) (src (ySum t.1 t.2) c))
      else Junk c (dstMem (ySum t.1 t.2) (src (ySum t.1 t.2) c)) : sProp 𝕄) ⊢ Junk c (dstMem (ySum t.1 t.2) (src (ySum t.1 t.2) c))
    split
    · exact holds_junk _ _ _
    · exact BIBase.Entails.rfl
  iintro ⟨Hu, Hl⟩
  ihave Hl := h $$ Hl
  iapply (scrs_split c).2
  isplitl [Hl]; · iexact Hl
  iexact Hu

end Cert.AllReduce
-- ==== Proof.Ends.lean ====
/-
  What a device holds before its first signal and after its last statement, in terms of its buffers, its semaphores and
  what the launch hands out.
-/
module

public import proofs.«01_k».proof.Proof.Zones

@[expose] public section

set_option maxRecDepth 20000

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {X : Dev nD → Blk F} {K : Dev nD × Cell → ℕ} {c : Dev nD}

/-! ## The resources by kind -/

/-- A family over a list's image is the family over the indices. -/
theorem map_part {I : Type} [Fintype I] [DecidableEq I] (l : List I) (hl : l.toFinset = Finset.univ) (f : I → Res) (hf : ∀ i j, f i = f j → i = j)
    (Φ : Res → sProp 𝕄) : bigSep (l.map f).toFinset Φ = bigSep Finset.univ fun i => Φ (f i) := by
  have h : (l.map f).toFinset = Finset.univ.image f := by
    ext r
    rw [List.mem_toFinset, List.mem_map, Finset.mem_image, ← hl]
    simp only [List.mem_toFinset]
  rw [h]
  exact Finset.fold_image fun i _ j _ => hf i j

/-- A family over two lists without common members. -/
theorem append_part {l l' : List Res} (h : (l ++ l').Nodup) (Φ : Res → sProp 𝕄) :
    bigSep (l ++ l').toFinset Φ = iprop(bigSep l.toFinset Φ ∗ bigSep l'.toFinset Φ) := by
  rw [List.toFinset_append]
  refine bigSep_union (Finset.disjoint_left.mpr fun r hr hr' => ?_)
  exact (List.disjoint_of_nodup_append h) (List.mem_toFinset.mp hr) (List.mem_toFinset.mp hr')

/-- The indices of the tiles' shares. -/
def pcIx : List (Fin 2 × Fin 4 × Fin 3) :=
  (List.finRange 2).flatMap fun s => (List.finRange 4).flatMap fun j => (List.finRange 3).map fun p => (s, j, p)
/-- The indices of the sums. -/
def sumIx : List (Bool × Fin 2) := [(true, 0), (true, 1), (false, 0), (false, 1)]

/-- The listed shares of tiles are those of all halves, columns and directions. -/
theorem pcList_eq : pcList = pcIx.map fun t => .pc t.1 t.2.1 t.2.2 := by decide +kernel
/-- The listed outgoing slots are those of all sums. -/
theorem srcList_eq : sumChans.map Res.src = sumIx.map fun t => .src (ySum t.1 t.2) := by decide +kernel
/-- The listed landing slots are those of all sums. -/
theorem landList_eq : sumChans.map Res.land = sumIx.map fun t => .land (ySum t.1 t.2) := by decide +kernel
/-- The list of tiles' shares is complete. -/
theorem pcIx_univ : pcIx.toFinset = Finset.univ := by decide +kernel
/-- The list of sums is complete. -/
theorem sumIx_univ : sumIx.toFinset = Finset.univ := by decide +kernel
/-- The list of halves is complete. -/
theorem two_univ : (List.finRange 2).toFinset = Finset.univ := by decide +kernel
/-- The list of channels is complete. -/
theorem chans_univ : chans.toFinset = Finset.univ := by decide +kernel
/-- A sum's channel determines its direction and slice. -/
theorem ySum_inj : ∀ t t' : Bool × Fin 2, ySum t.1 t.2 = ySum t'.1 t'.2 → t = t' := by decide +kernel

/-- A family over all resources, by kind. -/
theorem res_split (Φ : Res → sProp 𝕄) : bigSep resList.toFinset Φ
    = iprop((((((((((bigSep Finset.univ fun t : Fin 2 × Fin 4 × Fin 3 => Φ (.pc t.1 t.2.1 t.2.2))
      ∗ bigSep Finset.univ fun s : Fin 2 => Φ (.own s))
      ∗ bigSep Finset.univ fun t : Bool × Fin 2 => Φ (.src (ySum t.1 t.2)))
      ∗ bigSep Finset.univ fun t : Bool × Fin 2 => Φ (.land (ySum t.1 t.2)))
      ∗ bigSep Finset.univ fun s : Fin 2 => Φ (.peer s))
      ∗ bigSep Finset.univ fun k : Ch => Φ (.uns k))
      ∗ bigSep Finset.univ fun k : Ch => Φ (.unr k))
      ∗ bigSep Finset.univ fun k : Ch => Φ (.flt k))
      ∗ bigSep Finset.univ fun k : Ch => Φ (.snt k))
      ∗ bigSep Finset.univ fun k : Ch => Φ (.rcd k)) := by
  have h9 := resList_nodup
  unfold resList at h9 ⊢
  have h8 := h9.of_append_left
  have h7 := h8.of_append_left
  have h6 := h7.of_append_left
  have h5 := h6.of_append_left
  have h4 := h5.of_append_left
  have h3 := h4.of_append_left
  have h2 := h3.of_append_left
  have h1 := h2.of_append_left
  rw [append_part h9, append_part h8, append_part h7, append_part h6, append_part h5, append_part h4, append_part h3, append_part h2, append_part h1,
    pcList_eq, srcList_eq, landList_eq,
    map_part pcIx pcIx_univ _ (by rintro ⟨s, j, p⟩ ⟨s', j', p'⟩ h; injection h; simp_all),
    map_part (List.finRange 2) two_univ Res.own (by intro i j h; injection h),
    map_part sumIx sumIx_univ (fun t => Res.src (ySum t.1 t.2)) (by intro i j h; injection h with h; exact ySum_inj _ _ h),
    map_part sumIx sumIx_univ (fun t => Res.land (ySum t.1 t.2)) (by intro i j h; injection h with h; exact ySum_inj _ _ h),
    map_part (List.finRange 2) two_univ Res.peer (by intro i j h; injection h),
    map_part chans chans_univ Res.uns (by intro i j h; injection h),
    map_part chans chans_univ Res.unr (by intro i j h; injection h),
    map_part chans chans_univ Res.flt (by intro i j h; injection h),
    map_part chans chans_univ Res.snt (by intro i j h; injection h),
    map_part chans chans_univ Res.rcd (by intro i j h; injection h)]

/-- What a device holds before a statement, by kind. -/
theorem held_split (c : Dev nD) (n : ℕ) : (bigSep (A c n) (pts X c) : sProp 𝕄) = bigSep resList.toFinset fun r => opt (avail c n r) (pts X c r) :=
  bigSep_opt resList.toFinset (avail c n) (pts X c)

/-- A family of which nothing is held. -/
theorem none_held {I : Type} [Fintype I] {b : I → Bool} (h : ∀ i, b i = false) (Φ : I → sProp 𝕄) :
    (bigSep Finset.univ fun i => opt (b i) (Φ i)) = iprop(emp) := by
  exact (bigSep_congr fun i _ => by rw [h, opt_false]; rfl).trans (bigSep_emp_const _)
/-- A family of which everything is held. -/
theorem all_held {I : Type} [Fintype I] {b : I → Bool} (h : ∀ i, b i = true) (Φ : I → sProp 𝕄) :
    (bigSep Finset.univ fun i => opt (b i) (Φ i)) = bigSep Finset.univ Φ := bigSep_congr fun i _ => by rw [h, opt_true]
/-- A family held under other names. -/
theorem as_held {I : Type} [Fintype I] {b b' : I → Bool} (h : ∀ i, b i = b' i) (Φ : I → sProp 𝕄) :
    (bigSep Finset.univ fun i => opt (b i) (Φ i)) = bigSep Finset.univ fun i => opt (b' i) (Φ i) := bigSep_congr fun i _ => by rw [h]

/-- At the start no tile is written. -/
theorem first_pc : ∀ (c : Dev nD) (t : Fin 2 × Fin 4 × Fin 3), avail c 1 (.pc t.1 t.2.1 t.2.2) = false := by decide +kernel
/-- At the start a device's own tiles are still to be written. -/
theorem first_own : ∀ (c : Dev nD) (s : Fin 2), avail c 1 (.own s) = true := by decide +kernel
/-- At the start all outgoing slots are there. -/
theorem first_src : ∀ (c : Dev nD) (t : Bool × Fin 2), avail c 1 (.src (ySum t.1 t.2)) = true := by decide +kernel
/-- At the start a device holds the landing slots on which nothing will land. -/
theorem first_land : ∀ (c : Dev nD) (t : Bool × Fin 2), avail c 1 (.land (ySum t.1 t.2)) = !rcv (ySum t.1 t.2) c := by decide +kernel
/-- At the start the other rows have not arrived. -/
theorem first_peer : ∀ (c : Dev nD) (s : Fin 2), avail c 1 (.peer s) = false := by decide +kernel
/-- At the start a device is to send on the channels that it uses. -/
theorem first_uns : ∀ (c : Dev nD) (k : Ch), avail c 1 (.uns k) = act k c := by decide +kernel
/-- At the start a device is to receive on the channels on which something comes. -/
theorem first_unr : ∀ (c : Dev nD) (k : Ch), avail c 1 (.unr k) = rcv k c := by decide +kernel
/-- At the start nothing is in flight. -/
theorem first_flt : ∀ (c : Dev nD) (k : Ch), avail c 1 (.flt k) = false := by decide +kernel
/-- At the start a device is done with sending on the channels it does not use. -/
theorem first_snt : ∀ (c : Dev nD) (k : Ch), avail c 1 (.snt k) = !act k c := by decide +kernel
/-- At the start a device is done with receiving on the channels on which nothing comes. -/
theorem first_rcd : ∀ (c : Dev nD) (k : Ch), avail c 1 (.rcd k) = !rcv k c := by decide +kernel

/-- At the end all shares of all tiles are there. -/
theorem last_pc : ∀ (c : Dev nD) (t : Fin 2 × Fin 4 × Fin 3), avail c 63 (.pc t.1 t.2.1 t.2.2) = true := by decide +kernel
/-- At the end all outgoing slots are there. -/
theorem last_src : ∀ (c : Dev nD) (t : Bool × Fin 2), avail c 63 (.src (ySum t.1 t.2)) = true := by decide +kernel
/-- At the end all landing slots are there. -/
theorem last_land : ∀ (c : Dev nD) (t : Bool × Fin 2), avail c 63 (.land (ySum t.1 t.2)) = true := by decide +kernel
/-- At the end the other rows are there. -/
theorem last_peer : ∀ (c : Dev nD) (s : Fin 2), avail c 63 (.peer s) = true := by decide +kernel
/-- At the end no tile is still to be written. -/
theorem last_own : ∀ (c : Dev nD) (s : Fin 2), avail c 63 (.own s) = false := by decide +kernel
/-- At the end nothing is to be sent. -/
theorem last_uns : ∀ (c : Dev nD) (k : Ch), avail c 63 (.uns k) = false := by decide +kernel
/-- At the end nothing is to be received. -/
theorem last_unr : ∀ (c : Dev nD) (k : Ch), avail c 63 (.unr k) = false := by decide +kernel
/-- At the end nothing is in flight. -/
theorem last_flt : ∀ (c : Dev nD) (k : Ch), avail c 63 (.flt k) = false := by decide +kernel
/-- At the end all sending is done. -/
theorem last_snt : ∀ (c : Dev nD) (k : Ch), avail c 63 (.snt k) = true := by decide +kernel
/-- At the end all receiving is done. -/
theorem last_rcd : ∀ (c : Dev nD) (k : Ch), avail c 63 (.rcd k) = true := by decide +kernel

/-- At the start every copy is owed. -/
theorem first_owed (c : Dev nD) : U c 1 = Finset.univ.filter fun k => act k c = true := by
  unfold U
  exact Finset.filter_congr fun k _ => by rw [first_uns]
/-- At the end no copy is owed. -/
theorem last_owed (c : Dev nD) : U c 63 = ∅ := by
  unfold U
  exact Finset.filter_false_of_mem fun k _ => by rw [last_uns]; decide

/-! ## The start -/

/-- A channel's tokens and places, and the credit for what will arrive on it. -/
def tokR (k : Ch) (c : Dev nD) : sProp 𝕄 :=
  iprop(dutyTok ER (sndG k c) 0 0 ∗ dutyTok ER (rcvG k (dst k c)) 0 0 ∗ atPos ER (sndG k c) 0 ∅ 0 ∗ atPos ER (rcvG k c) 0 ∅ 0
    ∗ opt (rcv k c) (cred (tallyAt (rcvG k c) () (amt k))))

/-- What a device keeps of its buffers through the barrier. -/
def keep (X : Dev nD → Blk F) (c : Dev nD) : sProp 𝕄 :=
  iprop((bigSep Finset.univ fun s : Fin 2 => pts X c (.own s))
    ∗ (bigSep Finset.univ fun t : Bool × Fin 2 => pts X c (.src (ySum t.1 t.2)))
    ∗ (bigSep Finset.univ fun t : Bool × Fin 2 => opt (!rcv (ySum t.1 t.2) c) (zone (ySum t.1 t.2) c)))

/-- What a device keeps through the barrier. -/
def rest (X : Dev nD → Blk F) (c : Dev nD) : sProp 𝕄 := iprop(xPts c (X c) ∗ keep X c ∗ bigSep Finset.univ fun k : Ch => tokR k c)

/-- What a channel becomes after the barrier. -/
def readyR (k : Ch) (c : Dev nD) : sProp 𝕄 :=
  iprop(opt (act k c) (unsR k c) ∗ opt (rcv k c) (unrR k c) ∗ opt (!act k c) (semVal (sndG k c) 0) ∗ opt (!rcv k c) (semVal (rcvG k c) 0))

/-- Everything the statements start from, by kind. -/
theorem first_held (c : Dev nD) :
    iprop((bigSep Finset.univ fun s : Fin 2 => pts X c (.own s))
      ∗ (bigSep Finset.univ fun t : Bool × Fin 2 => pts X c (.src (ySum t.1 t.2)))
      ∗ (bigSep Finset.univ fun t : Bool × Fin 2 => opt (!rcv (ySum t.1 t.2) c) (pts X c (.land (ySum t.1 t.2))))
      ∗ (bigSep Finset.univ fun k : Ch => opt (act k c) (unsR k c)) ∗ (bigSep Finset.univ fun k : Ch => opt (rcv k c) (unrR k c))
      ∗ (bigSep Finset.univ fun k : Ch => opt (!act k c) (semVal (sndG k c) 0)) ∗ bigSep Finset.univ fun k : Ch => opt (!rcv k c) (semVal (rcvG k c) 0))
    ⊢ (bigSep (A c 1) (pts X c) : sProp 𝕄) := by
  rw [held_split, res_split, none_held (first_pc c), all_held (first_own c), all_held (first_src c), as_held (first_land c), none_held (first_peer c),
    as_held (first_uns c), as_held (first_unr c), none_held (first_flt c), as_held (first_snt c), as_held (first_rcd c)]
  iintro ⟨H1, H2, H3, H4, H5, H6, H7⟩
  isplitl [H1 H2 H3 H4 H5 H6]
  · isplitl [H1 H2 H3 H4 H5]
    · isplitl [H1 H2 H3 H4 H5]
      · isplitl [H1 H2 H3 H4]
        · isplitl [H1 H2 H3]
          · isplitl [H1 H2 H3]
            · isplitl [H1 H2]
              · isplitl [H1]
                · isplitr; · iempintro
                  iexact H1
                iexact H2
              iexact H3
            iempintro
          iexact H4
        iexact H5
      iempintro
    iexact H6
  iexact H7

/-- A channel becomes ready once the region its copy fills is known to be free. -/
theorem ready (k : Ch) (c : Dev nD) : iprop(Ctx X K ∗ tokR k c ∗ opt (act k c) (Junk (dst k c) (dstMem k c)))
    ⊢ (|={Set.univ}=> readyR k c : sProp 𝕄) := by
  unfold tokR readyR
  iintro ⟨#HC, ⟨Hs, Hr, Has, Har, Hc⟩, Hz⟩
  have hs : iprop(Ctx X K ∗ dutyTok ER (sndG k c) 0 0 ∗ dutyTok ER (rcvG k (dst k c)) 0 0 ∗ atPos ER (sndG k c) 0 ∅ 0 ∗ opt (act k c) (Junk (dst k c) (dstMem k c)))
      ⊢ (|={Set.univ}=> (opt (act k c) (unsR k c) ∗ opt (!act k c) (semVal (sndG k c) 0)) : sProp 𝕄) := by
    cases ha : act k c
    · rw [opt_false, opt_false, Bool.not_false, opt_true]
      iintro ⟨#HC, -, -, Ha, -⟩
      have hcl := close_idle X K c (.snd k) (by show (if act k c = true then _ else _) = _; rw [ha]; rfl)
      imod hcl $$ [Ha] with H
      · isplitr; · iexact HC
        iexact Ha
      imodintro
      isplitr; · iempintro
      iexact H
    · rw [opt_true, opt_true, Bool.not_true, opt_false]
      iintro ⟨-, H1, H2, H3, H4⟩
      imodintro
      isplitl
      · unfold unsR
        isplitl [H1]; · iexact H1
        isplitl [H2]; · iexact H2
        isplitl [H4]; · iexact H4
        iexact H3
      · iempintro
  have hr : iprop(Ctx X K ∗ atPos ER (rcvG k c) 0 ∅ 0 ∗ opt (rcv k c) (cred (tallyAt (rcvG k c) () (amt k))))
      ⊢ (|={Set.univ}=> (opt (rcv k c) (unrR k c) ∗ opt (!rcv k c) (semVal (rcvG k c) 0)) : sProp 𝕄) := by
    cases ha : rcv k c
    · rw [opt_false, opt_false, Bool.not_false, opt_true]
      iintro ⟨#HC, Ha, -⟩
      have hcl := close_idle X K c (.rcv k) (by show (if rcv k c = true then _ else _) = _; rw [ha]; rfl)
      imod hcl $$ [Ha] with H
      · isplitr; · iexact HC
        iexact Ha
      imodintro
      isplitr; · iempintro
      iexact H
    · rw [opt_true, opt_true, Bool.not_true, opt_false]
      iintro ⟨-, H1, H2⟩
      imodintro
      isplitl
      · unfold unrR
        isplitl [H2]; · iexact H2
        iexact H1
      · iempintro
  imod hs $$ [Hs Hr Has Hz] with ⟨H1, H2⟩
  · isplitr; · iexact HC
    isplitl [Hs]; · iexact Hs
    isplitl [Hr]; · iexact Hr
    isplitl [Has]; · iexact Has
    iexact Hz
  imod hr $$ [Har Hc] with ⟨H3, H4⟩
  · isplitr; · iexact HC
    isplitl [Har]; · iexact Har
    iexact Hc
  imodintro
  isplitl [H1]; · iexact H1
  isplitl [H3]; · iexact H3
  isplitl [H2]; · iexact H2
  iexact H4

/-- A family whose members follow from a common fact. -/
theorem mono_under {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  have h' : (bigSep S fun i => iprop(R ∗ Φ i)) ⊢ bigSep S Ψ := bigSep_mono h
  rw [bigSep_sep'] at h'
  iintro ⟨#HR, H⟩
  iapply h'
  isplitr
  · iapply (BI.bigSep_of_persistent S R); iexact HR
  · iexact H

/-- A family over the channels, one neighbour at a time. -/
theorem by_group (p : Ch → Bool) (Φ : Ch → sProp 𝕄) :
    (bigSep Finset.univ fun j : Fin 5 => bigSep (Finset.univ.filter fun k : Ch => grp k = j ∧ p k = true) Φ)
      = bigSep Finset.univ fun k : Ch => opt (p k) (Φ k) := by
  have h1 : (fun j : Fin 5 => bigSep (Finset.univ.filter fun k : Ch => grp k = j ∧ p k = true) Φ)
      = fun j : Fin 5 => bigSep Finset.univ fun k : Ch => if grp k = j then opt (p k) (Φ k) else iprop(emp) := by
    funext j
    rw [bigSep_filter]
    refine bigSep_congr fun k _ => ?_
    unfold opt
    by_cases hj : grp k = j
    · by_cases hp : p k = true
      · rw [if_pos ⟨hj, hp⟩, if_pos hj, if_pos hp]
      · rw [if_neg (fun h => hp h.2), if_pos hj, if_neg hp]; rfl
    · rw [if_neg (fun h => hj h.1), if_neg hj]; rfl
  rw [h1, bigSep_univ_comm]
  refine bigSep_congr fun k _ => ?_
  rw [BI.bigSep_univ_at _ (grp k), if_pos rfl]
  have h2 : bigSep (Finset.univ.erase (grp k)) (fun j : Fin 5 => if grp k = j then opt (p k) (Φ k) else iprop(emp)) = (iprop(emp) : sProp 𝕄) := by
    exact (bigSep_congr fun j hj => if_neg (Finset.ne_of_mem_erase hj).symm).trans (bigSep_emp_const _)
  rw [h2]
  exact sep_emp_eq _

/-- What the neighbours hand a device at the barrier. -/
theorem barrier_in (c : Dev nD) : (bigSep Finset.univ fun j : Fin 5 => barPay j c : sProp 𝕄)
    = bigSep Finset.univ fun k : Ch => opt (act k c) (Junk (dst k c) (dstMem k c)) := by
  rw [← by_group (fun k => act k c)]
  refine bigSep_congr fun j _ => ?_
  unfold barPay sends
  exact bigSep_congr fun k hk => by rw [← (Finset.mem_filter.mp hk).2.1]

/-- What a device hands its neighbours at the barrier. -/
theorem barrier_out (c : Dev nD) : (bigSep Finset.univ fun i : Fin 5 => barPay i ((nb i).symm c) : sProp 𝕄)
    = bigSep Finset.univ fun k : Ch => opt (rcv k c) (zone k c) := by
  rw [← by_group (fun k => rcv k c)]
  refine bigSep_congr fun i _ => ?_
  unfold barPay sends
  have hs : (Finset.univ.filter fun k : Ch => grp k = i ∧ act k ((nb i).symm c) = true) = Finset.univ.filter fun k : Ch => grp k = i ∧ rcv k c = true := by
    refine Finset.filter_congr fun k _ => and_congr_right fun h => ?_
    subst h; rfl
  rw [hs]
  refine bigSep_congr fun k hk => ?_
  have hg := (Finset.mem_filter.mp hk).2.1
  subst hg
  unfold zone
  rw [Equiv.apply_symm_apply]

/-- From the barrier on: what a device kept and what it was handed is what the statements start from. -/
theorem first_ok (c : Dev nD) : iprop(Ctx X K ∗ rest X c ∗ bigSep Finset.univ fun j : Fin 5 => barPay j c)
    ⊢ (|={Set.univ}=> (xPts c (X c) ∗ bigSep (A c 1) (pts X c)) : sProp 𝕄) := by
  rw [barrier_in]
  have hf := first_held (X := X) c
  unfold rest keep
  have hl : (bigSep Finset.univ fun t : Bool × Fin 2 => opt (!rcv (ySum t.1 t.2) c) (pts X c (.land (ySum t.1 t.2))) : sProp 𝕄)
      = bigSep Finset.univ fun t : Bool × Fin 2 => opt (!rcv (ySum t.1 t.2) c) (zone (ySum t.1 t.2) c) := by
    refine bigSep_congr fun t _ => ?_
    rw [show (pts X c (.land (ySum t.1 t.2)) : sProp 𝕄) = if rcv (ySum t.1 t.2) c = true then Holds c (dstMem (ySum t.1 t.2) (src (ySum t.1 t.2) c)) fullShare (val X (ySum t.1 t.2) (src (ySum t.1 t.2) c))
      else Junk c (dstMem (ySum t.1 t.2) (src (ySum t.1 t.2) c)) from rfl]
    cases rcv (ySum t.1 t.2) c <;> rfl
  rw [hl] at hf
  have hk : iprop(Ctx X K ∗ bigSep Finset.univ fun k : Ch => iprop(tokR k c ∗ opt (act k c) (Junk (dst k c) (dstMem k c))))
      ⊢ (|={Set.univ}=> bigSep Finset.univ fun k : Ch => readyR k c : sProp 𝕄) :=
    BIBase.Entails.trans (mono_under fun k _ => ready k c) (BI.bigSep_fupd _ _)
  have hr : (bigSep Finset.univ fun k : Ch => readyR k c : sProp 𝕄)
      = iprop((bigSep Finset.univ fun k : Ch => opt (act k c) (unsR k c)) ∗ (bigSep Finset.univ fun k : Ch => opt (rcv k c) (unrR k c))
      ∗ (bigSep Finset.univ fun k : Ch => opt (!act k c) (semVal (sndG k c) 0)) ∗ bigSep Finset.univ fun k : Ch => opt (!rcv k c) (semVal (rcvG k c) 0)) := by
    unfold readyR
    rw [bigSep_sep', bigSep_sep', bigSep_sep']
  rw [bigSep_sep', hr] at hk
  iintro ⟨#HC, ⟨Hx, ⟨Ho, Hs, Hn⟩, Ht⟩, Hz⟩
  imod hk $$ [Ht Hz] with ⟨H1, H2, H3, H4⟩
  · isplitr; · iexact HC
    isplitl [Ht]; · iexact Ht
    iexact Hz
  imodintro
  isplitl [Hx]; · iexact Hx
  iapply hf
  isplitl [Ho]; · iexact Ho
  isplitl [Hs]; · iexact Hs
  isplitl [Hn]; · iexact Hn
  isplitl [H1]; · iexact H1
  isplitl [H2]; · iexact H2
  isplitl [H3]; · iexact H3
  iexact H4

/-- What a device needs to run the kernel: its buffers, and from the launch the signals' tokens, the barrier's credit and
    place, and the channels' tokens. -/
theorem body_start (c : Dev nD) (g : Blk F) :
    iprop(Ctx X K ∗ OweB c (U c 1) 5 ∗ xPts c (X c) ∗ outPts c Finset.univ fullShare g ∗ scrs c
      ∗ (bigSep Finset.univ fun i : Fin 5 => dutyTok ER (barG ((nb i).symm c)) 0 i) ∗ cred (tallyAt (barG c) () 5) ∗ atPos ER (barG c) 0 ∅ 0
      ∗ bigSep Finset.univ fun k : Ch => tokR k c)
    ⊢ (BSt X K c (rest X c) 5 : sProp 𝕄) := by
  have hsig : iprop((bigSep Finset.univ fun i : Fin 5 => dutyTok ER (barG ((nb i).symm c)) 0 i) ∗ bigSep Finset.univ fun k : Ch => opt (rcv k c) (zone k c))
      ⊢ (sigs c 5 : sProp 𝕄) := by
    rw [← barrier_out, ← bigSep_sep', bigSep_univ_eq_bigSepL [0, 1, 2, 3, 4] (by decide) (by decide)]
    show iprop(sigR c 0 ∗ sigR c 1 ∗ sigR c 2 ∗ sigR c 3 ∗ sigR c 4) ⊢ iprop(sigR c 0 ∗ sigR c 1 ∗ sigR c 2 ∗ sigR c 3 ∗ sigR c 4 ∗ emp)
    rw [show iprop(sigR c 4 ∗ emp) = (sigR c 4 : sProp 𝕄) from sep_emp_eq _]
  unfold BSt rest keep
  iintro ⟨#HC, HO, Hx, Ho, Hs, Hd, Hc, Ha, Ht⟩
  ihave H := (bufs_open (X := X) c g) $$ [Ho Hs]
  · isplitl [Ho]; · iexact Ho
    iexact Hs
  icases H with ⟨H1, H2, H3, H4⟩
  ihave Hsig := hsig $$ [Hd H4]
  · isplitl [Hd]; · iexact Hd
    iexact H4
  isplitr; · iexact HC
  isplitl [HO]; · iexact HO
  isplitl [Hsig]; · iexact Hsig
  isplitl [Hc]; · iexact Hc
  isplitl [Ha]; · iexact Ha
  isplitl [Hx]; · iexact Hx
  isplitl [H1 H2 H3]
  · isplitl [H1]; · iexact H1
    isplitl [H2]; · iexact H2
    iexact H3
  iexact Ht

/-! ## The end -/

/-- After the last statement a device owes nothing, the result is whole, and every semaphore is at 0. -/
theorem body_end (c : Dev nD) : (St X K c 63 : sProp 𝕄)
    ⊢ iprop((∃ W, owes (c : Thread nD τ) 0 W) ∗ xPts c (X c) ∗ outPts c Finset.univ fullShare (outF X (py c)) ∗ scrs c
      ∗ (bigSep Finset.univ fun k : Ch => semVal (sndG k c) 0) ∗ bigSep Finset.univ fun k : Ch => semVal (rcvG k c) 0) := by
  have hO : (Owe c ∅ : sProp 𝕄) = iprop(∃ W, owes (c : Thread nD τ) 0 W) := by
    unfold Owe Ow
    rw [Finset.sum_empty]
  unfold St
  rw [last_owed, hO, held_split, res_split, all_held (last_pc c), none_held (last_own c), all_held (last_src c), all_held (last_land c), all_held (last_peer c),
    none_held (last_uns c), none_held (last_unr c), none_held (last_flt c), all_held (last_snt c), all_held (last_rcd c)]
  iintro ⟨-, Hx, HO, ⟨⟨⟨⟨⟨⟨⟨⟨⟨H1, -⟩, H2⟩, H3⟩, H4⟩, -⟩, -⟩, -⟩, H5⟩, H6⟩⟩
  isplitl [HO]; · iexact HO
  isplitl [Hx]; · iexact Hx
  isplitl [H1 H4]
  · iapply (out_close c)
    isplitl [H1]; · iexact H1
    iexact H4
  isplitl [H2 H3]
  · iapply (scrs_close (X := X) c)
    isplitl [H2]; · iexact H2
    iexact H3
  isplitl [H5]; · iexact H5
  iexact H6

/-- The kernel's body, from a device's buffers and the launch's share to its buffers with the result. -/
theorem body_whole (c : Dev nD) (g : Blk F) :
    iprop(Ctx X K ∗ OweB c (U c 1) 5 ∗ xPts c (X c) ∗ outPts c Finset.univ fullShare g ∗ scrs c
      ∗ (bigSep Finset.univ fun i : Fin 5 => dutyTok ER (barG ((nb i).symm c)) 0 i) ∗ cred (tallyAt (barG c) () 5) ∗ atPos ER (barG c) 0 ∅ 0
      ∗ bigSep Finset.univ fun k : Ch => tokR k c)
    ⊢ WP c (onBufs (cc0_body (F := F))) (fun _ => (iprop(semVal (barG c) 0 ∗ (∃ W, owes (c : Thread nD τ) 0 W) ∗ xPts c (X c)
      ∗ outPts c Finset.univ fullShare (outF X (py c)) ∗ scrs c
      ∗ (bigSep Finset.univ fun k : Ch => semVal (sndG k c) 0) ∗ bigSep Finset.univ fun k : Ch => semVal (rcvG k c) 0) : sProp 𝕄)) := by
  refine BIBase.Entails.trans (body_start c g) (BIBase.Entails.trans (body_run (first_ok c)) (wp_mono _ _ _ fun _ => ?_))
  iintro ⟨Hb, H⟩
  isplitl [Hb]; · iexact Hb
  iapply (body_end (K := K) c); iexact H

end Cert.AllReduce
-- ==== Proof.Ghost.lean ====
/-
  The ghost state the launch sets up: the records of the cells, and the tokens dealt to the devices that pay them.
-/
module

public import proofs.«01_k».proof.Proof.Ends

@[expose] public section

set_option maxRecDepth 20000

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Blk F)

/-! ## The cells, by kind -/

/-- A cell is the barrier, a channel's sender's cell or a channel's receiver's cell. -/
def cellEquiv : Unit ⊕ Ch ⊕ Ch ≃ Cell where
  toFun s := match s with
    | .inl _ => .bar
    | .inr (.inl k) => .snd k
    | .inr (.inr k) => .rcv k
  invFun i := match i with
    | .bar => .inl ()
    | .snd k => .inr (.inl k)
    | .rcv k => .inr (.inr k)
  left_inv s := by rcases s with _ | _ | _ <;> rfl
  right_inv i := by cases i <;> rfl

/-- A family over the cells is the barrier's member, the senders' and the receivers'. -/
theorem cell_split (Φ : Cell → sProp 𝕄) : bigSep Finset.univ Φ
    = iprop(Φ .bar ∗ (bigSep Finset.univ fun k : Ch => Φ (.snd k)) ∗ bigSep Finset.univ fun k : Ch => Φ (.rcv k)) := by
  rw [bigSep_univ_equiv cellEquiv, bigSep_univ_sum, bigSep_univ_sum]
  have h : (bigSep Finset.univ fun a : Unit => Φ (cellEquiv (Sum.inl a))) = Φ .bar :=
    bigSep_univ_eq_bigSepL [()] (by decide) (by decide) _
  rw [h]
  rfl

/-- Distinct cells are distinct semaphores of the machine. -/
theorem gcell_inj : Function.Injective (fun ci : Dev nD × Cell => gcell ci.1 ci.2) := by
  rintro ⟨c, i⟩ ⟨c', i'⟩ h
  have h1 : c = c' := congrArg (fun g : GSem nD τ sig => g.1.1) h
  have h2 : i = i' := csem_inj _ _ (congrArg Prod.snd h)
  rw [h1, h2]

/-- The cells of the machine. -/
def kcells : Finset (GSem nD τ sig) := Finset.univ.map ⟨fun ci : Dev nD × Cell => gcell ci.1 ci.2, gcell_inj⟩

/-- The token of a duty of a cell. -/
abbrev tokOf (t : (Dev nD × Cell) × Fin 5) : GSem nD τ sig × ℕ × Fin 5 := (gcell t.1.1 t.1.2, 0, t.2)

/-- Different duties have different tokens. -/
theorem tokOf_inj : Function.Injective tokOf := by
  rintro ⟨ci, d⟩ ⟨ci', d'⟩ h
  have h1 : ci = ci' := gcell_inj (congrArg Prod.fst h)
  have h2 : d = d' := congrArg (fun x : GSem nD τ sig × ℕ × Fin 5 => x.2.2) h
  rw [h1, h2]

/-- The tokens minted: five for each cell. -/
def ktoks : Finset (GSem nD τ sig × ℕ × Fin 5) := Finset.univ.map ⟨tokOf, tokOf_inj⟩

/-- The launch's ghost element: the staging cells' and the kernel's cells'. -/
def u₀ : UU := (initOf (Pipeline.cells cfgs cellOf_inj) (Pipeline.launchToks cfgs cellOf_inj), initOf kcells ktoks)

/-- The tokens of device `c`'s own cells that some device pays. -/
def toks (c : Dev nD) : sProp 𝕄 :=
  iprop((bigSep Finset.univ fun i : Fin 5 => dutyTok ER (barG c) 0 i) ∗ (bigSep Finset.univ fun k : Ch => dutyTok ER (sndG k c) 0 0)
    ∗ bigSep Finset.univ fun k : Ch => dutyTok ER (rcvG k c) 0 0)

/-- The tokens of all duties contain those that are paid. -/
theorem toks_of (c : Dev nD) :
    (bigSep Finset.univ fun i : Cell => bigSep Finset.univ fun d : Fin 5 => dutyTok ER (gcell c i) 0 d) ⊢ (toks c : sProp 𝕄) := by
  have h : ∀ i : Cell, (bigSep Finset.univ fun d : Fin 5 => dutyTok ER (gcell c i) 0 d) ⊢ (dutyTok ER (gcell c i) 0 0 : sProp 𝕄) :=
    fun i => bigSep_elim (Finset.mem_univ (0 : Fin 5))
  have hs : (bigSep Finset.univ fun k : Ch => bigSep Finset.univ fun d : Fin 5 => dutyTok ER (gcell c (.snd k)) 0 d)
      ⊢ (bigSep Finset.univ fun k : Ch => dutyTok ER (sndG k c) 0 0 : sProp 𝕄) := bigSep_mono fun k _ => h (.snd k)
  have hr : (bigSep Finset.univ fun k : Ch => bigSep Finset.univ fun d : Fin 5 => dutyTok ER (gcell c (.rcv k)) 0 d)
      ⊢ (bigSep Finset.univ fun k : Ch => dutyTok ER (rcvG k c) 0 0 : sProp 𝕄) := bigSep_mono fun k _ => h (.rcv k)
  rw [cell_split]
  unfold toks
  iintro ⟨Hb, Hs, Hr⟩
  isplitl [Hb]; · iexact Hb
  isplitl [Hs]; · iapply hs; iexact Hs
  · iapply hr; iexact Hr

/-- What the launch element deals device `c`. -/
def dealt (c : Dev nD) : sProp 𝕄 :=
  iprop((bigSep Finset.univ fun i : Cell => roundState ER (Rd X) (gcell c i) 0)
    ∗ (bigSep Finset.univ fun i : Cell => iprop(atPos ER (gcell c i) 0 ∅ 0 ∗ reached ER (gcell c i) 0)) ∗ toks c)

/-- The kernel's part of the launch element is what the devices are dealt. -/
theorem fund_cells : BI.own (ER (initOf kcells ktoks)) ⊢ (|==> bigSep Finset.univ (dealt X) : sProp 𝕄) := by
  have hX (Φ : GSem nD τ sig → sProp 𝕄) : bigSep kcells Φ = bigSep Finset.univ fun c : Dev nD => bigSep Finset.univ fun i : Cell => Φ (gcell c i) := by
    unfold kcells; rw [bigSep_map, bigSep_univ_prod]; rfl
  have hT : bigSep ktoks (fun x => (dutyTok ER x.1 x.2.1 x.2.2 : sProp 𝕄))
      = bigSep Finset.univ fun c : Dev nD => bigSep Finset.univ fun i : Cell => bigSep Finset.univ fun d : Fin 5 => dutyTok ER (gcell c i) 0 d := by
    unfold ktoks; rw [bigSep_map, bigSep_univ_prod, bigSep_univ_prod]; rfl
  have hm : (bigSep Finset.univ fun c : Dev nD => bigSep Finset.univ fun i : Cell => bigSep Finset.univ fun d : Fin 5 => dutyTok ER (gcell c i) 0 d)
      ⊢ (bigSep Finset.univ fun c : Dev nD => toks c : sProp 𝕄) := bigSep_mono fun c _ => toks_of c
  iintro HX
  imod (Rounds.fund ER (Rd X) kcells ktoks) $$ HX with ⟨Hst, Hr, Hat, Htok⟩
  imodintro
  ihave Hst' := (Entails.of_eq (hX fun g => roundState ER (Rd X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  ihave Htok'' := hm $$ Htok'
  unfold dealt; simp only [bigSep_sep']
  isplitl [Hst']; · iexact Hst'
  isplitl [Hat' Hr']
  · isplitl [Hat'] <;> iassumption
  iexact Htok''

/-! ## The semaphores -/

/-- The kernel's own semaphores: each channel's pair. -/
def osem (s : Ch ⊕ Ch) : SemLoc sig := match s with
  | .inl k => csem (.snd k)
  | .inr k => csem (.rcv k)

/-- They are the channels' cells' counters; -/
theorem own_sems (c : Dev nD) : (Pipeline.ownSems0 (Ix := Unit) (Name := ℕ) (U := UU) (Lvl := ℕ) (Val := Elt F) (τ := τ) osem c : sProp 𝕄)
    = iprop((bigSep Finset.univ fun k : Ch => semVal (sndG k c) 0) ∗ bigSep Finset.univ fun k : Ch => semVal (rcvG k c) 0) := by
  unfold Pipeline.ownSems0
  rw [bigSep_univ_sum]
  rfl

/-- the barrier is the one semaphore that outlives the kernel. -/
theorem unscoped_sems (c : Dev nD) : (unscopedSems0 c : sProp 𝕄) = semVal (barG c) 0 := by
  unfold unscopedSems0; rw [bigSep_eq_bigSepL_of_eq [SemLoc.reg barS] (by decide) (by decide)]; rfl

/-- Device `c` makes its cells' invariants of its semaphores. -/
theorem core_alloc (c : Dev nD) :
    iprop(Pipeline.ownSems0 (Ix := Unit) (Name := ℕ) (U := UU) (Lvl := ℕ) (Val := Elt F) (τ := τ) osem c ∗ unscopedSems0 c ∗ dealt X c)
      ⊢ |={Set.univ}=> iprop((bigSep Finset.univ fun i : Cell => iprop(∃ κ : ℕ, cellInv ER (Rd X) κ (gcell c i)))
          ∗ (bigSep Finset.univ fun i : Cell => iprop(atPos ER (gcell c i) 0 ∅ 0 ∗ reached ER (gcell c i) 0)) ∗ toks c) := by
  have ha : iprop((bigSep Finset.univ fun i : Cell => semVal (gcell c i) 0) ∗ bigSep Finset.univ fun i : Cell => roundState ER (Rd X) (gcell c i) 0)
      ⊢ (|={Set.univ}=> bigSep Finset.univ fun i : Cell => iprop(∃ κ : ℕ, cellInv ER (Rd X) κ (gcell c i)) : sProp 𝕄) := by
    rw [← bigSep_sep']
    exact (bigSep_mono fun i _ => (Rounds.body_intro ER (Rd X) (gcell c i)).trans inv_alloc).trans (bigSep_fupd _ _)
  rw [own_sems, unscoped_sems]
  unfold dealt
  iintro ⟨⟨Hs, Hr⟩, Hb, Hst, Hat, Htok⟩
  imod ha $$ [Hs Hr Hb Hst] with Hinv
  · isplitr [Hst]
    · iapply (Entails.of_eq (cell_split (fun i : Cell => (semVal (gcell c i) 0 : sProp 𝕄))).symm)
      isplitl [Hb]; · iexact Hb
      isplitl [Hs]; · iexact Hs
      iexact Hr
    · iexact Hst
  imodintro
  isplitl [Hinv]; · iexact Hinv
  isplitl [Hat]; · iexact Hat
  iexact Htok

/-! ## The tokens dealt to their payers -/

/-- A family over the devices and an index, shifted along each index's own permutation of the devices. -/
theorem around {I : Type} [Fintype I] [DecidableEq I] (e : I → Dev nD ≃ Dev nD) (Φ : I → Dev nD → sProp 𝕄) :
    (bigSep Finset.univ fun c : Dev nD => bigSep Finset.univ fun i : I => Φ i c)
      = bigSep Finset.univ fun c : Dev nD => bigSep Finset.univ fun i : I => Φ i (e i c) := by
  rw [bigSep_univ_comm, bigSep_univ_comm (fun (c : Dev nD) (i : I) => Φ i (e i c))]
  exact bigSep_congr fun i _ => bigSep_univ_equiv (e i) _

/-- The tokens of the duties device `c` pays. -/
def payToks (c : Dev nD) : sProp 𝕄 :=
  iprop((bigSep Finset.univ fun i : Fin 5 => dutyTok ER (barG ((nb i).symm c)) 0 i) ∗ (bigSep Finset.univ fun k : Ch => dutyTok ER (sndG k c) 0 0)
    ∗ bigSep Finset.univ fun k : Ch => dutyTok ER (rcvG k (dst k c)) 0 0)

/-- The tokens of all the devices' cells are those of all the duties the devices pay. -/
theorem toks_around : (bigSep Finset.univ fun c : Dev nD => (toks c : sProp 𝕄)) = bigSep Finset.univ fun c : Dev nD => payToks c := by
  unfold toks payToks
  rw [bigSep_sep', bigSep_sep', bigSep_sep', bigSep_sep',
    around (fun i => (nb i).symm) (fun (i : Fin 5) (c : Dev nD) => (dutyTok ER (barG c) 0 i : sProp 𝕄)),
    around (fun k => nb (grp k)) (fun (k : Ch) (c : Dev nD) => (dutyTok ER (rcvG k c) 0 0 : sProp 𝕄))]

/-- What device `c` alone holds: its cells' positions and the tokens it pays with. -/
def linear (c : Dev nD) : sProp 𝕄 := iprop((bigSep Finset.univ fun i : Cell => atPos ER (gcell c i) 0 ∅ 0) ∗ payToks c)

/-- What the launch's global step leaves device `c`: the records of every cell, and its own. -/
def ghost (c : Dev nD) : sProp 𝕄 := iprop(∃ K : Dev nD × Cell → ℕ, Recs X K ∗ linear c)

/-- The shared records and a device's own part make up what it holds at the launch. -/
theorem ghost_intro (K : Dev nD × Cell → ℕ) (c : Dev nD) : iprop(Recs X K ∗ linear c) ⊢ ghost X c := by
  unfold ghost
  iintro H
  iexists K
  iexact H

/-- The devices' invariants, positions and tokens, as each device's share. -/
theorem regroup :
    (bigSep Finset.univ fun c : Dev nD => iprop((bigSep Finset.univ fun i : Cell => iprop(∃ κ : ℕ, cellInv ER (Rd X) κ (gcell c i)))
          ∗ (bigSep Finset.univ fun i : Cell => iprop(atPos ER (gcell c i) 0 ∅ 0 ∗ reached ER (gcell c i) 0)) ∗ toks c) : sProp 𝕄)
      ⊢ bigSep Finset.univ (ghost X) := by
  have hm (K : Dev nD × Cell → ℕ) : iprop(Recs X K ∗ bigSep Finset.univ fun c : Dev nD => linear c) ⊢ (bigSep Finset.univ (ghost X) : sProp 𝕄) :=
    mono_under fun c _ => ghost_intro X K c
  rw [bigSep_sep', bigSep_sep', ← bigSep_univ_prod (fun ci : Dev nD × Cell => iprop(∃ κ : ℕ, cellInv ER (Rd X) κ (gcell ci.1 ci.2))),
    bigSep_congr (s := Finset.univ) (fun (c : Dev nD) _ => bigSep_sep' Finset.univ (fun i : Cell => (atPos ER (gcell c i) 0 ∅ 0 : sProp 𝕄)) (fun i => reached ER (gcell c i) 0)),
    bigSep_sep', ← bigSep_univ_prod (fun ci : Dev nD × Cell => (reached ER (gcell ci.1 ci.2) 0 : sProp 𝕄)), toks_around]
  iintro ⟨HI, ⟨Hat, #HR⟩, Htok⟩
  ihave HK := (BI.bigSep_exists_pi Finset.univ (fun (ci : Dev nD × Cell) (κ : ℕ) => (cellInv ER (Rd X) κ (gcell ci.1 ci.2) : sProp 𝕄))) $$ HI
  icases HK with ⟨%K, #HI⟩
  iapply (hm K)
  isplitr
  · unfold Recs
    rw [bigSep_sep']
    isplitl; · iexact HI
    iexact HR
  · unfold linear
    rw [bigSep_sep']
    isplitl [Hat]; · iexact Hat
    iexact Htok

/-- The launch's global step. -/
theorem glob : (bigSep Finset.univ fun c => iprop(Pipeline.ownSems0 (Ix := Unit) (Name := ℕ) (U := UU) (Lvl := ℕ) (Val := Elt F) (τ := τ) osem c
      ∗ unscopedSems0 c ∗ dealt X c) : sProp 𝕄)
    ⊢ |={Set.univ}=> bigSep Finset.univ (ghost X) :=
  ((bigSep_mono fun c _ => core_alloc X c).trans (bigSep_fupd _ _)).trans (BI.fupd_mono (regroup X))

end Cert.AllReduce

end
-- ==== Proof.Credits.lean ====
/-
  What the devices owe at the launch, cell by cell, and the credits the launch deals for it.
-/
module

public import proofs.«01_k».proof.Proof.Ghost

@[expose] public section

set_option maxRecDepth 20000

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What is owed -/

/-- What device `d` owes at the launch: a signal to each neighbour's barrier, and the units of its copies. -/
def O₀ (d : Dev nD) : CellTallies nD τ sig Unit := OB d (U d 1) 5

/-- Two cells are the same only if their devices and kinds are. -/
theorem gcell_iff {a b : Dev nD} {i i' : Cell} : gcell a i = gcell b i' ↔ a = b ∧ i = i' :=
  ⟨fun h => by
    have h' := gcell_inj (a₁ := (a, i)) (a₂ := (b, i')) h
    exact ⟨congrArg Prod.fst h', congrArg Prod.snd h'⟩, fun h => by rw [h.1, h.2]⟩

/-- A tally at a cell, read at a cell. -/
theorem tally_cell (a b : Dev nD) (i i' : Cell) (n : ℕ) :
    tallyAt (gcell a i) () n (gcell b i') () = if b = a ∧ i' = i then n else 0 := by
  rw [tallyAt_apply]
  simp only [gcell_iff, and_true]

/-- The copies' units owed at a cell. -/
theorem Ow_cell (d : Dev nD) (V : Finset Ch) (c : Dev nD) (i : Cell) :
    Ow d V (gcell c i) () = ∑ k ∈ V, if c = dst k d ∧ i = .rcv k then amt k else 0 := by
  unfold Ow
  rw [Finset.sum_apply, Finsupp.finset_sum_apply]
  exact Finset.sum_congr rfl fun k _ => tally_cell (dst k d) c (.rcv k) i (amt k)

/-- No copy's units are owed to a barrier; -/
theorem Ow_bar (d : Dev nD) (V : Finset Ch) (c : Dev nD) : Ow d V (barG c) () = 0 := by
  rw [show barG c = gcell c .bar from rfl, Ow_cell]
  exact Finset.sum_eq_zero fun k _ => if_neg fun h => by cases h.2

/-- a receiver's cell is owed the units of its channel. -/
theorem Ow_rcv (d : Dev nD) (V : Finset Ch) (c : Dev nD) (k : Ch) :
    Ow d V (rcvG k c) () = if d = src k c then (if k ∈ V then amt k else 0) else 0 := by
  have hd : c = dst k d ↔ d = src k c := ⟨fun h => by rw [h, src_dst], fun h => by rw [h, dst_src]⟩
  have hs : ∀ j ∈ V, (if c = dst j d ∧ Cell.rcv k = Cell.rcv j then amt j else 0) = if j = k then (if d = src k c then amt k else 0) else 0 := by
    intro j _
    by_cases hj : j = k
    · subst hj
      simp only [and_true, if_true, hd]
    · rw [if_neg hj, if_neg fun h => hj (by cases h.2; rfl)]
  rw [show rcvG k c = gcell c (.rcv k) from rfl, Ow_cell, Finset.sum_congr rfl hs, Finset.sum_ite_eq']
  by_cases h1 : d = src k c <;> by_cases h2 : k ∈ V <;> simp only [h1, h2, if_true, if_false]

/-- A signal owed to a neighbour's barrier. -/
abbrev sgn (i : Fin 5) (d : Dev nD) : CellTallies nD τ sig Unit := tallyAt (barG ((nb i).symm d)) () 1

/-- The five signals and the copies. -/
theorem O₀_eq (d : Dev nD) : O₀ d = Ow d (U d 1) + sgn 4 d + sgn 3 d + sgn 2 d + sgn 1 d + sgn 0 d := rfl

/-- A signal to a neighbour credits that neighbour's barrier with one unit and no other. -/
theorem sgn_bar (i : Fin 5) (d c : Dev nD) : sgn i d (barG c) () = if d = nb i c then 1 else 0 := by
  have hd : (c = (nb i).symm d ∧ Cell.bar = Cell.bar) ↔ d = nb i c := ⟨fun h => by rw [h.1, Equiv.apply_symm_apply], fun h => ⟨by rw [h, Equiv.symm_apply_apply], rfl⟩⟩
  rw [show barG c = gcell c .bar from rfl, show sgn i d = tallyAt (gcell ((nb i).symm d) .bar) () 1 from rfl, tally_cell]
  exact if_congr hd rfl rfl

/-- A signal credits no receive cell. -/
theorem sgn_rcv (i : Fin 5) (d c : Dev nD) (k : Ch) : sgn i d (rcvG k c) () = 0 := by
  rw [show rcvG k c = gcell c (.rcv k) from rfl, show sgn i d = tallyAt (gcell ((nb i).symm d) .bar) () 1 from rfl, tally_cell]
  exact if_neg fun h => by cases h.2

/-- A barrier is owed a signal by each of the five neighbours; -/
theorem owed_bar (c : Dev nD) : (∑ d : Dev nD, O₀ d (barG c) ()) = 5 := by
  have h (d : Dev nD) : O₀ d (barG c) () = (if d = nb 4 c then 1 else 0) + (if d = nb 3 c then 1 else 0) + (if d = nb 2 c then 1 else 0)
      + (if d = nb 1 c then 1 else 0) + (if d = nb 0 c then 1 else 0) := by
    rw [O₀_eq]
    simp only [Pi.add_apply, Finsupp.add_apply, Ow_bar, sgn_bar, Nat.zero_add]
  simp only [h, Finset.sum_add_distrib, Finset.sum_ite_eq', Finset.mem_univ, if_true]

/-- a receiver's cell is owed its channel's units if its sender sends. -/
theorem owed_rcv (c : Dev nD) (k : Ch) : (∑ d : Dev nD, O₀ d (rcvG k c) ()) = if rcv k c = true then amt k else 0 := by
  have h (d : Dev nD) : O₀ d (rcvG k c) () = if d = src k c then (if rcv k c = true then amt k else 0) else 0 := by
    rw [O₀_eq]
    simp only [Pi.add_apply, Finsupp.add_apply, Ow_rcv, sgn_rcv, Nat.add_zero]
    by_cases hd : d = src k c
    · rw [if_pos hd, if_pos hd, hd]
      have hm : k ∈ U (src k c) 1 ↔ rcv k c = true := by
        rw [first_owed]
        simp only [Finset.mem_filter, Finset.mem_univ, true_and]
        rfl
      simp only [hm]
    · rw [if_neg hd, if_neg hd]
  simp only [h, Finset.sum_ite_eq', Finset.mem_univ, if_true]

/-! ## The credits -/

/-- A cell's credit at the launch is what the devices owe it. -/
theorem launch_at (c : Dev nD) (i : Cell) (n : ℕ) (h : (∑ d : Dev nD, O₀ d (gcell c i) ()) = n) :
    tallyOn (gcell c i) (launchCredit (Pipeline.owing O₀) 0 (gcell c i)) = tallyAt (gcell c i) () n := by
  unfold tallyAt
  refine congrArg _ (Finsupp.ext fun u => ?_)
  cases u
  rw [Pipeline.launchCredit_owing, Finsupp.single_eq_same, h]

/-- The credits of the semaphores contain those of the cells. -/
theorem creds_cells (c : Dev nD) : (Pipeline.launchCred O₀ c : sProp 𝕄)
    ⊢ bigSep Finset.univ fun i : Cell => cred (tallyOn (gcell c i) (launchCredit (Pipeline.owing O₀) 0 (gcell c i))) := by
  have hi : (bigSep (Finset.univ.image csem) fun sm : SemLoc sig => (cred (tallyOn ((c : Thread nD τ), sm) (launchCredit (Pipeline.owing O₀) 0 ((c : Thread nD τ), sm))) : sProp 𝕄))
      = bigSep Finset.univ fun i : Cell => cred (tallyOn (gcell c i) (launchCredit (Pipeline.owing O₀) 0 (gcell c i))) :=
    Finset.fold_image fun i _ j _ => csem_inj i j
  unfold Pipeline.launchCred
  rw [← hi]
  exact bigSep_subset (Finset.subset_univ _)

/-- The credits a device starts with. -/
theorem creds (c : Dev nD) : (Pipeline.launchCred O₀ c : sProp 𝕄)
    ⊢ iprop(cred (tallyAt (barG c) () 5) ∗ bigSep Finset.univ fun k : Ch => opt (rcv k c) (cred (tallyAt (rcvG k c) () (amt k)))) := by
  have hk (k : Ch) : (cred (tallyOn (gcell c (.rcv k)) (launchCredit (Pipeline.owing O₀) 0 (gcell c (.rcv k)))) : sProp 𝕄)
      ⊢ opt (rcv k c) (cred (tallyAt (rcvG k c) () (amt k))) := by
    rw [launch_at c (.rcv k) _ (owed_rcv c k)]
    cases h : rcv k c
    · rw [opt_false]
      iintro -
      iempintro
    · rw [opt_true, if_pos rfl]
      exact BIBase.Entails.rfl
  have hr : (bigSep Finset.univ fun k : Ch => cred (tallyOn (gcell c (.rcv k)) (launchCredit (Pipeline.owing O₀) 0 (gcell c (.rcv k)))))
      ⊢ (bigSep Finset.univ fun k : Ch => opt (rcv k c) (cred (tallyAt (rcvG k c) () (amt k))) : sProp 𝕄) := bigSep_mono fun k _ => hk k
  have hb : (cred (tallyOn (gcell c .bar) (launchCredit (Pipeline.owing O₀) 0 (gcell c .bar))) : sProp 𝕄) ⊢ cred (tallyAt (barG c) () 5) := by
    rw [launch_at c .bar _ (owed_bar c)]
    exact BIBase.Entails.rfl
  have h := creds_cells (F := F) c
  rw [cell_split] at h
  iintro H
  ihave H' := h $$ H
  icases H' with ⟨Hb, -, Hr⟩
  isplitl [Hb]
  · iapply hb; iexact Hb
  · iapply hr; iexact Hr

/-! ## The waits of the pipeline's own semaphores -/

/-- Everything owed at the launch is owed to cells above level zero. -/
theorem O₀_pos {d : Dev nD} {g : GSem nD τ sig} {u : Unit} (h : 0 < O₀ d g u) : g.1.2 = .tc ∧ 0 < lv g u := by
  have hs (i : Fin 5) (hi : sgn i d g u ≠ 0) : g.1.2 = .tc ∧ 0 < lv g u := by
    have hg : g = gcell ((nb i).symm d) .bar := by
      by_contra hn
      rw [tallyAt_apply] at hi
      exact hi (if_neg fun h' => hn h'.1)
    rw [hg]
    exact ⟨rfl, by rw [lv_cell]; exact Nat.one_pos⟩
  by_cases h0 : Ow d (U d 1) g u = 0
  · by_cases h4 : sgn 4 d g u = 0
    · by_cases h3 : sgn 3 d g u = 0
      · by_cases h2 : sgn 2 d g u = 0
        · by_cases h1 : sgn 1 d g u = 0
          · refine hs 0 fun h00 => ?_
            rw [O₀_eq] at h
            simp only [Pi.add_apply, Finsupp.add_apply, h0, h4, h3, h2, h1, h00] at h
            exact absurd h (lt_irrefl 0)
          · exact hs 1 h1
        · exact hs 2 h2
      · exact hs 3 h3
    · exact hs 4 h4
  · obtain ⟨k, hk, rfl⟩ := Ow_pos (Nat.pos_of_ne_zero h0)
    refine ⟨rfl, ?_⟩
    show 0 < lv (gcell (dst k d) (.rcv k)) u
    rw [lv_cell]
    have h4 : ∀ c : Dev nD, py c < 4 := by decide +kernel
    have := h4 (dst k d)
    cases k <;> simp only [clev, rlev] <;> omega

/-- A device may wait for the pipeline's own copies whatever it owes of the launch's dues. -/
theorem wait_stage (c : Dev nD) (sm : SemLoc sig) (hn : ∀ i, csem i ≠ sm) (O : CellTallies nD τ sig Unit) (hO : O = O₀ c ∨ O = 0) :
    (levAts L lv : sProp 𝕄) ⊢ MayWait (c : Thread nD τ) sm () O := by
  refine mayWait_of c sm 0 (le_of_eq ?_) O fun g u hg => ?_
  · unfold lv
    rw [decode_none_of hn]
  · rcases hO with rfl | rfl
    · exact O₀_pos hg
    · exact absurd hg (lt_irrefl 0)

end Cert.AllReduce

end
-- ==== Proof.Launch.lean ====
/-
  The launch: what each device starts and ends with, and the run of the whole program.
-/
module

public import proofs.«01_k».proof.Proof.Credits
public import proofs.«01_k».proof.Proof.Gen.KernelIdeal.Launch
public import proofs.«01_k».proof.Proof.Gen.KernelIdeal.Points
public import Idealize.ShloMosaic.Lib.Pipeline.CollectiveSegs

@[expose] public section

set_option maxRecDepth 20000

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The scratch buffers -/

/-- The scratch buffers are the kernel's four whole allocations. -/
theorem scrs_rest (c : Dev nD) : (scrs c : sProp 𝕄)
    = iprop(((∃ f : Buf (Elt F) ((c : Thread nD τ).loc cc0_scratch0), ((c : Thread nD τ).loc cc0_scratch0) ↦{fullShare} f)
        ∗ ∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)
        ∗ ∃ f : Buf (Elt F) ((c : Thread nD τ).loc cc0_scratch3), ((c : Thread nD τ).loc cc0_scratch3) ↦{fullShare} f) := by
  unfold scrs
  rw [bigSep_univ_eq_bigSepL [true, false] (by decide) (by decide)]
  have h (b : Ref sig .tc) (h : True) : (Memref.whole b).view.set = Finset.univ := by rw [Memref.view_whole, View.set_whole]
  show iprop((scr c (inM true) ∗ scr c (upM true)) ∗ (scr c (inM false) ∗ scr c (upM false))) = _
  unfold scr inM upM
  dsimp only
  rw [h cc0_scratch0 trivial, h cc0_scratch1 trivial, h cc0_scratch2 trivial, h cc0_scratch3 trivial]

variable (m : (ℓ : Loc nD τ sig) → Buf (Elt F) ℓ) (ρ : Dev nD → PrngReg)

/-- The state the program starts in. -/
abbrev s₀ : MemSt nD τ sig (Elt F) := ⟨m, fun _ => 0, ρ⟩

/-- Device `c`'s block of the argument, as the pipeline fetches it. -/
def xin (c : Dev nD) : Blk F := (win0_0.blk (0 : Fin 1)).view.read (Elt F) ((s₀ m ρ).mem ((c : Thread nD τ).loc main_arg0))

/-- What device `c`'s kernel leaves in the result's staging buffer. -/
def outAt (c : Dev nD) : Blk F := outF (xin m ρ) (py c)

/-! ## What a device holds at the kernel's start and end -/

/-- What the launch leaves device `c` besides its buffers. -/
def start (c : Dev nD) : sProp 𝕄 :=
  iprop(ghost (xin m ρ) c ∗ cred (tallyAt (barG c) () 5) ∗ (bigSep Finset.univ fun k : Ch => opt (rcv k c) (cred (tallyAt (rcvG k c) () (amt k)))) ∗ levAts L lv)

/-- At the kernel's start; -/
def Φ₀ (c : Dev nD) : sProp 𝕄 := iprop(start m ρ c ∗ scrs c)

/-- at its end: the semaphores at zero and the scratch buffers. -/
def Φ₁ (c : Dev nD) : sProp 𝕄 :=
  iprop(semVal (barG c) 0 ∗ scrs c ∗ (bigSep Finset.univ fun k : Ch => semVal (sndG k c) 0) ∗ bigSep Finset.univ fun k : Ch => semVal (rcvG k c) 0)

/-- The pipeline's data: the argument's window keeps the block, the result's ends at the computed one. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- A whole buffer owned at known contents. -/
theorem owns_whole_eq (c : Dev nD) (b : Ref sig .tc) (v : b.ty.Contents (Elt F)) :
    (owns (Ix := Unit) (Name := ℕ) (U := UU) (Lvl := ℕ) (c : Thread nD τ) (Memref.whole b) fullShare v : sProp 𝕄)
      = iprop(∃ f : Buf (Elt F) (((c : Dev nD) : Thread nD τ).loc b), ⌜f = v⌝ ∗ (((c : Thread nD τ).loc b) ↦{fullShare} f)) := by
  unfold owns; simp only [Memref.view_whole, View.read_whole, View.set_whole]

/-- The same, as a resource of its own. -/
abbrev stg (c : Dev nD) (b : Ref sig .tc) (v : b.ty.Contents (Elt F)) : sProp 𝕄 :=
  iprop(∃ f : Buf (Elt F) (((c : Dev nD) : Thread nD τ).loc b), ⌜f = v⌝ ∗ (((c : Thread nD τ).loc b) ↦{fullShare} f))

/-- The kernel from what the launch leaves. -/
theorem start_run (c : Dev nD) (g : Blk F) (W : Waits sig Unit) :
    iprop(Φ₀ m ρ c ∗ owes (c : Thread nD τ) (O₀ c) W ∗ xPts c (xin m ρ c) ∗ outPts c Finset.univ fullShare g)
      ⊢ WP c (onBufs (cc0_body (F := F))) (fun _ => (iprop(Φ₁ c ∗ (∃ W, owes (c : Thread nD τ) 0 W) ∗ xPts c (xin m ρ c)
          ∗ outPts c Finset.univ fullShare (outAt m ρ c)) : sProp 𝕄)) := by
  have hp : (bigSep Finset.univ fun k : Ch => tokR k c : sProp 𝕄)
      = iprop((bigSep Finset.univ fun k : Ch => dutyTok ER (sndG k c) 0 0) ∗ (bigSep Finset.univ fun k : Ch => dutyTok ER (rcvG k (dst k c)) 0 0)
        ∗ (bigSep Finset.univ fun k : Ch => atPos ER (sndG k c) 0 ∅ 0) ∗ (bigSep Finset.univ fun k : Ch => atPos ER (rcvG k c) 0 ∅ 0)
        ∗ bigSep Finset.univ fun k : Ch => opt (rcv k c) (cred (tallyAt (rcvG k c) () (amt k)))) := by
    unfold tokR
    rw [bigSep_sep', bigSep_sep', bigSep_sep', bigSep_sep']
  unfold Φ₀ start ghost linear payToks
  rw [cell_split]
  iintro ⟨⟨⟨⟨%K, #HR, ⟨HaB, HaS, HaR⟩, HtB, HtS, HtR⟩, HcB, HcR, #Hlev⟩, Hscr⟩, HO, Hx, Hg⟩
  have hb := body_whole (X := xin m ρ) (K := K) c g
  rw [hp] at hb
  iapply (wp_mono _ _ _ fun _ => ?_)
  rotate_left
  · iapply hb
    isplitr
    · unfold Ctx
      isplitl; · iexact HR
      iexact Hlev
    isplitl [HO]; · unfold OweB; iexists W; iexact HO
    isplitl [Hx]; · iexact Hx
    isplitl [Hg]; · iexact Hg
    isplitl [Hscr]; · iexact Hscr
    isplitl [HtB]; · iexact HtB
    isplitl [HcB]; · iexact HcB
    isplitl [HaB]; · iexact HaB
    isplitl [HtS]; · iexact HtS
    isplitl [HtR]; · iexact HtR
    isplitl [HaS]; · iexact HaS
    isplitl [HaR]; · iexact HaR
    iexact HcR
  · unfold Φ₁
    iintro ⟨Hb, HO, Hx, Hg, Hscr, Hs, Hr⟩
    isplitl [Hb Hscr Hs Hr]
    · isplitl [Hb]; · iexact Hb
      isplitl [Hscr]; · iexact Hscr
      isplitl [Hs]; · iexact Hs
      iexact Hr
    isplitl [HO]; · iexact HO
    isplitl [Hx]; · iexact Hx
    iexact Hg

/-! ## The pipeline's obligation -/

/-- What the pipeline hands the kernel, and what it takes back. -/
def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
/-- What a device holds after the kernel's body, the staging buffers among it. -/
def bodyPost (c : Dev nD) : sProp 𝕄 :=
  iprop(Φ₁ c ∗ (dats m ρ 0 c).owesAt () t0_0.succ ∗ stg c cc0_stg0_0 (xin m ρ c) ∗ stg c cc0_stg1_0 (outAt m ρ c))

/-- The kernel between them. -/
theorem body_between (c : Dev nD) : bodyPre m ρ c ⊢ WP c (onBufs (cc0_body (F := F))) (fun _ => bodyPost m ρ c) := by
  unfold bodyPre
  iintro ⟨HΦ, Ho, ⟨%d0, %g0, %hg0, Hx⟩, ⟨%d1, %g1, %hg1, Hg⟩⟩
  have hx : g0 = xin m ρ c := by
    rw [hg0]; unfold Dat.before; rw [if_pos (fetch0_0 t0_0)]; rfl
  subst hx
  unfold Dat.owesAt Pipeline.owesWithin
  icases Ho with ⟨%W, %hW, HO⟩
  iapply (wp_mono _ _ _ fun _ => ?_)
  rotate_left
  · iapply (start_run m ρ c g1 W)
    isplitl [HΦ]; · iexact HΦ
    isplitl [HO]; · iexact HO
    isplitl [Hx]; · unfold xPts; iexact Hx
    unfold outPts; iexact Hg
  · unfold bodyPost Dat.owesAt Pipeline.owesWithin xPts outPts
    iintro ⟨HΦ, ⟨%W', HO⟩, Hx, Hg⟩
    isplitl [HΦ]; · iexact HΦ
    isplitl [HO]
    · iexists W'
      isplitr; · ipureintro; exact fun _ _ => Or.inl trivial
      iexact HO
    isplitl [Hx]
    · iexists _; isplitr; · (ipureintro; rfl)
      iexact Hx
    iexists _; isplitr; · (ipureintro; rfl)
    iexact Hg

/-- The library's obligation of the kernel on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ WP c (onBufs (cc0_body (F := F))) (fun _ => bodyPost m ρ c)
  exact body_between m ρ c

/-! ## The launch's side conditions -/

/-- The kernel's own semaphores are scoped, distinct and none of the pipeline's. -/
theorem own_facts : Pipeline.OwnSemFacts cfg0.spec osem where
  isScoped := by decide +kernel
  inj := by
    rintro (k | k) (k' | k') h
    · have := csem_inj (.snd k) (.snd k') h; cases this; rfl
    · have := csem_inj (.snd k) (.rcv k') h; cases this
    · have := csem_inj (.rcv k) (.snd k') h; cases this
    · have := csem_inj (.rcv k) (.rcv k') h; cases this; rfl
  disj := by decide +kernel

/-- The staging buffers are held wholly. -/
theorem share_eq (c : Dev nD) (w : Fin cfg0.W) : (dats m ρ 0 c).share w = fullShare := by unfold Dat.share; split <;> rfl

/-- What the launch hands a device contains what the kernel starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost (xin m ρ) c)
      ⊢ |={Set.univ}=> iprop(start m ρ c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

/-- That and the scratch buffers are what the body starts from. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  rw [scrs_rest]
  iintro ⟨Hs, -, H0, H1, H2, H3⟩
  isplitl [Hs]; · iexact Hs
  isplitl [H0 H1]
  · isplitl [H0]; · iexact H0
    iexact H1
  · isplitl [H2]; · iexact H2
    iexact H3

/-- What the body ends with contains the semaphores at zero and the scratch buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, own_sems, unscoped_sems]
  unfold Φ₁
  rw [scrs_rest]
  iintro ⟨Hb, ⟨⟨H0, H1⟩, H2, H3⟩, Hs, Hr⟩
  isplitl [Hb]; · iexact Hb
  isplitl [Hs Hr]
  · isplitl [Hs]; · iexact Hs
    iexact Hr
  isplitl [H0]; · iexact H0
  isplitl [H1]; · iexact H1
  isplitl [H2]; · iexact H2
  iexact H3

/-- The pipeline's own waits are allowed. -/
theorem waits (c : Dev nD) : (levAts L lv : sProp 𝕄) ⊢ Pipeline.cellsWaits cfgs (dats m ρ) () 0 c :=
  Pipeline.cellsWaits_intro cfgs (dats m ρ) () 0 c fun w s t =>
    wait_stage c _ (by fin_cases w <;> fin_cases s <;> decide +kernel) _ (by
      rcases t with ⟨_ | _, ht⟩
      · exact Or.inl rfl
      · exact Or.inr rfl)

/-! ## The run -/

/-- A window's array after the run. -/
def finalA (c : Dev nD) (w : Fin cfg0.W) : Buf (Elt F) ((cfg0.win w).arr.view.loc (c : Thread nD τ)) := (dats m ρ 0 c).arrAt w cfg0.N

/-- Every device's arrays are as computed. -/
def QC : PUnit × MemSt nD τ sig (Elt F) → Prop := fun r =>
  ∀ c : Dev nD, ∀ w : Fin cfg0.W, r.2.mem ((cfg0.win w).arr.view.loc (c : Thread nD τ)) = finalA m ρ c w

/-- From any memory with zero counters, for any float operations: every weakly fair execution of the program on the 32
    devices terminates, with every device's arrays as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ own_facts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt (xin m ρ)) (G' := ghost (xin m ρ)) (u₀ := u₀)
    (hu₀ := by
      unfold u₀
      iintro Hu
      ihave H := (ownU_pair _ _) $$ Hu
      icases H with ⟨HP, HX⟩
      imod (fund_cells (xin m ρ)) $$ HX with HG
      imodintro
      isplitl [HP] <;> iassumption)
    (hglob := glob (xin m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array after the run holds what it held. -/
theorem final_x (c : Dev nD) : finalA m ρ c (0 : Fin 2) = (s₀ m ρ).mem (win0_0.arr.view.loc (c : Thread nD τ)) :=
  (dats (F := F) m ρ 0 c).arrAt_in (0 : Fin 2) rfl _

/-- The result's one block is the computed one. -/
theorem final_out (c : Dev nD) : (win0_1.blk (0 : Fin 1)).view.read (Elt F) (finalA m ρ c (1 : Fin 2)) = outAt m ρ c := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

/-- The block fetched is the whole of the device's argument. -/
theorem xin_eq (c : Dev nD) : xin m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- The result's array after the run is the computed one. -/
theorem final_o (c : Dev nD) : finalA m ρ c (1 : Fin 2) = (outAt m ρ c : Blk F) := by
  have hz : (fun a => (win0_1.index (0 : Fin 1)) a * main_v1.ty.shape.size a) = fun _ => 0 :=
    funext fun a => by fin_cases a <;> decide
  exact (Memref.read_access_unit_zero (Elt F) main_v1 hz (fun a => by fin_cases a <;> decide) _).symm.trans (final_out m ρ c)

end Cert.AllReduce

end
-- ==== Proof.Total.lean ====
/-
  The mathematics of the result: in exact arithmetic, however the four blocks' sum is associated, it is the reference's sum.
-/
module

public import proofs.«01_k».proof.Proof.Launch
public import proofs.«01_k».proof.Proof.Gen.ReferenceIdeal.Run
public import Idealize.ShloMosaic.Lib.Pointwise.Reduce
public import Idealize.ShloMosaic.Lib.Pipeline.Value
public import Idealize.ShloMosaic.Lib.Layout

@[expose] public section

set_option maxRecDepth 20000

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The whole argument's shape. -/
abbrev SW : Shape := ⟨2, ![8192, 512]⟩

/-- The place in the whole argument of an element of the block of y coordinate `k`. -/
def row (k : Fin 4) (i : S2048x512.Idx) : SW.Idx := fun a => match a with
  | ⟨0, _⟩ => ⟨k.val * 2048 + (i 0).val, by have h : (i 0).val < 2048 := (i 0).isLt; show _ < 8192; omega⟩
  | ⟨1, _⟩ => ⟨(i 1).val, (i 1).isLt⟩

/-- The sum of the four blocks. -/
def total (V : SW.Idx → EReal) (i : S2048x512.Idx) : EReal := ∑ k : Fin 4, V (row k i)

/-! ## The devices' sums -/

/-- The mesh coordinate that cuts the argument is y. -/
theorem block_coord : ∀ c : Dev nD, Layout.meshLin [2, 4, 4] c.val [1] = py c := by decide +kernel
/-- Along the columns the argument is not cut. -/
theorem block_coord' : ∀ c : Dev nD, Layout.meshLin [2, 4, 4] c.val [] = 0 := by decide +kernel

/-- Device `c`'s block of the argument, element by element. -/
theorem block_at (V : SW.Idx → EReal) (c : Dev nD) (i : S2048x512.Idx) :
    Layout.blockN ⟨2, ![2048, 512]⟩ SW (Layout.meshBlock [2, 4, 4] ![[1], []] c) V (by decide) i = V (row ⟨py c, py_lt c⟩ i) := by
  rw [Layout.blockN_apply]
  refine congrArg V (funext fun a => Fin.ext ?_)
  match a with
  | ⟨0, _⟩ =>
    show Layout.meshLin [2, 4, 4] c.val [1] * 2048 + (i 0).val = py c * 2048 + (i 0).val
    rw [block_coord]
  | ⟨1, _⟩ =>
    show Layout.meshLin [2, 4, 4] c.val [] * 512 + (i 1).val = (i 1).val
    rw [block_coord', Nat.zero_mul, Nat.zero_add]

/-- Where each device holds its block, the sums the devices of any y coordinate compute are the sum of the four blocks. -/
theorem out_total (V : SW.Idx → EReal) (X : Dev nD → Blk Ideal) (hX : ∀ c i, X c i = V (row ⟨py c, py_lt c⟩ i)) (c : Dev nD) :
    outF X (py c) = total V := by
  funext i
  have hx (k : Fin 4) : xat X k.val i = V (row k i) := by
    show X (worker k.val i) i = _
    rw [hX]
    have hk : (⟨py (worker k.val i), py_lt _⟩ : Fin 4) = k := Fin.ext (by
      show py (worker k.val i) = k.val
      unfold worker
      rw [py_dev]
      exact Nat.mod_eq_of_lt k.isLt)
    rw [hk]
  have h0 : xat X 0 i = V (row 0 i) := hx 0
  have h1 : xat X 1 i = V (row 1 i) := hx 1
  have h2 : xat X 2 i = V (row 2 i) := hx 2
  have h3 : xat X 3 i = V (row 3 i) := hx 3
  have ht : total V i = xat X 0 i + xat X 1 i + xat X 2 i + xat X 3 i := by
    unfold total
    rw [Fin.sum_univ_four, h0, h1, h2, h3]
  rw [ht]
  have key (a b c d : EReal) : a + ((d + c) + b) = a + b + c + d ∧ d + ((a + b) + c) = a + b + c + d
      ∧ (b + a) + (d + c) = a + b + c + d ∧ (c + (a + b)) + d = a + b + c + d := by
    refine ⟨?_, ?_, ?_, ?_⟩ <;> abel
  obtain ⟨k0, k3, k1, k2⟩ := key (xat X 0 i) (xat X 1 i) (xat X 2 i) (xat X 3 i)
  have hc : ∀ y, y < 4 → outF X y i = xat X 0 i + xat X 1 i + xat X 2 i + xat X 3 i := by
    intro y hy
    match y, hy with
    | 0, _ => exact k0
    | 1, _ => exact k1
    | 2, _ => exact k2
    | 3, _ => exact k3
  exact hc _ (py_lt c)

/-! ## The reference's sum -/

/-- The reference's value is the sum of the four blocks. -/
theorem ref_total (V : FVec Ideal Cert.ReferenceIdeal.S8192x512 .f32)
    (h1 : Cert.ReferenceIdeal.S8192x512.ShapeCasts Cert.ReferenceIdeal.S4x2048x512)
    (h2 : Cert.ReferenceIdeal.S4x2048x512.ReducesTo [0] Cert.ReferenceIdeal.S2048x512) (h3 : 0 < Cert.ReferenceIdeal.S_.numel) :
    Host.reduceAdd (shapeCast _ V h1) (constant Cert.ReferenceIdeal.S_ .f32 0x00000000#32) h2 h3 = total V := by
  funext i
  rw [Host.reduceAdd_apply, Ideal.hostReduceAdd_def, Ideal.hostReduceAdd_r3_a0]
  have hz : (constant Cert.ReferenceIdeal.S_ .f32 0x00000000#32 : FVec Ideal Cert.ReferenceIdeal.S_ .f32) (Shape.Idx.first h3) = (0 : EReal) := by
    show Ideal.ofBits .f32 0x00000000#32 = 0
    simp [Ideal.ofBits, Ideal.ieee]
  rw [hz, zero_add]
  unfold total
  refine Finset.sum_congr rfl fun k _ => shapeCast_apply V h1 _ (row k i) ?_
  rw [Shape.rowMajor_val_two, Shape.rowMajor_val_three]
  rfl

end Cert.AllReduce

end
-- ==== Proof.lean ====
/-
  The claims of this certificate, assembled: the program on its 32 devices runs, ends with its argument unchanged and every
  semaphore at zero, at the machine's values and at the exact ones; the reference does; and in exact arithmetic every
  device's result is the reference's.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Total
public import Idealize.ShloMosaic.Adequacy
public import Idealize.ShloMosaic.Init

@[expose] public section

set_option maxRecDepth 20000

noncomputable section

namespace Cert.Proof

open Idealize.ShloMosaic Idealize.ShloMosaic.TcCoe Idealize.SL.Sem Cert.AllReduce

/-- The program runs, at any float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c (0 : Fin 2)).trans (final_x m ρ c), h.2⟩) (run_main m ρ)

/-- The kernel and its idealization have the same body under each label. -/
theorem bodies_eq {F : FTy → Type} [FloatOps F] : @Cert.Kernel.defs₀ F _ _ = @Cert.KernelIdeal.defs₀ F _ _ := by
  unfold Cert.Kernel.defs₀ Cert.KernelIdeal.defs₀
  refine congrArg Defs.onTc ?_
  funext l a
  match l, a with
  | 0, (t, s) => rfl

/-- So the two programs' tables of definitions are equal. -/
theorem programs_eq {F : FTy → Type} [FloatOps F] : @Cert.Kernel.defs F _ _ = @Cert.KernelIdeal.defs F _ _ :=
  congrArg (Pipeline.defs (Cert.KernelIdeal.pcfgs (F := F))) bodies_eq

/-- So the frame holds of the kernel on the machine's numbers. -/
theorem frame_kernel : Cert.quiescent_Kernel := by
  intro m ρ _
  rw [programs_eq]
  exact frame_any (F := Bits) m ρ

/-- And at the exact ones. -/
theorem frame_ideal : Cert.quiescent_KernelIdeal := fun m ρ _ => frame_any (F := Ideal) m ρ

/-- The reference runs. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- In exact arithmetic every device ends with the reference's result. -/
theorem algebraic : Cert.algebraic_KernelIdeal_ReferenceIdeal := fun m ρ m' ρ' _ hagree =>
  ⟨total (m' (((0 : Dev Cert.ReferenceIdeal.nD).tc : Thread _ Cert.ReferenceIdeal.τ).loc Cert.ReferenceIdeal.main_arg0)),
    (θ_run Cert.KernelIdeal.defs _ _).mono
      (fun _ h c => ⟨((h.1 c (1 : Fin 2)).trans (final_o m ρ c)).trans
          (out_total (m' (((0 : Dev Cert.ReferenceIdeal.nD).tc : Thread _ Cert.ReferenceIdeal.τ).loc Cert.ReferenceIdeal.main_arg0)) (xin m ρ)
            (fun d i => by rw [xin_eq, hagree d]; exact block_at _ d i) c),
        (h.1 c (0 : Fin 2)).trans (final_x m ρ c)⟩)
      (run_main (F := Ideal) m ρ),
    (θ_run Cert.ReferenceIdeal.defs _ _).mono (fun _ h => ⟨(h 0).1.trans (ref_total _ _ _ _), (h 0).2⟩) (Cert.ReferenceIdeal.Value.run (F := Ideal) m' ρ')⟩

/-- All the claims. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
